-- ==== Defs.lean ====
def Pre_Kernel [hPre_tables_fit : Cert.Pre_tables_fit.Facts] (m : (ℓ : Loc Cert.Kernel.nD Cert.Kernel.τ Cert.Kernel.sig) → Buf (Elt Bits) ℓ) : Prop :=
  ∀ c : Dev Cert.Kernel.nD,
    (Cert.Pre_tables_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_tables_fit : Cert.Pre_tables_fit.Facts] (m : (ℓ : Loc Cert.KernelIdeal.nD Cert.KernelIdeal.τ Cert.KernelIdeal.sig) → Buf (Elt Ideal) ℓ) : Prop :=
  ∀ c : Dev Cert.KernelIdeal.nD,
    (Cert.Pre_tables_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_KernelIdeal_routing [hPre_routing : Cert.Pre_routing.Facts] (m : (ℓ : Loc Cert.KernelIdeal.nD Cert.KernelIdeal.τ Cert.KernelIdeal.sig) → Buf (Elt Ideal) ℓ) : Prop :=
  ∀ c : Dev Cert.KernelIdeal.nD,
    (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_routing.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing [hPre_routing : Cert.Pre_routing.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_routing.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def quiescent_Kernel [hKernel : Cert.Kernel.Facts] [hPre_tables_fit : Cert.Pre_tables_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] [hPre_tables_fit : Cert.Pre_tables_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_routing [hKernelIdeal : Cert.KernelIdeal.Facts] [hPre_routing : Cert.Pre_routing.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_routing [hReferenceIdeal : Cert.ReferenceIdeal.Facts] [hPre_routing : Cert.Pre_routing.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_routing [hKernelIdeal : Cert.KernelIdeal.Facts] [hReferenceIdeal : Cert.ReferenceIdeal.Facts] [hPre_routing : Cert.Pre_routing.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_4)) (v3 : (c : Dev Cert.Kernel2Ideal.nD) → Buf (Elt Ideal) ((c.tc : Thread Cert.Kernel2Ideal.nD Cert.Kernel2Ideal.τ).loc Cert.Kernel2Ideal.main_v4_5)) (v4 : (c : Dev Cert.Kernel2Ideal.nD) → Buf (Elt Ideal) ((c.tc : Thread Cert.Kernel2Ideal.nD Cert.Kernel2Ideal.τ).loc Cert.Kernel2Ideal.main_v4_7)) (v5 : (c : Dev Cert.Kernel2Ideal.nD) → Buf (Elt Ideal) ((c.tc : Thread Cert.Kernel2Ideal.nD Cert.Kernel2Ideal.τ).loc Cert.Kernel2Ideal.main_v4_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_4) = v2 c
          ∧ r.2.mem ((c.tc : Thread Cert.Kernel2Ideal.nD Cert.Kernel2Ideal.τ).loc Cert.Kernel2Ideal.main_v4_5) = v3 c
          ∧ r.2.mem ((c.tc : Thread Cert.Kernel2Ideal.nD Cert.Kernel2Ideal.τ).loc Cert.Kernel2Ideal.main_v4_7) = v4 c
          ∧ r.2.mem ((c.tc : Thread Cert.Kernel2Ideal.nD Cert.Kernel2Ideal.τ).loc Cert.Kernel2Ideal.main_v4_8) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v79_0)) (v1 : (c : Dev Cert.Kernel3Ideal.nD) → Buf (Elt Ideal) ((c.tc : Thread Cert.Kernel3Ideal.nD Cert.Kernel3Ideal.τ).loc Cert.Kernel3Ideal.main_v79_1)) (v2 : (c : Dev Cert.Kernel3Ideal.nD) → Buf (Elt Ideal) ((c.tc : Thread Cert.Kernel3Ideal.nD Cert.Kernel3Ideal.τ).loc Cert.Kernel3Ideal.main_v79_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v79_0) = v0 c
          ∧ r.2.mem ((c.tc : Thread Cert.Kernel3Ideal.nD Cert.Kernel3Ideal.τ).loc Cert.Kernel3Ideal.main_v79_1) = v1 c
          ∧ r.2.mem ((c.tc : Thread Cert.Kernel3Ideal.nD Cert.Kernel3Ideal.τ).loc Cert.Kernel3Ideal.main_v79_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_v83) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tables_fit : Cert.Pre_tables_fit.Facts) (hPre_routing : Cert.Pre_routing.Facts) (hPre_finite : Cert.Pre_finite.Facts) (hPre_finite3 : Cert.Pre_finite3.Facts) (hPre_finite4 : Cert.Pre_finite4.Facts),
    quiescent_Kernel (hKernel := hKernel) (hPre_tables_fit := hPre_tables_fit)
    ∧ quiescent_KernelIdeal (hKernelIdeal := hKernelIdeal) (hPre_tables_fit := hPre_tables_fit)
    ∧ quiescent_KernelIdeal_pre_routing (hKernelIdeal := hKernelIdeal) (hPre_routing := hPre_routing)
    ∧ quiescent_ReferenceIdeal (hReferenceIdeal := hReferenceIdeal)
    ∧ quiescent_ReferenceIdeal_pre_routing (hReferenceIdeal := hReferenceIdeal) (hPre_routing := hPre_routing)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_routing (hKernelIdeal := hKernelIdeal) (hReferenceIdeal := hReferenceIdeal) (hPre_routing := hPre_routing)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S2048x768 : Shape := ⟨2, ![2048, 768]⟩
abbrev S12x2048x64 : Shape := ⟨3, ![12, 2048, 64]⟩
abbrev S768x768 : Shape := ⟨2, ![768, 768]⟩
abbrev S768 : Shape := ⟨1, ![768]⟩
abbrev S768x64 : Shape := ⟨2, ![768, 64]⟩
abbrev S64 : Shape := ⟨1, ![64]⟩
abbrev S_ : Shape := ⟨0, ![]⟩

class Facts : Prop where
  bcast_S_S2048x768 : S_.BroadcastsInDim S2048x768 (![] : Fin 0 → Fin S2048x768.rank)
  bitsLt_bf16_f32 : FTy.bits .bf16 < FTy.bits .f32
  bcast_S_S12x2048x64 : S_.BroadcastsInDim S12x2048x64 (![] : Fin 0 → Fin S12x2048x64.rank)
  bcast_S_S768x768 : S_.BroadcastsInDim S768x768 (![] : Fin 0 → Fin S768x768.rank)
  bcast_S_S768 : S_.BroadcastsInDim S768 (![] : Fin 0 → Fin S768.rank)
  bcast_S_S768x64 : S_.BroadcastsInDim S768x64 (![] : Fin 0 → Fin S768x64.rank)
  bcast_S_S64 : S_.BroadcastsInDim S64 (![] : Fin 0 → Fin S64.rank)

variable [Facts]

def fn_part1 {F : FTy → Type} [FloatOps F] (main_arg6 : FVec F S64 .f32) (main_v2 : IVec S2048x768 1) (main_v6 : IVec S12x2048x64 1) (main_v9 : IVec S768x768 1) (main_v12 : IVec S768 1) (main_v15 : IVec S768 1) (main_v16 : FVec F S768x64 .f32) (main_v17 : FVec F S768x64 .f32) : IVec S2048x768 1 × IVec S12x2048x64 1 × IVec S768x768 1 × IVec S768 1 × IVec S768 1 × IVec S768x64 1 × IVec S64 1 :=
  let main_v18 : IVec S768x64 1 := cmpf .olt main_v16 main_v17
  let main_v19 : FVec F S64 .f32 := Host.absf main_arg6
  let main_cst_5 : FVec F S_ .f32 := constant S_ .f32 0x7F800000#32
  let main_v20 : FVec F S64 .f32 := broadcastInDim S64 ![] bcast_S_S64 main_cst_5
  let main_v21 : IVec S64 1 := cmpf .olt main_v19 main_v20
  (main_v2, main_v6, main_v9, main_v12, main_v15, main_v18, main_v21)

def fn {F : FTy → Type} [FloatOps F] (main_arg0 : FVec F S2048x768 .f32) (main_arg1 : FVec F S12x2048x64 .bf16) (main_arg2 : FVec F S768x768 .f32) (main_arg3 : FVec F S768 .f32) (main_arg4 : FVec F S768 .f32) (main_arg5 : FVec F S768x64 .f32) (main_arg6 : FVec F S64 .f32) : IVec S2048x768 1 × IVec S12x2048x64 1 × IVec S768x768 1 × IVec S768 1 × IVec S768 1 × IVec S768x64 1 × IVec S64 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S12x2048x64 .f32 := (extf .f32 · bitsLt_bf16_f32) main_arg1
  let main_v4 : FVec F S12x2048x64 .f32 := Host.absf main_v3
  let main_cst_0 : FVec F S_ .f32 := constant S_ .f32 0x7F800000#32
  let main_v5 : FVec F S12x2048x64 .f32 := broadcastInDim S12x2048x64 ![] bcast_S_S12x2048x64 main_cst_0
  let main_v6 : IVec S12x2048x64 1 := cmpf .olt main_v4 main_v5
  let main_v7 : FVec F S768x768 .f32 := Host.absf main_arg2
  let main_cst_1 : FVec F S_ .f32 := constant S_ .f32 0x7F800000#32
  let main_v8 : FVec F S768x768 .f32 := broadcastInDim S768x768 ![] bcast_S_S768x768 main_cst_1
  let main_v9 : IVec S768x768 1 := cmpf .olt main_v7 main_v8
  let main_v10 : FVec F S768 .f32 := Host.absf main_arg3
  let main_cst_2 : FVec F S_ .f32 := constant S_ .f32 0x7F800000#32
  let main_v11 : FVec F S768 .f32 := broadcastInDim S768 ![] bcast_S_S768 main_cst_2
  let main_v12 : IVec S768 1 := cmpf .olt main_v10 main_v11
  let main_v13 : FVec F S768 .f32 := Host.absf main_arg4
  let main_cst_3 : FVec F S_ .f32 := constant S_ .f32 0x7F800000#32
  let main_v14 : FVec F S768 .f32 := broadcastInDim S768 ![] bcast_S_S768 main_cst_3
  let main_v15 : IVec S768 1 := cmpf .olt main_v13 main_v14
  let main_v16 : FVec F S768x64 .f32 := Host.absf main_arg5
  let main_cst_4 : FVec F S_ .f32 := constant S_ .f32 0x7F800000#32
  let main_v17 : FVec F S768x64 .f32 := broadcastInDim S768x64 ![] bcast_S_S768x64 main_cst_4
  fn_part1 (F := F) main_arg6 main_v2 main_v6 main_v9 main_v12 main_v15 main_v16 main_v17
-- ==== Pre_finite3.lean ====
abbrev S2048x768 : Shape := ⟨2, ![2048, 768]⟩
abbrev S768 : Shape := ⟨1, ![768]⟩
abbrev S768x2304 : Shape := ⟨2, ![768, 2304]⟩
abbrev S2304 : Shape := ⟨1, ![2304]⟩
abbrev S_ : Shape := ⟨0, ![]⟩

class Facts : Prop where
  bcast_S_S2048x768 : S_.BroadcastsInDim S2048x768 (![] : Fin 0 → Fin S2048x768.rank)
  bcast_S_S768 : S_.BroadcastsInDim S768 (![] : Fin 0 → Fin S768.rank)
  bcast_S_S768x2304 : S_.BroadcastsInDim S768x2304 (![] : Fin 0 → Fin S768x2304.rank)
  bcast_S_S2304 : S_.BroadcastsInDim S2304 (![] : Fin 0 → Fin S2304.rank)

variable [Facts]

def fn {F : FTy → Type} [FloatOps F] (main_arg0 : FVec F S2048x768 .f32) (main_arg1 : FVec F S768 .f32) (main_arg2 : FVec F S768x2304 .f32) (main_arg3 : FVec F S2304 .f32) : IVec S2048x768 1 × IVec S768 1 × IVec S768x2304 1 × IVec S2304 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S768 .f32 := Host.absf main_arg1
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S768x2304 .f32 := Host.absf main_arg2
  let main_cst_1 : FVec F S_ .f32 := constant S_ .f32 0x7F800000#32
  let main_v7 : FVec F S768x2304 .f32 := broadcastInDim S768x2304 ![] bcast_S_S768x2304 main_cst_1
  let main_v8 : IVec S768x2304 1 := cmpf .olt main_v6 main_v7
  let main_v9 : FVec F S2304 .f32 := Host.absf main_arg3
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  (main_v2, main_v5, main_v8, main_v11)
-- ==== Pre_finite4.lean ====
abbrev S12x2048x64 : Shape := ⟨3, ![12, 2048, 64]⟩
abbrev S_ : Shape := ⟨0, ![]⟩

class Facts : Prop where
  bitsLt_bf16_f32 : FTy.bits .bf16 < FTy.bits .f32
  bcast_S_S12x2048x64 : S_.BroadcastsInDim S12x2048x64 (![] : Fin 0 → Fin S12x2048x64.rank)

variable [Facts]

def fn {F : FTy → Type} [FloatOps F] (main_arg0 : FVec F S12x2048x64 .bf16) (main_arg1 : FVec F S12x2048x64 .bf16) (main_arg2 : FVec F S12x2048x64 .bf16) : IVec S12x2048x64 1 × IVec S12x2048x64 1 :=
  let main_v0 : FVec F S12x2048x64 .f32 := (extf .f32 · bitsLt_bf16_f32) main_arg0
  let main_v1 : FVec F S12x2048x64 .f32 := Host.absf main_v0
  let main_cst : FVec F S_ .f32 := constant S_ .f32 0x7F800000#32
  let main_v2 : FVec F S12x2048x64 .f32 := broadcastInDim S12x2048x64 ![] bcast_S_S12x2048x64 main_cst
  let main_v3 : IVec S12x2048x64 1 := cmpf .olt main_v1 main_v2
  let main_v4 : FVec F S12x2048x64 .f32 := (extf .f32 · bitsLt_bf16_f32) main_arg1
  let main_v5 : FVec F S12x2048x64 .f32 := Host.absf main_v4
  let main_cst_0 : FVec F S_ .f32 := constant S_ .f32 0x7F800000#32
  let main_v6 : FVec F S12x2048x64 .f32 := broadcastInDim S12x2048x64 ![] bcast_S_S12x2048x64 main_cst_0
  let main_v7 : IVec S12x2048x64 1 := cmpf .olt main_v5 main_v6
  (main_v3, main_v7)
-- ==== Pre_routing.lean ====
abbrev S128 : Shape := ⟨1, ![128]⟩
abbrev S2048x768 : Shape := ⟨2, ![2048, 768]⟩
abbrev S2048x1 : Shape := ⟨2, ![2048, 1]⟩
abbrev S64x768x1536 : Shape := ⟨3, ![64, 768, 1536]⟩
abbrev S64x1536 : Shape := ⟨2, ![64, 1536]⟩
abbrev S64x1536x768 : Shape := ⟨3, ![64, 1536, 768]⟩
abbrev S64x768 : Shape := ⟨2, ![64, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S64 : Shape := ⟨1, ![64]⟩
abbrev S64x1 : Shape := ⟨2, ![64, 1]⟩
abbrev S_ : Shape := ⟨0, ![]⟩
abbrev S1x2048 : Shape := ⟨2, ![1, 2048]⟩
abbrev S2048x2048 : Shape := ⟨2, ![2048, 2048]⟩
abbrev S63 : Shape := ⟨1, ![63]⟩
abbrev S1 : Shape := ⟨1, ![1]⟩
abbrev S64x2048 : Shape := ⟨2, ![64, 2048]⟩

class Facts : Prop where
  slices_S128_S64_0 : S128.Slices ![0] S64
  shapeCasts_S64_S64x1 : S64.ShapeCasts S64x1
  bcast_S_S64x1 : S_.BroadcastsInDim S64x1 (![] : Fin 0 → Fin S64x1.rank)
  slices_S128_S64_64 : S128.Slices ![64] S64
  shapeCasts_S2048x1_S1x2048 : S2048x1.ShapeCasts S1x2048
  slices_S128_S63_1 : S128.Slices ![1] S63
  bcast_S_S63 : S_.BroadcastsInDim S63 (![] : Fin 0 → Fin S63.rank)
  bcast_S_S1 : S_.BroadcastsInDim S1 (![] : Fin 0 → Fin S1.rank)
  concatenates_S63_S1_S64_d0 : Shape.Concatenates [S63, S1] S64 0
  bcast_S_S64 : S_.BroadcastsInDim S64 (![] : Fin 0 → Fin S64.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S64x1_S64x2048_0_1 : S64x1.BroadcastsInDim S64x2048 (![0, 1] : Fin 2 → Fin S64x2048.rank)
  bcast_S1x2048_S64x2048_0_1 : S1x2048.BroadcastsInDim S64x2048 (![0, 1] : Fin 2 → Fin S64x2048.rank)

variable [Facts]

def fn_part3 {F : FTy → Type} [FloatOps F] (main_v7 : FVec F S64x1 .f32) (main_v10 : FVec F S1x2048 .f32) (main_v36 : IVec S64 1) (main_v38 : IVec S2048x1 1) (main_v40 : IVec S2048x1 1) (main_v45 : IVec S2048x2048 1) (main_v50 : IVec S2048x2048 1) (main_v54 : IVec S2048x2048 1) (main_v61 : IVec S64x2048 1) (main_v62 : FVec F S64x2048 .f32) (main_v63 : FVec F S64x2048 .f32) : IVec S64 1 × IVec S2048x1 1 × IVec S2048x1 1 × IVec S2048x2048 1 × IVec S2048x2048 1 × IVec S2048x2048 1 × IVec S64x2048 1 :=
  let main_v64 : IVec S64x2048 1 := cmpf .ole main_v62 main_v63
  let main_v65 : IVec S64x2048 1 := andi main_v61 main_v64
  let main_v66 : FVec F S64x2048 .f32 := broadcastInDim S64x2048 ![0, 1] bcast_S1x2048_S64x2048_0_1 main_v10
  let main_v67 : FVec F S64x2048 .f32 := broadcastInDim S64x2048 ![0, 1] bcast_S64x1_S64x2048_0_1 main_v7
  let main_v68 : IVec S64x2048 1 := cmpf .olt main_v66 main_v67
  let main_v69 : IVec S64x2048 1 := andi main_v65 main_v68
  let main_v70 : IVec S64x2048 1 := noti main_v69
  (main_v36, main_v38, main_v40, main_v45, main_v50, main_v54, main_v70)

def fn_part2 {F : FTy → Type} [FloatOps F] (main_arg3 : FVec F S2048x1 .f32) (main_arg4 : FVec F S2048x1 .f32) (main_v7 : FVec F S64x1 .f32) (main_v8 : FVec F S64x1 .f32) (main_v9 : FVec F S1x2048 .f32) (main_v10 : FVec F S1x2048 .f32) (main_v13 : IVec S2048x2048 1) (main_v36 : IVec S64 1) (main_v38 : IVec S2048x1 1) (main_v39 : FVec F S2048x1 .f32) : IVec S64 1 × IVec S2048x1 1 × IVec S2048x1 1 × IVec S2048x2048 1 × IVec S2048x2048 1 × IVec S2048x2048 1 × IVec S64x2048 1 :=
  let main_v40 : IVec S2048x1 1 := cmpf .oeq main_arg4 main_v39
  let main_v41 : FVec F S2048x2048 .f32 := broadcastInDim S2048x2048 ![0, 1] bcast_S2048x1_S2048x2048_0_1 main_arg3
  let main_v42 : FVec F S2048x2048 .f32 := broadcastInDim S2048x2048 ![0, 1] bcast_S1x2048_S2048x2048_0_1 main_v9
  let main_v43 : IVec S2048x2048 1 := cmpf .oeq main_v41 main_v42
  let main_v44 : IVec S2048x2048 1 := noti main_v43
  let main_v45 : IVec S2048x2048 1 := ori main_v13 main_v44
  let main_v46 : FVec F S2048x2048 .f32 := broadcastInDim S2048x2048 ![0, 1] bcast_S2048x1_S2048x2048_0_1 main_arg4
  let main_v47 : FVec F S2048x2048 .f32 := broadcastInDim S2048x2048 ![0, 1] bcast_S1x2048_S2048x2048_0_1 main_v10
  let main_v48 : IVec S2048x2048 1 := cmpf .oeq main_v46 main_v47
  let main_v49 : IVec S2048x2048 1 := noti main_v48
  let main_v50 : IVec S2048x2048 1 := ori main_v13 main_v49
  let main_v51 : FVec F S2048x2048 .f32 := broadcastInDim S2048x2048 ![0, 1] bcast_S2048x1_S2048x2048_0_1 main_arg3
  let main_v52 : FVec F S2048x2048 .f32 := broadcastInDim S2048x2048 ![0, 1] bcast_S1x2048_S2048x2048_0_1 main_v10
  let main_v53 : IVec S2048x2048 1 := cmpf .oeq main_v51 main_v52
  let main_v54 : IVec S2048x2048 1 := noti main_v53
  let main_v55 : FVec F S64x2048 .f32 := broadcastInDim S64x2048 ![0, 1] bcast_S64x1_S64x2048_0_1 main_v8
  let main_v56 : FVec F S64x2048 .f32 := broadcastInDim S64x2048 ![0, 1] bcast_S1x2048_S64x2048_0_1 main_v9
  let main_v57 : IVec S64x2048 1 := cmpf .ole main_v55 main_v56
  let main_v58 : FVec F S64x2048 .f32 := broadcastInDim S64x2048 ![0, 1] bcast_S1x2048_S64x2048_0_1 main_v9
  let main_v59 : FVec F S64x2048 .f32 := broadcastInDim S64x2048 ![0, 1] bcast_S64x1_S64x2048_0_1 main_v7
  let main_v60 : IVec S64x2048 1 := cmpf .olt main_v58 main_v59
  let main_v61 : IVec S64x2048 1 := andi main_v57 main_v60
  let main_v62 : FVec F S64x2048 .f32 := broadcastInDim S64x2048 ![0, 1] bcast_S64x1_S64x2048_0_1 main_v8
  let main_v63 : FVec F S64x2048 .f32 := broadcastInDim S64x2048 ![0, 1] bcast_S1x2048_S64x2048_0_1 main_v10
  fn_part3 (F := F) main_v7 main_v10 main_v36 main_v38 main_v40 main_v45 main_v50 main_v54 main_v61 main_v62 main_v63

def fn_part1 {F : FTy → Type} [FloatOps F] (main_arg3 : FVec F S2048x1 .f32) (main_arg4 : FVec F S2048x1 .f32) (main_v7 : FVec F S64x1 .f32) (main_v8 : FVec F S64x1 .f32) (main_v9 : FVec F S1x2048 .f32) (main_v10 : FVec F S1x2048 .f32) (main_v13 : IVec S2048x2048 1) (main_v14 : IVec S64 32) (main_v15 : IVec S64 32) (main_v20 : IVec S64 32) : IVec S64 1 × IVec S2048x1 1 × IVec S2048x1 1 × IVec S2048x2048 1 × IVec S2048x2048 1 × IVec S2048x2048 1 × IVec S64x2048 1 :=
  let main_c_2 : IVec S_ 32 := constantI S_ 32 0#32
  let main_v21 : IVec S64 32 := broadcastInDim S64 ![] bcast_S_S64 main_c_2
  let main_v22 : IVec S64 1 := cmpi .sge main_v14 main_v21
  let main_c_3 : IVec S_ 32 := constantI S_ 32 568#32
  let main_v23 : IVec S64 32 := broadcastInDim S64 ![] bcast_S_S64 main_c_3
  let main_v24 : IVec S64 1 := cmpi .sle main_v14 main_v23
  let main_v25 : IVec S64 1 := andi main_v22 main_v24
  let main_c_4 : IVec S_ 32 := constantI S_ 32 0#32
  let main_v26 : IVec S64 32 := broadcastInDim S64 ![] bcast_S_S64 main_c_4
  let main_v27 : IVec S64 1 := cmpi .sge main_v15 main_v26
  let main_v28 : IVec S64 1 := andi main_v25 main_v27
  let main_c_5 : IVec S_ 32 := constantI S_ 32 4544#32
  let main_v29 : IVec S64 32 := broadcastInDim S64 ![] bcast_S_S64 main_c_5
  let main_v30 : IVec S64 1 := cmpi .sle main_v15 main_v29
  let main_v31 : IVec S64 1 := andi main_v28 main_v30
  let main_c_6 : IVec S_ 32 := constantI S_ 32 8#32
  let main_v32 : IVec S64 32 := broadcastInDim S64 ![] bcast_S_S64 main_c_6
  let main_v33 : IVec S64 32 := muli main_v32 main_v14
  let main_v34 : IVec S64 32 := addi main_v33 main_v15
  let main_v35 : IVec S64 1 := cmpi .sle main_v34 main_v20
  let main_v36 : IVec S64 1 := andi main_v31 main_v35
  let main_v37 : FVec F S2048x1 .f32 := Host.floor main_arg3
  let main_v38 : IVec S2048x1 1 := cmpf .oeq main_arg3 main_v37
  let main_v39 : FVec F S2048x1 .f32 := Host.floor main_arg4
  fn_part2 (F := F) main_arg3 main_arg4 main_v7 main_v8 main_v9 main_v10 main_v13 main_v36 main_v38 main_v39

def fn {F : FTy → Type} [FloatOps F] (main_arg0 : IVec S128 32) (main_arg1 : FVec F S2048x768 .f32) (main_arg2 : FVec F S2048x768 .bf16) (main_arg3 : FVec F S2048x1 .f32) (main_arg4 : FVec F S2048x1 .f32) (main_arg5 : FVec F S2048x1 .f32) (main_arg6 : FVec F S2048x1 .f32) (main_arg7 : FVec F S64x768x1536 .f32) (main_arg8 : FVec F S64x1536 .f32) (main_arg9 : FVec F S64x1536x768 .f32) (main_arg10 : FVec F S64x768 .f32) (main_arg11 : FVec F S768x1536 .f32) (main_arg12 : FVec F S1536 .f32) (main_arg13 : FVec F S1536x768 .f32) (main_arg14 : FVec F S768 .f32) : IVec S64 1 × IVec S2048x1 1 × IVec S2048x1 1 × IVec S2048x2048 1 × IVec S2048x2048 1 × IVec S2048x2048 1 × IVec S64x2048 1 :=
  let main_v0 : IVec S64 32 := (extractStridedSlice S64 ![0] · slices_S128_S64_0) main_arg0
  let main_v1 : IVec S64x1 32 := shapeCast S64x1 main_v0 shapeCasts_S64_S64x1
  let main_c : IVec S_ 32 := constantI S_ 32 8#32
  let main_v2 : IVec S64x1 32 := broadcastInDim S64x1 ![] bcast_S_S64x1 main_c
  let main_v3 : IVec S64x1 32 := muli main_v2 main_v1
  let main_v4 : IVec S64 32 := (extractStridedSlice S64 ![64] · slices_S128_S64_64) main_arg0
  let main_v5 : IVec S64x1 32 := shapeCast S64x1 main_v4 shapeCasts_S64_S64x1
  let main_v6 : IVec S64x1 32 := addi main_v3 main_v5
  let main_v7 : FVec F S64x1 .f32 := sitofp .f32 main_v6
  let main_v8 : FVec F S64x1 .f32 := sitofp .f32 main_v3
  let main_v9 : FVec F S1x2048 .f32 := shapeCast S1x2048 main_arg3 shapeCasts_S2048x1_S1x2048
  let main_v10 : FVec F S1x2048 .f32 := shapeCast S1x2048 main_arg4 shapeCasts_S2048x1_S1x2048
  let main_v11 : IVec S2048x2048 32 := iotaInDim S2048x2048 32 0
  let main_v12 : IVec S2048x2048 32 := iotaInDim S2048x2048 32 1
  let main_v13 : IVec S2048x2048 1 := cmpi .eq main_v11 main_v12
  let main_v14 : IVec S64 32 := (extractStridedSlice S64 ![0] · slices_S128_S64_0) main_arg0
  let main_v15 : IVec S64 32 := (extractStridedSlice S64 ![64] · slices_S128_S64_64) main_arg0
  let main_v16 : IVec S63 32 := (extractStridedSlice S63 ![1] · slices_S128_S63_1) main_arg0
  let main_c_0 : IVec S_ 32 := constantI S_ 32 8#32
  let main_v17 : IVec S63 32 := broadcastInDim S63 ![] bcast_S_S63 main_c_0
  let main_v18 : IVec S63 32 := muli main_v17 main_v16
  let main_c_1 : IVec S_ 32 := constantI S_ 32 4544#32
  let main_v19 : IVec S1 32 := broadcastInDim S1 ![] bcast_S_S1 main_c_1
  let main_v20 : IVec S64 32 := (fun a b => concatenate S64 0 [⟨S63, a⟩, ⟨S1, b⟩] concatenates_S63_S1_S64_d0) main_v18 main_v19
  fn_part1 (F := F) main_arg3 main_arg4 main_v7 main_v8 main_v9 main_v10 main_v13 main_v14 main_v15 main_v20
-- ==== Pre_tables_fit.lean ====
abbrev S128 : Shape := ⟨1, ![128]⟩
abbrev S2048x768 : Shape := ⟨2, ![2048, 768]⟩
abbrev S2048x1 : Shape := ⟨2, ![2048, 1]⟩
abbrev S64x768x1536 : Shape := ⟨3, ![64, 768, 1536]⟩
abbrev S64x1536 : Shape := ⟨2, ![64, 1536]⟩
abbrev S64x1536x768 : Shape := ⟨3, ![64, 1536, 768]⟩
abbrev S64x768 : Shape := ⟨2, ![64, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S64 : Shape := ⟨1, ![64]⟩
abbrev S63 : Shape := ⟨1, ![63]⟩
abbrev S_ : Shape := ⟨0, ![]⟩
abbrev S1 : Shape := ⟨1, ![1]⟩

class Facts : Prop where
  slices_S128_S64_0 : S128.Slices ![0] S64
  slices_S128_S64_64 : S128.Slices ![64] S64
  slices_S128_S63_1 : S128.Slices ![1] S63
  bcast_S_S63 : S_.BroadcastsInDim S63 (![] : Fin 0 → Fin S63.rank)
  bcast_S_S1 : S_.BroadcastsInDim S1 (![] : Fin 0 → Fin S1.rank)
  concatenates_S63_S1_S64_d0 : Shape.Concatenates [S63, S1] S64 0
  bcast_S_S64 : S_.BroadcastsInDim S64 (![] : Fin 0 → Fin S64.rank)

variable [Facts]

def fn_part1 {F : FTy → Type} [FloatOps F] (main_v0 : IVec S64 32) (main_v1 : IVec S64 32) (main_v6 : IVec S64 32) (main_v17 : IVec S64 1) : IVec S64 1 :=
  let main_c_5 : IVec S_ 32 := constantI S_ 32 8#32
  let main_v18 : IVec S64 32 := broadcastInDim S64 ![] bcast_S_S64 main_c_5
  let main_v19 : IVec S64 32 := muli main_v18 main_v0
  let main_v20 : IVec S64 32 := addi main_v19 main_v1
  let main_v21 : IVec S64 1 := cmpi .sle main_v20 main_v6
  let main_v22 : IVec S64 1 := andi main_v17 main_v21
  main_v22

def fn {F : FTy → Type} [FloatOps F] (main_arg0 : IVec S128 32) (main_arg1 : FVec F S2048x768 .f32) (main_arg2 : FVec F S2048x768 .bf16) (main_arg3 : FVec F S2048x1 .f32) (main_arg4 : FVec F S2048x1 .f32) (main_arg5 : FVec F S2048x1 .f32) (main_arg6 : FVec F S2048x1 .f32) (main_arg7 : FVec F S64x768x1536 .f32) (main_arg8 : FVec F S64x1536 .f32) (main_arg9 : FVec F S64x1536x768 .f32) (main_arg10 : FVec F S64x768 .f32) (main_arg11 : FVec F S768x1536 .f32) (main_arg12 : FVec F S1536 .f32) (main_arg13 : FVec F S1536x768 .f32) (main_arg14 : FVec F S768 .f32) : IVec S64 1 :=
  let main_v0 : IVec S64 32 := (extractStridedSlice S64 ![0] · slices_S128_S64_0) main_arg0
  let main_v1 : IVec S64 32 := (extractStridedSlice S64 ![64] · slices_S128_S64_64) main_arg0
  let main_v2 : IVec S63 32 := (extractStridedSlice S63 ![1] · slices_S128_S63_1) main_arg0
  let main_c : IVec S_ 32 := constantI S_ 32 8#32
  let main_v3 : IVec S63 32 := broadcastInDim S63 ![] bcast_S_S63 main_c
  let main_v4 : IVec S63 32 := muli main_v3 main_v2
  let main_c_0 : IVec S_ 32 := constantI S_ 32 4544#32
  let main_v5 : IVec S1 32 := broadcastInDim S1 ![] bcast_S_S1 main_c_0
  let main_v6 : IVec S64 32 := (fun a b => concatenate S64 0 [⟨S63, a⟩, ⟨S1, b⟩] concatenates_S63_S1_S64_d0) main_v4 main_v5
  let main_c_1 : IVec S_ 32 := constantI S_ 32 0#32
  let main_v7 : IVec S64 32 := broadcastInDim S64 ![] bcast_S_S64 main_c_1
  let main_v8 : IVec S64 1 := cmpi .sge main_v0 main_v7
  let main_c_2 : IVec S_ 32 := constantI S_ 32 568#32
  let main_v9 : IVec S64 32 := broadcastInDim S64 ![] bcast_S_S64 main_c_2
  let main_v10 : IVec S64 1 := cmpi .sle main_v0 main_v9
  let main_v11 : IVec S64 1 := andi main_v8 main_v10
  let main_c_3 : IVec S_ 32 := constantI S_ 32 0#32
  let main_v12 : IVec S64 32 := broadcastInDim S64 ![] bcast_S_S64 main_c_3
  let main_v13 : IVec S64 1 := cmpi .sge main_v1 main_v12
  let main_v14 : IVec S64 1 := andi main_v11 main_v13
  let main_c_4 : IVec S_ 32 := constantI S_ 32 4544#32
  let main_v15 : IVec S64 32 := broadcastInDim S64 ![] bcast_S_S64 main_c_4
  let main_v16 : IVec S64 1 := cmpi .sle main_v1 main_v15
  let main_v17 : IVec S64 1 := andi main_v14 main_v16
  fn_part1 (F := F) main_v0 main_v1 main_v6 main_v17
-- ==== Kernel.lean ====
abbrev S128 : Shape := ⟨1, ![128]⟩
abbrev S2048x768 : Shape := ⟨2, ![2048, 768]⟩
abbrev S2048x1 : Shape := ⟨2, ![2048, 1]⟩
abbrev S64x768x1536 : Shape := ⟨3, ![64, 768, 1536]⟩
abbrev S64x1536 : Shape := ⟨2, ![64, 1536]⟩
abbrev S64x1536x768 : Shape := ⟨3, ![64, 1536, 768]⟩
abbrev S64x768 : Shape := ⟨2, ![64, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S1x1536 : Shape := ⟨2, ![1, 1536]⟩
abbrev S1x768 : Shape := ⟨2, ![1, 768]⟩
abbrev S512x768 : Shape := ⟨2, ![512, 768]⟩
abbrev S512x1536 : Shape := ⟨2, ![512, 1536]⟩
abbrev S64x1x1536 : Shape := ⟨3, ![64, 1, 1536]⟩
abbrev S64x1x768 : Shape := ⟨3, ![64, 1, 768]⟩
abbrev S4672x768 : Shape := ⟨2, ![4672, 768]⟩
abbrev S1x768x1536 : Shape := ⟨3, ![1, 768, 1536]⟩
abbrev S1x1x1536 : Shape := ⟨3, ![1, 1, 1536]⟩
abbrev S1x1536x768 : Shape := ⟨3, ![1, 1536, 768]⟩
abbrev S1x1x768 : Shape := ⟨3, ![1, 1, 768]⟩
abbrev S1 : Shape := ⟨1, ![1]⟩
abbrev S1x128 : Shape := ⟨2, ![1, 128]⟩
abbrev S2048x128 : Shape := ⟨2, ![2048, 128]⟩
abbrev S128x768 : Shape := ⟨2, ![128, 768]⟩
abbrev S128x1 : Shape := ⟨2, ![128, 1]⟩
abbrev S128x1536 : Shape := ⟨2, ![128, 1536]⟩
abbrev S1168x768 : Shape := ⟨2, ![1168, 768]⟩
abbrev S1x1168 : Shape := ⟨2, ![1, 1168]⟩
abbrev S2048x1168 : Shape := ⟨2, ![2048, 1168]⟩

abbrev nBuf : Space → Nat
  | .hbm => 23
  | .vmem => 30
  | .smem => 1
  | _ => 0

abbrev bufTy : (tb : Table) → Fin (tcTables nBuf tb) → BufTy
  | .hbm, ⟨0, _⟩ => ⟨S2048x768, .f32⟩
  | .hbm, ⟨1, _⟩ => ⟨S2048x768, .bf16⟩
  | .hbm, ⟨2, _⟩ => ⟨S2048x1, .f32⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S64x768x1536, .f32⟩
  | .hbm, ⟨7, _⟩ => ⟨S64x1536, .f32⟩
  | .hbm, ⟨8, _⟩ => ⟨S64x1536x768, .f32⟩
  | .hbm, ⟨9, _⟩ => ⟨S64x768, .f32⟩
  | .hbm, ⟨10, _⟩ => ⟨S768x1536, .f32⟩
  | .hbm, ⟨11, _⟩ => ⟨S1536, .f32⟩
  | .hbm, ⟨12, _⟩ => ⟨S1536x768, .f32⟩
  | .hbm, ⟨13, _⟩ => ⟨S768, .f32⟩
  | .hbm, ⟨14, _⟩ => ⟨S768x1536, .bf16⟩
  | .hbm, ⟨15, _⟩ => ⟨S1x1536, .f32⟩
  | .hbm, ⟨16, _⟩ => ⟨S1536x768, .bf16⟩
  | .hbm, ⟨17, _⟩ => ⟨S1x768, .f32⟩
  | .hbm, ⟨18, _⟩ => ⟨S2048x768, .f32⟩
  | .hbm, ⟨19, _⟩ => ⟨S64x1x1536, .f32⟩
  | .hbm, ⟨20, _⟩ => ⟨S64x1x768, .f32⟩
  | .hbm, ⟨21, _⟩ => ⟨S4672x768, .bf16⟩
  | .hbm, ⟨22, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S512x768, .bf16⟩
  | .local _ .vmem, ⟨3, _⟩ => ⟨S512x768, .bf16⟩
  | .local _ .vmem, ⟨4, _⟩ => ⟨S768x1536, .bf16⟩
  | .local _ .vmem, ⟨5, _⟩ => ⟨S1x1536, .f32⟩
  | .local _ .vmem, ⟨6, _⟩ => ⟨S1536x768, .bf16⟩
  | .local _ .vmem, ⟨7, _⟩ => ⟨S1x768, .f32⟩
  | .local _ .vmem, ⟨8, _⟩ => ⟨S512x768, .f32⟩
  | .local _ .vmem, ⟨9, _⟩ => ⟨S512x768, .f32⟩
  | .local _ .vmem, ⟨10, _⟩ => ⟨S2048x768, .bf16⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | .local _ .vmem, ⟨14, _⟩ => ⟨S2048x1, .f32⟩
  | .local _ .vmem, ⟨15, _⟩ => ⟨S1x768x1536, .f32⟩
  | .local _ .vmem, ⟨16, _⟩ => ⟨S1x768x1536, .f32⟩
  | .local _ .vmem, ⟨17, _⟩ => ⟨S1x1x1536, .f32⟩
  | .local _ .vmem, ⟨18, _⟩ => ⟨S1x1x1536, .f32⟩
  | .local _ .vmem, ⟨19, _⟩ => ⟨S1x1536x768, .f32⟩
  | .local _ .vmem, ⟨20, _⟩ => ⟨S1x1536x768, .f32⟩
  | .local _ .vmem, ⟨21, _⟩ => ⟨S1x1x768, .f32⟩
  | .local _ .vmem, ⟨22, _⟩ => ⟨S1x1x768, .f32⟩
  | .local _ .vmem, ⟨23, _⟩ => ⟨S4672x768, .bf16⟩
  | .local _ .vmem, ⟨24, _⟩ => ⟨S2048x1, .f32⟩
  | .local _ .vmem, ⟨25, _⟩ => ⟨S2048x1, .f32⟩
  | .local _ .vmem, ⟨26, _⟩ => ⟨S1168x768, .bf16⟩
  | .local _ .vmem, ⟨27, _⟩ => ⟨S1168x768, .bf16⟩
  | .local _ .vmem, ⟨28, _⟩ => ⟨S2048x768, .f32⟩
  | .local _ .vmem, ⟨29, _⟩ => ⟨S2048x768, .f32⟩
  | .local _ .smem, ⟨0, _⟩ => ⟨S128, .i32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_arg12 : Ref sig .tc := ⟨.hbm, 11, rfl⟩
abbrev main_arg13 : Ref sig .tc := ⟨.hbm, 12, rfl⟩
abbrev main_arg14 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc2_sem0_0 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem4_0 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1536x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![64], ![false]⟩

abbrev pre1 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let c64_i32 : BitVec 32 := 64#32
  let arg0 : BitVec 32 := BitVec.ofNat 32 (i 0).val
  let v2 : BitVec 32 := Scalar.addi c64_i32 arg0
  let v3 : Index := Scalar.indexCast v2
  ![v3.toNat]
@[reducible] def k1_t1_loop (v4 : BitVec 32) : Scf.Loop 32 :=
  let c0_i32_28 : BitVec 32 := 0#32
  let c128_i32 : BitVec 32 := 128#32
  let v25 : BitVec 32 := Scalar.addi v4 c128_i32
  let c1_i32 : BitVec 32 := 1#32
  let v26 : BitVec 32 := Scalar.subi v25 c1_i32
  let c0_i32_21 : BitVec 32 := 0#32
  let v28 : BitVec 1 := Scalar.cmpi .sgt v26 c0_i32_21
  let v29 : BitVec 32 := Scalar.extui v28
  let c0_i32_22 : BitVec 32 := 0#32
  let v30 : BitVec 1 := Scalar.cmpi .slt v26 c0_i32_22
  let v31 : BitVec 32 := Scalar.extui v30
  let v32 : BitVec 32 := Scalar.subi v29 v31
  let c128_i32_20 : BitVec 32 := 128#32
  let c0_i32_23 : BitVec 32 := 0#32
  let v33 : BitVec 1 := Scalar.cmpi .sgt c128_i32_20 c0_i32_23
  let v34 : BitVec 32 := Scalar.extui v33
  let c0_i32_24 : BitVec 32 := 0#32
  let v35 : BitVec 1 := Scalar.cmpi .slt c128_i32_20 c0_i32_24
  let v36 : BitVec 32 := Scalar.extui v35
  let v37 : BitVec 32 := Scalar.subi v34 v36
  let v38 : BitVec 1 := Scalar.cmpi .ne v32 v37
  let v39 : BitVec 32 := Scalar.remsi v26 c128_i32_20
  let c0_i32_25 : BitVec 32 := 0#32
  let v40 : BitVec 1 := Scalar.cmpi .ne v39 c0_i32_25
  let v41 : BitVec 1 := Scalar.andi v38 v40
  let v27 : BitVec 32 := Scalar.divsi v26 c128_i32_20
  let c1_i32_26 : BitVec 32 := 1#32
  let v42 : BitVec 32 := Scalar.subi v27 c1_i32_26
  let v43 : BitVec 32 := Scalar.select v41 v42 v27
  let v44 : BitVec 32 := Scalar.subi v43 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let c1_i32_30 : BitVec 32 := 1#32
  ⟨c0_i32_28, v48, c1_i32_30⟩

def k1_off3 (v1 : BitVec 32) (v4 : BitVec 32) (k1_t1 : Fin (k1_t1_loop v4).trips) : Fin 2 → Nat :=
  let c8_i32_32 : BitVec 32 := 8#32
  let v49 : BitVec 32 := Scalar.muli v1 c8_i32_32
  let c0_i32_28 : BitVec 32 := 0#32
  let c1_i32_30 : BitVec 32 := 1#32
  let arg12 : BitVec 32 := Scf.iv c0_i32_28 c1_i32_30 k1_t1
  let c128_i32_33 : BitVec 32 := 128#32
  let v50 : BitVec 32 := Scalar.muli arg12 c128_i32_33
  let v51 : BitVec 32 := Scalar.addi v49 v50
  let v98 : Index := Scalar.indexCast v51
  let c0_43 : Index := 0#32
  ![v98.toNat, 0]
@[reducible] def k1_t2_loop (v4 : BitVec 32) : Scf.Loop 32 :=
  let c0_i32_28 : BitVec 32 := 0#32
  let c128_i32 : BitVec 32 := 128#32
  let v25 : BitVec 32 := Scalar.addi v4 c128_i32
  let c1_i32 : BitVec 32 := 1#32
  let v26 : BitVec 32 := Scalar.subi v25 c1_i32
  let c0_i32_21 : BitVec 32 := 0#32
  let v28 : BitVec 1 := Scalar.cmpi .sgt v26 c0_i32_21
  let v29 : BitVec 32 := Scalar.extui v28
  let c0_i32_22 : BitVec 32 := 0#32
  let v30 : BitVec 1 := Scalar.cmpi .slt v26 c0_i32_22
  let v31 : BitVec 32 := Scalar.extui v30
  let v32 : BitVec 32 := Scalar.subi v29 v31
  let c128_i32_20 : BitVec 32 := 128#32
  let c0_i32_23 : BitVec 32 := 0#32
  let v33 : BitVec 1 := Scalar.cmpi .sgt c128_i32_20 c0_i32_23
  let v34 : BitVec 32 := Scalar.extui v33
  let c0_i32_24 : BitVec 32 := 0#32
  let v35 : BitVec 1 := Scalar.cmpi .slt c128_i32_20 c0_i32_24
  let v36 : BitVec 32 := Scalar.extui v35
  let v37 : BitVec 32 := Scalar.subi v34 v36
  let v38 : BitVec 1 := Scalar.cmpi .ne v32 v37
  let v39 : BitVec 32 := Scalar.remsi v26 c128_i32_20
  let c0_i32_25 : BitVec 32 := 0#32
  let v40 : BitVec 1 := Scalar.cmpi .ne v39 c0_i32_25
  let v41 : BitVec 1 := Scalar.andi v38 v40
  let v27 : BitVec 32 := Scalar.divsi v26 c128_i32_20
  let c1_i32_26 : BitVec 32 := 1#32
  let v42 : BitVec 32 := Scalar.subi v27 c1_i32_26
  let v43 : BitVec 32 := Scalar.select v41 v42 v27
  let v44 : BitVec 32 := Scalar.subi v43 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let v45 : BitVec 32 := Scalar.addi c0_i32_28 v44
  let c1_i32_31 : BitVec 32 := 1#32
  ⟨v48, v45, c1_i32_31⟩
def k1_off4 (v1 : BitVec 32) (v4 : BitVec 32) (k1_t2 : Fin (k1_t2_loop v4).trips) : Fin 2 → Nat :=
  let c8_i32_32 : BitVec 32 := 8#32
  let v49 : BitVec 32 := Scalar.muli v1 c8_i32_32
  let c0_i32_28 : BitVec 32 := 0#32
  let c128_i32 : BitVec 32 := 128#32
  let v25 : BitVec 32 := Scalar.addi v4 c128_i32
  let c1_i32 : BitVec 32 := 1#32
  let v26 : BitVec 32 := Scalar.subi v25 c1_i32
  let c0_i32_21 : BitVec 32 := 0#32
  let v28 : BitVec 1 := Scalar.cmpi .sgt v26 c0_i32_21
  let v29 : BitVec 32 := Scalar.extui v28
  let c0_i32_22 : BitVec 32 := 0#32
  let v30 : BitVec 1 := Scalar.cmpi .slt v26 c0_i32_22
  let v31 : BitVec 32 := Scalar.extui v30
  let v32 : BitVec 32 := Scalar.subi v29 v31
  let c128_i32_20 : BitVec 32 := 128#32
  let c0_i32_23 : BitVec 32 := 0#32
  let v33 : BitVec 1 := Scalar.cmpi .sgt c128_i32_20 c0_i32_23
  let v34 : BitVec 32 := Scalar.extui v33
  let c0_i32_24 : BitVec 32 := 0#32
  let v35 : BitVec 1 := Scalar.cmpi .slt c128_i32_20 c0_i32_24
  let v36 : BitVec 32 := Scalar.extui v35
  let v37 : BitVec 32 := Scalar.subi v34 v36
  let v38 : BitVec 1 := Scalar.cmpi .ne v32 v37
  let v39 : BitVec 32 := Scalar.remsi v26 c128_i32_20
  let c0_i32_25 : BitVec 32 := 0#32
  let v40 : BitVec 1 := Scalar.cmpi .ne v39 c0_i32_25
  let v41 : BitVec 1 := Scalar.andi v38 v40
  let v27 : BitVec 32 := Scalar.divsi v26 c128_i32_20
  let c1_i32_26 : BitVec 32 := 1#32
  let v42 : BitVec 32 := Scalar.subi v27 c1_i32_26
  let v43 : BitVec 32 := Scalar.select v41 v42 v27
  let v44 : BitVec 32 := Scalar.subi v43 c0_i32_28
  let c1_i32_29 : BitVec 32 := 1#32
  let v46 : BitVec 32 := Scalar.divsi v44 c1_i32_29
  let v47 : BitVec 32 := Scalar.muli v46 c1_i32_29
  let v48 : BitVec 32 := Scalar.addi c0_i32_28 v47
  let c1_i32_31 : BitVec 32 := 1#32
  let arg12 : BitVec 32 := Scf.iv v48 c1_i32_31 k1_t2
  let c128_i32_33 : BitVec 32 := 128#32
  let v50 : BitVec 32 := Scalar.muli arg12 c128_i32_33
  let v51 : BitVec 32 := Scalar.addi v49 v50
  let v98 : Index := Scalar.indexCast v51
  let c0_43 : Index := 0#32
  ![v98.toNat, 0]

def k1_chk1 (v1 : BitVec 32) (v4 : BitVec 32) : Prop :=
  ((k1_t1_loop v4).OK) ∧
  (∀ k1_t1 : Fin (k1_t1_loop v4).trips, ∀ a, (k1_off3 v1 v4 k1_t1) a + S128x768.size a ≤ S4672x768.size a) ∧
  (∀ k1_t1 : Fin (k1_t1_loop v4).trips, ∀ (hinb : ∀ a, (k1_off3 v1 v4 k1_t1) a + S128x768.size a ≤ S4672x768.size a), (Rect.unit (s := S4672x768) (k1_off3 v1 v4 k1_t1) S128x768.size hinb).PackedRows (EltTy.packing .bf16)) ∧
  ((k1_t2_loop v4).OK) ∧
  (∀ k1_t2 : Fin (k1_t2_loop v4).trips, ∀ a, (k1_off4 v1 v4 k1_t2) a + S128x768.size a ≤ S4672x768.size a) ∧
  (∀ k1_t2 : Fin (k1_t2_loop v4).trips, ∀ (hinb : ∀ a, (k1_off4 v1 v4 k1_t2) a + S128x768.size a ≤ S4672x768.size a), (Rect.unit (s := S4672x768) (k1_off4 v1 v4 k1_t2) S128x768.size hinb).PackedRows (EltTy.packing .bf16))
theorem k1_t1_ok : ∀ (v1 : BitVec 32) (v4 : BitVec 32) (k1_hw1 : k1_chk1 v1 v4), (k1_t1_loop v4).OK := fun v1 v4 k1_hw1 => k1_hw1.1
theorem k1_off3_inb : ∀ (v1 : BitVec 32) (v4 : BitVec 32) (k1_hw1 : k1_chk1 v1 v4) (k1_t1 : Fin (k1_t1_loop v4).trips), ∀ a, (k1_off3 v1 v4 k1_t1) a + S128x768.size a ≤ S4672x768.size a := fun v1 v4 k1_hw1 k1_t1 => k1_hw1.2.1 k1_t1
theorem k1_off3_packedbf16 : ∀ (v1 : BitVec 32) (v4 : BitVec 32) (k1_hw1 : k1_chk1 v1 v4) (k1_t1 : Fin (k1_t1_loop v4).trips), (Rect.unit (s := S4672x768) (k1_off3 v1 v4 k1_t1) S128x768.size (k1_off3_inb v1 v4 k1_hw1 k1_t1)).PackedRows (EltTy.packing .bf16) := fun v1 v4 k1_hw1 k1_t1 => k1_hw1.2.2.1 k1_t1 (k1_off3_inb v1 v4 k1_hw1 k1_t1)
theorem k1_t2_ok : ∀ (v1 : BitVec 32) (v4 : BitVec 32) (k1_hw1 : k1_chk1 v1 v4), (k1_t2_loop v4).OK := fun v1 v4 k1_hw1 => k1_hw1.2.2.2.1
theorem k1_off4_inb : ∀ (v1 : BitVec 32) (v4 : BitVec 32) (k1_hw1 : k1_chk1 v1 v4) (k1_t2 : Fin (k1_t2_loop v4).trips), ∀ a, (k1_off4 v1 v4 k1_t2) a + S128x768.size a ≤ S4672x768.size a := fun v1 v4 k1_hw1 k1_t2 => k1_hw1.2.2.2.2.1 k1_t2
theorem k1_off4_packedbf16 : ∀ (v1 : BitVec 32) (v4 : BitVec 32) (k1_hw1 : k1_chk1 v1 v4) (k1_t2 : Fin (k1_t2_loop v4).trips), (Rect.unit (s := S4672x768) (k1_off4 v1 v4 k1_t2) S128x768.size (k1_off4_inb v1 v4 k1_hw1 k1_t2)).PackedRows (EltTy.packing .bf16) := fun v1 v4 k1_hw1 k1_t2 => k1_hw1.2.2.2.2.2 k1_t2 (k1_off4_inb v1 v4 k1_hw1 k1_t2)

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x768x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1536 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1536x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x768 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S4672x768 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨1, ![4], ![false]⟩

def k2_cond1 (i : grid2.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_5 : BitVec 32 := 0#32
  let v26 : BitVec 1 := Scalar.cmpi .ne v25 c0_i32_5
  v26

def k2_cond2 (i : grid2.Coords) : BitVec 1 :=
  let arg0 : BitVec 32 := BitVec.ofNat 32 (i 0).val
  let c0_i32_6 : BitVec 32 := 0#32
  let v27 : BitVec 1 := Scalar.cmpi .sgt arg0 c0_i32_6
  let v28 : BitVec 32 := Scalar.extui v27
  let c0_i32_7 : BitVec 32 := 0#32
  let v29 : BitVec 1 := Scalar.cmpi .ne v28 c0_i32_7
  v29

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1168x768 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S2048x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2048x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]
-- ==== ReferenceIdeal.lean ====
abbrev S128 : Shape := ⟨1, ![128]⟩
abbrev S2048x768 : Shape := ⟨2, ![2048, 768]⟩
abbrev S2048x1 : Shape := ⟨2, ![2048, 1]⟩
abbrev S64x768x1536 : Shape := ⟨3, ![64, 768, 1536]⟩
abbrev S64x1536 : Shape := ⟨2, ![64, 1536]⟩
abbrev S64x1536x768 : Shape := ⟨3, ![64, 1536, 768]⟩
abbrev S64x768 : Shape := ⟨2, ![64, 768]⟩
abbrev S768x1536 : Shape := ⟨2, ![768, 1536]⟩
abbrev S1536 : Shape := ⟨1, ![1536]⟩
abbrev S1536x768 : Shape := ⟨2, ![1536, 768]⟩
abbrev S768 : Shape := ⟨1, ![768]⟩
abbrev S64 : Shape := ⟨1, ![64]⟩
abbrev S64x1 : Shape := ⟨2, ![64, 1]⟩
abbrev S_ : Shape := ⟨0, ![]⟩
abbrev S1x2048 : Shape := ⟨2, ![1, 2048]⟩
abbrev S64x2048 : Shape := ⟨2, ![64, 2048]⟩
abbrev S64x1536x2048 : Shape := ⟨3, ![64, 1536, 2048]⟩
abbrev S64x2048x1536 : Shape := ⟨3, ![64, 2048, 1536]⟩
abbrev S64x1x1536 : Shape := ⟨3, ![64, 1, 1536]⟩
abbrev S64x2048x768 : Shape := ⟨3, ![64, 2048, 768]⟩
abbrev S64x1x768 : Shape := ⟨3, ![64, 1, 768]⟩
abbrev S64x2048x1 : Shape := ⟨3, ![64, 2048, 1]⟩
abbrev S2048x1536 : Shape := ⟨2, ![2048, 1536]⟩
abbrev S1x1536 : Shape := ⟨2, ![1, 1536]⟩
abbrev S1x768 : Shape := ⟨2, ![1, 768]⟩

abbrev nBuf : Space → Nat
  | .hbm => 97
  | .vmem => 0
  | .smem => 0
  | _ => 0

abbrev bufTy : (tb : Table) → Fin (tcTables nBuf tb) → BufTy
  | .hbm, ⟨0, _⟩ => ⟨S128, .i32⟩
  | .hbm, ⟨1, _⟩ => ⟨S2048x768, .f32⟩
  | .hbm, ⟨2, _⟩ => ⟨S2048x768, .bf16⟩
  | .hbm, ⟨3, _⟩ => ⟨S2048x1, .f32⟩
  | .hbm, ⟨4, _⟩ => ⟨S2048x1, .f32⟩
  | .hbm, ⟨5, _⟩ => ⟨S2048x1, .f32⟩
  | .hbm, ⟨6, _⟩ => ⟨S2048x1, .f32⟩
  | .hbm, ⟨7, _⟩ => ⟨S64x768x1536, .f32⟩
  | .hbm, ⟨8, _⟩ => ⟨S64x1536, .f32⟩
  | .hbm, ⟨9, _⟩ => ⟨S64x1536x768, .f32⟩
  | .hbm, ⟨10, _⟩ => ⟨S64x768, .f32⟩
  | .hbm, ⟨11, _⟩ => ⟨S768x1536, .f32⟩
  | .hbm, ⟨12, _⟩ => ⟨S1536, .f32⟩
  | .hbm, ⟨13, _⟩ => ⟨S1536x768, .f32⟩
  | .hbm, ⟨14, _⟩ => ⟨S768, .f32⟩
  | .hbm, ⟨15, _⟩ => ⟨S2048x768, .f32⟩
  | .hbm, ⟨16, _⟩ => ⟨S64, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i32⟩
  | .hbm, ⟨21, _⟩ => ⟨S64, .i32⟩
  | .hbm, ⟨22, _⟩ => ⟨S64x1, .i32⟩
  | .hbm, ⟨23, _⟩ => ⟨S64x1, .i32⟩
  | .hbm, ⟨24, _⟩ => ⟨S64x1, .f32⟩
  | .hbm, ⟨25, _⟩ => ⟨S64x1, .f32⟩
  | .hbm, ⟨26, _⟩ => ⟨S1x2048, .f32⟩
  | .hbm, ⟨27, _⟩ => ⟨S1x2048, .f32⟩
  | .hbm, ⟨28, _⟩ => ⟨S64x2048, .f32⟩
  | .hbm, ⟨29, _⟩ => ⟨S64x2048, .f32⟩
  | .hbm, ⟨30, _⟩ => ⟨S64x2048, .i1⟩
  | .hbm, ⟨31, _⟩ => ⟨S64x2048, .f32⟩
  | .hbm, ⟨32, _⟩ => ⟨S64x2048, .f32⟩
  | .hbm, ⟨33, _⟩ => ⟨S64x2048, .i1⟩
  | .hbm, ⟨34, _⟩ => ⟨S64x2048, .i1⟩
  | .hbm, ⟨35, _⟩ => ⟨S1x2048, .f32⟩
  | .hbm, ⟨36, _⟩ => ⟨S_, .f32⟩
  | .hbm, ⟨37, _⟩ => ⟨S_, .f32⟩
  | .hbm, ⟨38, _⟩ => ⟨S64x2048, .f32⟩
  | .hbm, ⟨39, _⟩ => ⟨S64x2048, .f32⟩
  | .hbm, ⟨40, _⟩ => ⟨S64x2048, .f32⟩
  | .hbm, ⟨41, _⟩ => ⟨S64x2048, .f32⟩
  | .hbm, ⟨42, _⟩ => ⟨S64x2048, .f32⟩
  | .hbm, ⟨43, _⟩ => ⟨S64x2048, .i1⟩
  | .hbm, ⟨44, _⟩ => ⟨S64x2048, .f32⟩
  | .hbm, ⟨45, _⟩ => ⟨S64x2048, .f32⟩
  | .hbm, ⟨46, _⟩ => ⟨S64x2048, .i1⟩
  | .hbm, ⟨47, _⟩ => ⟨S64x2048, .i1⟩
  | .hbm, ⟨48, _⟩ => ⟨S1x2048, .f32⟩
  | .hbm, ⟨49, _⟩ => ⟨S_, .f32⟩
  | .hbm, ⟨50, _⟩ => ⟨S_, .f32⟩
  | .hbm, ⟨51, _⟩ => ⟨S64x2048, .f32⟩
  | .hbm, ⟨52, _⟩ => ⟨S64x2048, .f32⟩
  | .hbm, ⟨53, _⟩ => ⟨S64x2048, .f32⟩
  | .hbm, ⟨54, _⟩ => ⟨S64x2048, .f32⟩
  | .hbm, ⟨55, _⟩ => ⟨S64x1536x2048, .f32⟩
  | .hbm, ⟨56, _⟩ => ⟨S64x2048x1536, .f32⟩
  | .hbm, ⟨57, _⟩ => ⟨S64x1x1536, .f32⟩
  | .hbm, ⟨58, _⟩ => ⟨S64x2048x1536, .f32⟩
  | .hbm, ⟨59, _⟩ => ⟨S64x2048x1536, .f32⟩
  | .hbm, ⟨60, _⟩ => ⟨S64x2048x1536, .f32⟩
  | .hbm, ⟨61, _⟩ => ⟨S64x2048x1536, .f32⟩
  | .hbm, ⟨62, _⟩ => ⟨S_, .f32⟩
  | .hbm, ⟨63, _⟩ => ⟨S64x2048x1536, .f32⟩
  | .hbm, ⟨64, _⟩ => ⟨S64x2048x1536, .f32⟩
  | .hbm, ⟨65, _⟩ => ⟨S_, .f32⟩
  | .hbm, ⟨66, _⟩ => ⟨S64x2048x1536, .f32⟩
  | .hbm, ⟨67, _⟩ => ⟨S64x2048x1536, .f32⟩
  | .hbm, ⟨68, _⟩ => ⟨S64x2048x1536, .f32⟩
  | .hbm, ⟨69, _⟩ => ⟨S64x2048x768, .f32⟩
  | .hbm, ⟨70, _⟩ => ⟨S64x1x768, .f32⟩
  | .hbm, ⟨71, _⟩ => ⟨S64x2048x768, .f32⟩
  | .hbm, ⟨72, _⟩ => ⟨S64x2048x768, .f32⟩
  | .hbm, ⟨73, _⟩ => ⟨S64x2048x1, .f32⟩
  | .hbm, ⟨74, _⟩ => ⟨S64x2048x768, .f32⟩
  | .hbm, ⟨75, _⟩ => ⟨S64x2048x768, .f32⟩
  | .hbm, ⟨76, _⟩ => ⟨S_, .f32⟩
  | .hbm, ⟨77, _⟩ => ⟨S2048x768, .f32⟩
  | .hbm, ⟨78, _⟩ => ⟨S2048x1536, .f32⟩
  | .hbm, ⟨79, _⟩ => ⟨S1x1536, .f32⟩
  | .hbm, ⟨80, _⟩ => ⟨S2048x1536, .f32⟩
  | .hbm, ⟨81, _⟩ => ⟨S2048x1536, .f32⟩
  | .hbm, ⟨82, _⟩ => ⟨S2048x1536, .f32⟩
  | .hbm, ⟨83, _⟩ => ⟨S2048x1536, .f32⟩
  | .hbm, ⟨84, _⟩ => ⟨S_, .f32⟩
  | .hbm, ⟨85, _⟩ => ⟨S2048x1536, .f32⟩
  | .hbm, ⟨86, _⟩ => ⟨S2048x1536, .f32⟩
  | .hbm, ⟨87, _⟩ => ⟨S_, .f32⟩
  | .hbm, ⟨88, _⟩ => ⟨S2048x1536, .f32⟩
  | .hbm, ⟨89, _⟩ => ⟨S2048x1536, .f32⟩
  | .hbm, ⟨90, _⟩ => ⟨S2048x1536, .f32⟩
  | .hbm, ⟨91, _⟩ => ⟨S2048x768, .f32⟩
  | .hbm, ⟨92, _⟩ => ⟨S1x768, .f32⟩
  | .hbm, ⟨93, _⟩ => ⟨S2048x768, .f32⟩
  | .hbm, ⟨94, _⟩ => ⟨S2048x768, .f32⟩
  | .hbm, ⟨95, _⟩ => ⟨S2048x768, .f32⟩
  | .hbm, ⟨96, _⟩ => ⟨S2048x768, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_1 : Ref sig .tc := ⟨.hbm, 62, rfl⟩
abbrev main_v38 : Ref sig .tc := ⟨.hbm, 63, rfl⟩
abbrev main_v39 : Ref sig .tc := ⟨.hbm, 64, rfl⟩
abbrev main_cst_2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_3 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_4 : Ref sig .tc := ⟨.hbm, 84, rfl⟩
abbrev main_v57 : Ref sig .tc := ⟨.hbm, 85, rfl⟩
abbrev main_v58 : Ref sig .tc := ⟨.hbm, 86, rfl⟩
abbrev main_cst_5 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Kernel2.lean ====
abbrev S2048x768 : Shape := ⟨2, ![2048, 768]⟩
abbrev S12x2048x64 : Shape := ⟨3, ![12, 2048, 64]⟩
abbrev S768x768 : Shape := ⟨2, ![768, 768]⟩
abbrev S768 : Shape := ⟨1, ![768]⟩
abbrev S768x64 : Shape := ⟨2, ![768, 64]⟩
abbrev S64 : Shape := ⟨1, ![64]⟩
abbrev S1x768 : Shape := ⟨2, ![1, 768]⟩
abbrev S1x64 : Shape := ⟨2, ![1, 64]⟩
abbrev S2048x1 : Shape := ⟨2, ![2048, 1]⟩
abbrev S1x1 : Shape := ⟨2, ![1, 1]⟩
abbrev S1x2048x64 : Shape := ⟨3, ![1, 2048, 64]⟩
abbrev S2048x64 : Shape := ⟨2, ![2048, 64]⟩
abbrev S64x768 : Shape := ⟨2, ![64, 768]⟩
abbrev S2048 : Shape := ⟨1, ![2048]⟩
abbrev S2048x2048 : Shape := ⟨2, ![2048, 2048]⟩
abbrev S64x64 : Shape := ⟨2, ![64, 64]⟩
abbrev S1x1x64 : Shape := ⟨3, ![1, 1, 64]⟩
abbrev S1 : Shape := ⟨1, ![1]⟩
abbrev S1x1x1 : Shape := ⟨3, ![1, 1, 1]⟩

abbrev nBuf : Space → Nat
  | .hbm => 20
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S12x2048x64, .bf16⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S768x64, .f32⟩
  | .hbm, ⟨6, _⟩ => ⟨S64, .f32⟩
  | .hbm, ⟨7, _⟩ => ⟨S768x768, .bf16⟩
  | .hbm, ⟨8, _⟩ => ⟨S1x768, .f32⟩
  | .hbm, ⟨9, _⟩ => ⟨S1x768, .f32⟩
  | .hbm, ⟨10, _⟩ => ⟨S1x64, .f32⟩
  | .hbm, ⟨11, _⟩ => ⟨S2048x768, .f32⟩
  | .hbm, ⟨12, _⟩ => ⟨S2048x768, .bf16⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S1x64, .f32⟩
  | .hbm, ⟨18, _⟩ => ⟨S1x64, .f32⟩
  | .hbm, ⟨19, _⟩ => ⟨S1x1, .f32⟩
  | .local _ .vmem, ⟨0, _⟩ => ⟨S2048x768, .f32⟩
  | .local _ .vmem, ⟨1, _⟩ => ⟨S12x2048x64, .bf16⟩
  | .local _ .vmem, ⟨2, _⟩ => ⟨S768x768, .bf16⟩
  | .local _ .vmem, ⟨3, _⟩ => ⟨S1x768, .f32⟩
  | .local _ .vmem, ⟨4, _⟩ => ⟨S1x768, .f32⟩
  | .local _ .vmem, ⟨5, _⟩ => ⟨S768x64, .f32⟩
  | .local _ .vmem, ⟨6, _⟩ => ⟨S1x64, .f32⟩
  | .local _ .vmem, ⟨7, _⟩ => ⟨S2048x768, .f32⟩
  | .local _ .vmem, ⟨8, _⟩ => ⟨S2048x768, .bf16⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S1x64, .f32⟩
  | .local _ .vmem, ⟨14, _⟩ => ⟨S1x64, .f32⟩
  | .local _ .vmem, ⟨15, _⟩ => ⟨S1x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev main_v4_8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S2048x768 : Shape := ⟨2, ![2048, 768]⟩
abbrev S12x2048x64 : Shape := ⟨3, ![12, 2048, 64]⟩
abbrev S768x768 : Shape := ⟨2, ![768, 768]⟩
abbrev S768 : Shape := ⟨1, ![768]⟩
abbrev S768x64 : Shape := ⟨2, ![768, 64]⟩
abbrev S64 : Shape := ⟨1, ![64]⟩
abbrev S2048x12x64 : Shape := ⟨3, ![2048, 12, 64]⟩
abbrev S1x768 : Shape := ⟨2, ![1, 768]⟩
abbrev S_ : Shape := ⟨0, ![]⟩
abbrev S2048 : Shape := ⟨1, ![2048]⟩
abbrev S2048x1 : Shape := ⟨2, ![2048, 1]⟩
abbrev S2048x64 : Shape := ⟨2, ![2048, 64]⟩
abbrev S1x64 : Shape := ⟨2, ![1, 64]⟩
abbrev S2048x2 : Shape := ⟨2, ![2048, 2]⟩
abbrev S2048x2x1 : Shape := ⟨3, ![2048, 2, 1]⟩
abbrev S1x1x64 : Shape := ⟨3, ![1, 1, 64]⟩
abbrev S2048x2x64 : Shape := ⟨3, ![2048, 2, 64]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S12x2048x64, .bf16⟩
  | .hbm, ⟨2, _⟩ => ⟨S768x768, .f32⟩
  | .hbm, ⟨3, _⟩ => ⟨S768, .f32⟩
  | .hbm, ⟨4, _⟩ => ⟨S768, .f32⟩
  | .hbm, ⟨5, _⟩ => ⟨S768x64, .f32⟩
  | .hbm, ⟨6, _⟩ => ⟨S64, .f32⟩
  | .hbm, ⟨7, _⟩ => ⟨S12x2048x64, .f32⟩
  | .hbm, ⟨8, _⟩ => ⟨S2048x12x64, .f32⟩
  | .hbm, ⟨9, _⟩ => ⟨S2048x768, .f32⟩
  | .hbm, ⟨10, _⟩ => ⟨S2048x768, .f32⟩
  | .hbm, ⟨11, _⟩ => ⟨S1x768, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S2048x768, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x768, .f32⟩
  | .hbm, ⟨27, _⟩ => ⟨S2048x768, .f32⟩
  | .hbm, ⟨28, _⟩ => ⟨S1x768, .f32⟩
  | .hbm, ⟨29, _⟩ => ⟨S2048x768, .f32⟩
  | .hbm, ⟨30, _⟩ => ⟨S2048x768, .f32⟩
  | .hbm, ⟨31, _⟩ => ⟨S2048x64, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x64, .f32⟩
  | .hbm, ⟨45, _⟩ => ⟨S2048x64, .f32⟩
  | .hbm, ⟨46, _⟩ => ⟨S1x64, .f32⟩
  | .hbm, ⟨47, _⟩ => ⟨S2048x64, .f32⟩
  | .hbm, ⟨48, _⟩ => ⟨S2048x64, .f32⟩
  | .hbm, ⟨49, _⟩ => ⟨S2048x2, .f32⟩
  | .hbm, ⟨50, _⟩ => ⟨S2048x2, .i32⟩
  | .hbm, ⟨51, _⟩ => ⟨S2048x2x1, .i32⟩
  | .hbm, ⟨52, _⟩ => ⟨S2048x2, .f32⟩
  | .hbm, ⟨53, _⟩ => ⟨S2048x2x1, .i32⟩
  | .hbm, ⟨54, _⟩ => ⟨S64, .i32⟩
  | .hbm, ⟨55, _⟩ => ⟨S1x1x64, .i32⟩
  | .hbm, ⟨56, _⟩ => ⟨S2048x2x64, .i32⟩
  | .hbm, ⟨57, _⟩ => ⟨S2048x2x64, .i32⟩
  | .hbm, ⟨58, _⟩ => ⟨S2048x2x64, .i1⟩
  | .hbm, ⟨59, _⟩ => ⟨S_, .f32⟩
  | .hbm, ⟨60, _⟩ => ⟨S_, .f32⟩
  | .hbm, ⟨61, _⟩ => ⟨S2048x2x64, .f32⟩
  | .hbm, ⟨62, _⟩ => ⟨S2048x2x64, .f32⟩
  | .hbm, ⟨63, _⟩ => ⟨S2048x2x64, .f32⟩
  | .hbm, ⟨64, _⟩ => ⟨S_, .f32⟩
  | .hbm, ⟨65, _⟩ => ⟨S2048x64, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S2048x768, .bf16⟩
  | .hbm, ⟨87, _⟩ => ⟨S2048x1, .f32⟩
  | .hbm, ⟨88, _⟩ => ⟨S2048x1, .f32⟩
  | .hbm, ⟨89, _⟩ => ⟨S1x64, .f32⟩
  | .hbm, ⟨90, _⟩ => ⟨S1x1, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_values : Ref sig .tc := ⟨.hbm, 49, rfl⟩
abbrev main_indices : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_cst_15 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== Kernel3.lean ====
abbrev S2048x768 : Shape := ⟨2, ![2048, 768]⟩
abbrev S768 : Shape := ⟨1, ![768]⟩
abbrev S768x2304 : Shape := ⟨2, ![768, 2304]⟩
abbrev S2304 : Shape := ⟨1, ![2304]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x12x64 : Shape := ⟨4, ![1, 2048, 12, 64]⟩
abbrev S768x768 : Shape := ⟨2, ![768, 768]⟩
abbrev S768x384x2 : Shape := ⟨3, ![768, 384, 2]⟩
abbrev S768x384x1 : Shape := ⟨3, ![768, 384, 1]⟩
abbrev S768x384 : Shape := ⟨2, ![768, 384]⟩
abbrev S768x3840 : Shape := ⟨2, ![768, 3840]⟩
abbrev S384x2 : Shape := ⟨2, ![384, 2]⟩
abbrev S384x1 : Shape := ⟨2, ![384, 1]⟩
abbrev S384 : Shape := ⟨1, ![384]⟩
abbrev S3840 : Shape := ⟨1, ![3840]⟩
abbrev S1x768 : Shape := ⟨2, ![1, 768]⟩
abbrev S1x3840 : Shape := ⟨2, ![1, 3840]⟩
abbrev S12x2048x64 : Shape := ⟨3, ![12, 2048, 64]⟩
abbrev S512x768 : Shape := ⟨2, ![512, 768]⟩
abbrev S12x512x64 : Shape := ⟨3, ![12, 512, 64]⟩
abbrev S512 : Shape := ⟨1, ![512]⟩
abbrev S512x1 : Shape := ⟨2, ![512, 1]⟩
abbrev S512x3840 : Shape := ⟨2, ![512, 3840]⟩
abbrev S512x64 : Shape := ⟨2, ![512, 64]⟩
abbrev S1x512x64 : Shape := ⟨3, ![1, 512, 64]⟩

abbrev nBuf : Space → Nat
  | .hbm => 91
  | .vmem => 15
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S768x2304, .f32⟩
  | .hbm, ⟨3, _⟩ => ⟨S2304, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32x2, .f32⟩
  | .hbm, ⟨29, _⟩ => ⟨S2048x64, .f32⟩
  | .hbm, ⟨30, _⟩ => ⟨S2048x32, .f32⟩
  | .hbm, ⟨31, _⟩ => ⟨S2048x32x2, .f32⟩
  | .hbm, ⟨32, _⟩ => ⟨S2048x64, .f32⟩
  | .hbm, ⟨33, _⟩ => ⟨S1x2048x1x64, .f32⟩
  | .hbm, ⟨34, _⟩ => ⟨S1x2048x12x64, .f32⟩
  | .hbm, ⟨35, _⟩ => ⟨S2048x768, .f32⟩
  | .hbm, ⟨36, _⟩ => ⟨S1x2048x1x64, .f32⟩
  | .hbm, ⟨37, _⟩ => ⟨S1x2048x12x64, .f32⟩
  | .hbm, ⟨38, _⟩ => ⟨S2048x768, .f32⟩
  | .hbm, ⟨39, _⟩ => ⟨S768x768, .f32⟩
  | .hbm, ⟨40, _⟩ => ⟨S768x768, .f32⟩
  | .hbm, ⟨41, _⟩ => ⟨S768x384x2, .f32⟩
  | .hbm, ⟨42, _⟩ => ⟨S768x384x1, .f32⟩
  | .hbm, ⟨43, _⟩ => ⟨S768x384, .f32⟩
  | .hbm, ⟨44, _⟩ => ⟨S768x384, .f32⟩
  | .hbm, ⟨45, _⟩ => ⟨S768x384x1, .f32⟩
  | .hbm, ⟨46, _⟩ => ⟨S768x384, .f32⟩
  | .hbm, ⟨47, _⟩ => ⟨S768x384x1, .f32⟩
  | .hbm, ⟨48, _⟩ => ⟨S768x384x1, .f32⟩
  | .hbm, ⟨49, _⟩ => ⟨S768x384x2, .f32⟩
  | .hbm, ⟨50, _⟩ => ⟨S768x768, .f32⟩
  | .hbm, ⟨51, _⟩ => ⟨S768x384x2, .f32⟩
  | .hbm, ⟨52, _⟩ => ⟨S768x384x1, .f32⟩
  | .hbm, ⟨53, _⟩ => ⟨S768x384, .f32⟩
  | .hbm, ⟨54, _⟩ => ⟨S768x384, .f32⟩
  | .hbm, ⟨55, _⟩ => ⟨S768x384x1, .f32⟩
  | .hbm, ⟨56, _⟩ => ⟨S768x384, .f32⟩
  | .hbm, ⟨57, _⟩ => ⟨S768x384x1, .f32⟩
  | .hbm, ⟨58, _⟩ => ⟨S768x384x1, .f32⟩
  | .hbm, ⟨59, _⟩ => ⟨S768x384x2, .f32⟩
  | .hbm, ⟨60, _⟩ => ⟨S768x768, .f32⟩
  | .hbm, ⟨61, _⟩ => ⟨S768x3840, .f32⟩
  | .hbm, ⟨62, _⟩ => ⟨S768x3840, .bf16⟩
  | .hbm, ⟨63, _⟩ => ⟨S768, .f32⟩
  | .hbm, ⟨64, _⟩ => ⟨S384x2, .f32⟩
  | .hbm, ⟨65, _⟩ => ⟨S384x1, .f32⟩
  | .hbm, ⟨66, _⟩ => ⟨S384, .f32⟩
  | .hbm, ⟨67, _⟩ => ⟨S384, .f32⟩
  | .hbm, ⟨68, _⟩ => ⟨S384x1, .f32⟩
  | .hbm, ⟨69, _⟩ => ⟨S384, .f32⟩
  | .hbm, ⟨70, _⟩ => ⟨S384x1, .f32⟩
  | .hbm, ⟨71, _⟩ => ⟨S384x1, .f32⟩
  | .hbm, ⟨72, _⟩ => ⟨S384x2, .f32⟩
  | .hbm, ⟨73, _⟩ => ⟨S768, .f32⟩
  | .hbm, ⟨74, _⟩ => ⟨S768, .f32⟩
  | .hbm, ⟨75, _⟩ => ⟨S384x2, .f32⟩
  | .hbm, ⟨76, _⟩ => ⟨S384x1, .f32⟩
  | .hbm, ⟨77, _⟩ => ⟨S384, .f32⟩
  | .hbm, ⟨78, _⟩ => ⟨S384, .f32⟩
  | .hbm, ⟨79, _⟩ => ⟨S384x1, .f32⟩
  | .hbm, ⟨80, _⟩ => ⟨S384, .f32⟩
  | .hbm, ⟨81, _⟩ => ⟨S384x1, .f32⟩
  | .hbm, ⟨82, _⟩ => ⟨S384x1, .f32⟩
  | .hbm, ⟨83, _⟩ => ⟨S384x2, .f32⟩
  | .hbm, ⟨84, _⟩ => ⟨S768, .f32⟩
  | .hbm, ⟨85, _⟩ => ⟨S3840, .f32⟩
  | .hbm, ⟨86, _⟩ => ⟨S1x768, .f32⟩
  | .hbm, ⟨87, _⟩ => ⟨S1x3840, .f32⟩
  | .hbm, ⟨88, _⟩ => ⟨S12x2048x64, .bf16⟩
  | .hbm, ⟨89, _⟩ => ⟨S12x2048x64, .bf16⟩
  | .hbm, ⟨90, _⟩ => ⟨S12x2048x64, .bf16⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S768x3840, .bf16⟩
  | .local _ .vmem, ⟨4, _⟩ => ⟨S1x3840, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S12x512x64, .bf16⟩
  | .local _ .vmem, ⟨10, _⟩ => ⟨S12x512x64, .bf16⟩
  | .local _ .vmem, ⟨11, _⟩ => ⟨S12x512x64, .bf16⟩
  | .local _ .vmem, ⟨12, _⟩ => ⟨S12x512x64, .bf16⟩
  | .local _ .vmem, ⟨13, _⟩ => ⟨S12x512x64, .bf16⟩
  | .local _ .vmem, ⟨14, _⟩ => ⟨S12x512x64, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79_0 : Ref sig .tc := ⟨.hbm, 88, rfl⟩
abbrev main_v79_1 : Ref sig .tc := ⟨.hbm, 89, rfl⟩
abbrev main_v79_2 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S12x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S12x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S2048x768 : Shape := ⟨2, ![2048, 768]⟩
abbrev S768 : Shape := ⟨1, ![768]⟩
abbrev S768x2304 : Shape := ⟨2, ![768, 2304]⟩
abbrev S2304 : Shape := ⟨1, ![2304]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x768 : Shape := ⟨2, ![1, 768]⟩
abbrev S2048x2304 : Shape := ⟨2, ![2048, 2304]⟩
abbrev S1x2304 : Shape := ⟨2, ![1, 2304]⟩
abbrev S2048x12x32x2 : Shape := ⟨4, ![2048, 12, 32, 2]⟩
abbrev S2048x12x32x1 : Shape := ⟨4, ![2048, 12, 32, 1]⟩
abbrev S2048x12x32 : Shape := ⟨3, ![2048, 12, 32]⟩
abbrev S2048x12x64 : Shape := ⟨3, ![2048, 12, 64]⟩
abbrev S12x2048x64 : Shape := ⟨3, ![12, 2048, 64]⟩

abbrev nBuf : Space → Nat
  | .hbm => 99
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768, .f32⟩
  | .hbm, ⟨2, _⟩ => ⟨S768x2304, .f32⟩
  | .hbm, ⟨3, _⟩ => ⟨S2304, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S2048, .f32⟩
  | .hbm, ⟨22, _⟩ => ⟨S2048x1, .f32⟩
  | .hbm, ⟨23, _⟩ => ⟨S1x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x1x32, .f32⟩
  | .hbm, ⟨29, _⟩ => ⟨S2048x32, .f32⟩
  | .hbm, ⟨30, _⟩ => ⟨S2048x1x32, .f32⟩
  | .hbm, ⟨31, _⟩ => ⟨S2048x768, .f32⟩
  | .hbm, ⟨32, _⟩ => ⟨S_, .f32⟩
  | .hbm, ⟨33, _⟩ => ⟨S2048, .f32⟩
  | .hbm, ⟨34, _⟩ => ⟨S2048x1, .f32⟩
  | .hbm, ⟨35, _⟩ => ⟨S_, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .f32⟩
  | .hbm, ⟨42, _⟩ => ⟨S2048x768, .f32⟩
  | .hbm, ⟨43, _⟩ => ⟨S2048x768, .f32⟩
  | .hbm, ⟨44, _⟩ => ⟨S1x768, .f32⟩
  | .hbm, ⟨45, _⟩ => ⟨S2048x768, .f32⟩
  | .hbm, ⟨46, _⟩ => ⟨S2048x768, .f32⟩
  | .hbm, ⟨47, _⟩ => ⟨S2048x2304, .f32⟩
  | .hbm, ⟨48, _⟩ => ⟨S1x2304, .f32⟩
  | .hbm, ⟨49, _⟩ => ⟨S2048x2304, .f32⟩
  | .hbm, ⟨50, _⟩ => ⟨S2048x2304, .f32⟩
  | .hbm, ⟨51, _⟩ => ⟨S2048x768, .f32⟩
  | .hbm, ⟨52, _⟩ => ⟨S2048x768, .f32⟩
  | .hbm, ⟨53, _⟩ => ⟨S2048x768, .f32⟩
  | .hbm, ⟨54, _⟩ => ⟨S2048x12x32x2, .f32⟩
  | .hbm, ⟨55, _⟩ => ⟨S2048x12x32x1, .f32⟩
  | .hbm, ⟨56, _⟩ => ⟨S2048x12x32, .f32⟩
  | .hbm, ⟨57, _⟩ => ⟨S2048x12x32x1, .f32⟩
  | .hbm, ⟨58, _⟩ => ⟨S2048x12x32, .f32⟩
  | .hbm, ⟨59, _⟩ => ⟨S2048x12x32, .f32⟩
  | .hbm, ⟨60, _⟩ => ⟨S2048x12x32, .f32⟩
  | .hbm, ⟨61, _⟩ => ⟨S2048x12x32, .f32⟩
  | .hbm, ⟨62, _⟩ => ⟨S2048x12x32, .f32⟩
  | .hbm, ⟨63, _⟩ => ⟨S2048x12x32, .f32⟩
  | .hbm, ⟨64, _⟩ => ⟨S2048x12x32, .f32⟩
  | .hbm, ⟨65, _⟩ => ⟨S2048x12x32, .f32⟩
  | .hbm, ⟨66, _⟩ => ⟨S2048x12x32, .f32⟩
  | .hbm, ⟨67, _⟩ => ⟨S2048x12x32, .f32⟩
  | .hbm, ⟨68, _⟩ => ⟨S2048x12x32, .f32⟩
  | .hbm, ⟨69, _⟩ => ⟨S2048x12x32x1, .f32⟩
  | .hbm, ⟨70, _⟩ => ⟨S2048x12x32x1, .f32⟩
  | .hbm, ⟨71, _⟩ => ⟨S2048x12x32x2, .f32⟩
  | .hbm, ⟨72, _⟩ => ⟨S2048x12x64, .f32⟩
  | .hbm, ⟨73, _⟩ => ⟨S12x2048x64, .f32⟩
  | .hbm, ⟨74, _⟩ => ⟨S12x2048x64, .bf16⟩
  | .hbm, ⟨75, _⟩ => ⟨S2048x12x32x2, .f32⟩
  | .hbm, ⟨76, _⟩ => ⟨S2048x12x32x1, .f32⟩
  | .hbm, ⟨77, _⟩ => ⟨S2048x12x32, .f32⟩
  | .hbm, ⟨78, _⟩ => ⟨S2048x12x32x1, .f32⟩
  | .hbm, ⟨79, _⟩ => ⟨S2048x12x32, .f32⟩
  | .hbm, ⟨80, _⟩ => ⟨S2048x12x32, .f32⟩
  | .hbm, ⟨81, _⟩ => ⟨S2048x12x32, .f32⟩
  | .hbm, ⟨82, _⟩ => ⟨S2048x12x32, .f32⟩
  | .hbm, ⟨83, _⟩ => ⟨S2048x12x32, .f32⟩
  | .hbm, ⟨84, _⟩ => ⟨S2048x12x32, .f32⟩
  | .hbm, ⟨85, _⟩ => ⟨S2048x12x32, .f32⟩
  | .hbm, ⟨86, _⟩ => ⟨S2048x12x32, .f32⟩
  | .hbm, ⟨87, _⟩ => ⟨S2048x12x32, .f32⟩
  | .hbm, ⟨88, _⟩ => ⟨S2048x12x32, .f32⟩
  | .hbm, ⟨89, _⟩ => ⟨S2048x12x32, .f32⟩
  | .hbm, ⟨90, _⟩ => ⟨S2048x12x32x1, .f32⟩
  | .hbm, ⟨91, _⟩ => ⟨S2048x12x32x1, .f32⟩
  | .hbm, ⟨92, _⟩ => ⟨S2048x12x32x2, .f32⟩
  | .hbm, ⟨93, _⟩ => ⟨S2048x12x64, .f32⟩
  | .hbm, ⟨94, _⟩ => ⟨S12x2048x64, .f32⟩
  | .hbm, ⟨95, _⟩ => ⟨S12x2048x64, .bf16⟩
  | .hbm, ⟨96, _⟩ => ⟨S2048x12x64, .f32⟩
  | .hbm, ⟨97, _⟩ => ⟨S12x2048x64, .f32⟩
  | .hbm, ⟨98, _⟩ => ⟨S12x2048x64, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩

abbrev nD : Nat := 1
abbrev τ : Topo := Topo.v7x

variable {F : FTy → Type} [FloatOps F]
-- ==== Kernel4.lean ====
abbrev S12x2048x64 : Shape := ⟨3, ![12, 2048, 64]⟩
abbrev S1x512x64 : Shape := ⟨3, ![1, 512, 64]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 4
  | .vmem => 11
  | .smem => 0
  | _ => 0

abbrev bufTy : (tb : Table) → Fin (tcTables nBuf tb) → BufTy
  | .hbm, ⟨0, _⟩ => ⟨S12x2048x64, .bf16⟩
  | .hbm, ⟨1, _⟩ => ⟨S12x2048x64, .bf16⟩
  | .hbm, ⟨2, _⟩ => ⟨S12x2048x64, .bf16⟩
  | .hbm, ⟨3, _⟩ => ⟨S12x2048x64, .bf16⟩
  | .local _ .vmem, ⟨0, _⟩ => ⟨S1x512x64, .bf16⟩
  | .local _ .vmem, ⟨1, _⟩ => ⟨S1x512x64, .bf16⟩
  | .local _ .vmem, ⟨2, _⟩ => ⟨S1x512x64, .bf16⟩
  | .local _ .vmem, ⟨3, _⟩ => ⟨S1x512x64, .bf16⟩
  | .local _ .vmem, ⟨4, _⟩ => ⟨S1x512x64, .bf16⟩
  | .local _ .vmem, ⟨5, _⟩ => ⟨S1x512x64, .bf16⟩
  | .local _ .vmem, ⟨6, _⟩ => ⟨S1x512x64, .bf16⟩
  | .local _ .vmem, ⟨7, _⟩ => ⟨S1x512x64, .bf16⟩
  | .local _ .vmem, ⟨8, _⟩ => ⟨S512x1, .f32⟩
  | .local _ .vmem, ⟨9, _⟩ => ⟨S512x1, .f32⟩
  | .local _ .vmem, ⟨10, _⟩ => ⟨S512x64, .f32⟩
  | _, _ => ⟨S12x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![12, 4, 4], ![false, false, false]⟩

def k0_cond1 (i : grid0.Coords) : BitVec 1 :=
  let arg2 : BitVec 32 := BitVec.ofNat 32 (i 2).val
  let arg1 : BitVec 32 := BitVec.ofNat 32 (i 1).val
  let v0 : BitVec 1 := Scalar.cmpi .sle arg2 arg1
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let arg1 : BitVec 32 := BitVec.ofNat 32 (i 1).val
  let v29 : BitVec 1 := Scalar.cmpi .eq arg2 arg1
  let v30 : BitVec 32 := Scalar.extui v29
  let c0_i32_13 : BitVec 32 := 0#32
  let v31 : BitVec 1 := Scalar.cmpi .ne v30 c0_i32_13
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel4Ideal.lean ====
variable {F : FTy → Type} [FloatOps F] [Named F]
def κ : String → Option EReal := fun
  | "mask" => some ⊥
  | _ => none
-- ==== Reference4Ideal.lean ====
abbrev S12x2048x64 : Shape := ⟨3, ![12, 2048, 64]⟩
abbrev S12x64x2048 : Shape := ⟨3, ![12, 64, 2048]⟩
abbrev S12x2048x2048 : Shape := ⟨3, ![12, 2048, 2048]⟩
abbrev S_ : Shape := ⟨0, ![]⟩
abbrev S2048x2048 : Shape := ⟨2, ![2048, 2048]⟩
abbrev S1x2048x2048 : Shape := ⟨3, ![1, 2048, 2048]⟩
abbrev S12x2048 : Shape := ⟨2, ![12, 2048]⟩
abbrev S12x2048x1 : Shape := ⟨3, ![12, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S12x2048x64, .bf16⟩
  | .hbm, ⟨1, _⟩ => ⟨S12x2048x64, .bf16⟩
  | .hbm, ⟨2, _⟩ => ⟨S12x2048x64, .bf16⟩
  | .hbm, ⟨3, _⟩ => ⟨S12x2048x64, .f32⟩
  | .hbm, ⟨4, _⟩ => ⟨S12x2048x64, .f32⟩
  | .hbm, ⟨5, _⟩ => ⟨S12x2048x64, .f32⟩
  | .hbm, ⟨6, _⟩ => ⟨S12x64x2048, .f32⟩
  | .hbm, ⟨7, _⟩ => ⟨S12x2048x2048, .f32⟩
  | .hbm, ⟨8, _⟩ => ⟨S_, .f32⟩
  | .hbm, ⟨9, _⟩ => ⟨S12x2048x2048, .f32⟩
  | .hbm, ⟨10, _⟩ => ⟨S12x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S1x2048x2048, .i1⟩
  | .hbm, ⟨23, _⟩ => ⟨S_, .f32⟩
  | .hbm, ⟨24, _⟩ => ⟨S12x2048x2048, .i1⟩
  | .hbm, ⟨25, _⟩ => ⟨S12x2048x2048, .f32⟩
  | .hbm, ⟨26, _⟩ => ⟨S12x2048x2048, .f32⟩
  | .hbm, ⟨27, _⟩ => ⟨S_, .f32⟩
  | .hbm, ⟨28, _⟩ => ⟨S12x2048, .f32⟩
  | .hbm, ⟨29, _⟩ => ⟨S_, .f32⟩
  | .hbm, ⟨30, _⟩ => ⟨S12x2048, .f32⟩
  | .hbm, ⟨31, _⟩ => ⟨S12x2048, .f32⟩
  | .hbm, ⟨32, _⟩ => ⟨S12x2048x1, .f32⟩
  | .hbm, ⟨33, _⟩ => ⟨S12x2048x2048, .f32⟩
  | .hbm, ⟨34, _⟩ => ⟨S12x2048x2048, .f32⟩
  | .hbm, ⟨35, _⟩ => ⟨S12x2048x2048, .f32⟩
  | .hbm, ⟨36, _⟩ => ⟨S_, .f32⟩
  | .hbm, ⟨37, _⟩ => ⟨S12x2048, .f32⟩
  | .hbm, ⟨38, _⟩ => ⟨S12x2048x1, .f32⟩
  | .hbm, ⟨39, _⟩ => ⟨S12x2048x2048, .f32⟩
  | .hbm, ⟨40, _⟩ => ⟨S12x2048x2048, .f32⟩
  | .hbm, ⟨41, _⟩ => ⟨S12x2048x64, .f32⟩
  | .hbm, ⟨42, _⟩ => ⟨S12x2048x64, .bf16⟩
  | _, _ => ⟨S12x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Proof.Table.lean ====
/-
  What the precondition `tables_fit` says of the table's words: every expert's first slot (eight times its first word) and its
  number of slots (its second word) are in range, and the experts' slots follow one another, the last ending a tile before
  the last slot.
-/
module

public import proofs.«01_k».proof.Proof.Gen.Pre_tables_fit
public import Idealize.ShloMosaic.Lib.Pipeline.Value

@[expose] public section

set_option maxRecDepth 16384

noncomputable section

namespace Cert.Table

open Idealize.ShloMosaic
open Cert.Pre_tables_fit

/-- Where the table keeps expert `e`'s first word, -/
def at1 (e : Fin 64) : S128.Idx := fun a => match a with | ⟨0, _⟩ => ⟨e.val, by have := e.isLt; show e.val < 128; omega⟩
/-- and its second. -/
def at2 (e : Fin 64) : S128.Idx := fun a => match a with | ⟨0, _⟩ => ⟨64 + e.val, by have := e.isLt; show 64 + e.val < 128; omega⟩

/-- The table's words are in range and the experts' slots follow one another. -/
structure Fits (t : IVec S128 32) : Prop where
  first : ∀ e : Fin 64, (t (at1 e)).toNat ≤ 568
  count : ∀ e : Fin 64, (t (at2 e)).toNat ≤ 4544
  next : ∀ e e' : Fin 64, e'.val = e.val + 1 → 8 * (t (at1 e)).toNat + (t (at2 e)).toNat ≤ 8 * (t (at1 e')).toNat
  last : ∀ e : Fin 64, 8 * (t (at1 e)).toNat + (t (at2 e)).toNat ≤ 4544

/-- A word between two nonnegative bounds, signed, is so as a number. -/
theorem word_le (w : BitVec 32) (n : ℕ) (hn : n < 2 ^ 31) (h0 : BitVec.sle 0#32 w = true) (h1 : BitVec.sle w (BitVec.ofNat 32 n) = true) :
    w.toNat ≤ n := by
  simp only [BitVec.sle, decide_eq_true_eq, BitVec.toInt, BitVec.toNat_ofNat] at h0 h1
  have := w.isLt
  omega

/-- The sum of eight times one word and another, in range, does not wrap. -/
theorem sum_toNat (v w : BitVec 32) (hv : v.toNat ≤ 568) (hw : w.toNat ≤ 4544) : (8#32 * v + w).toNat = 8 * v.toNat + w.toNat := by
  simp only [BitVec.toNat_add, BitVec.toNat_mul, BitVec.toNat_ofNat]
  omega

/-- Two small words compare as their numbers do. -/
theorem sle_small (v w : BitVec 32) (hv : v.toNat < 2 ^ 31) (hw : w.toNat < 2 ^ 31) (h : BitVec.sle v w = true) : v.toNat ≤ w.toNat := by
  simp only [BitVec.sle, decide_eq_true_eq, BitVec.toInt] at h
  omega

/-- A bit and a bit are one when both are. -/
theorem andi_ofBool (p q : Bool) : IntOp.andi (BitVec.ofBool p) (BitVec.ofBool q) = BitVec.ofBool (p && q) := by
  cases p <;> cases q <;> rfl
/-- A truth value's bit is one when it is true. -/
theorem ofBool_one (p : Bool) : BitVec.ofBool p = 1#1 ↔ p = true := by cases p <;> decide

/-- The table's words are in order where the precondition's first conjunct is all ones. -/
theorem fits_of {F : FTy → Type} [FloatOps F] (x0 : IVec S128 32) (x1 : FVec F S2048x768 .f32) (x2 : FVec F S2048x768 .bf16) (x3 x4 x5 x6 : FVec F S2048x1 .f32)
    (x7 : FVec F S64x768x1536 .f32) (x8 : FVec F S64x1536 .f32) (x9 : FVec F S64x1536x768 .f32) (x10 : FVec F S64x768 .f32) (x11 : FVec F S768x1536 .f32)
    (x12 : FVec F S1536 .f32) (x13 : FVec F S1536x768 .f32) (x14 : FVec F S768 .f32)
    (h : fn x0 x1 x2 x3 x4 x5 x6 x7 x8 x9 x10 x11 x12 x13 x14 = fun _ => 1#1) : Fits x0 := by
  have key : ∀ e : Fin 64, ((((BitVec.sle 0#32 (x0 (at1 e)) = true ∧ BitVec.sle (x0 (at1 e)) 568#32 = true) ∧ BitVec.sle 0#32 (x0 (at2 e)) = true)
      ∧ BitVec.sle (x0 (at2 e)) 4544#32 = true) ∧ BitVec.sle (8#32 * x0 (at1 e) + x0 (at2 e))
        (if h : e.val + 1 < 64 then 8#32 * x0 (at1 ⟨e.val + 1, h⟩) else 4544#32) = true) := by
    intro e
    have he := congrFun h (fun a => match a with | ⟨0, _⟩ => e)
    have s1 : (extractStridedSlice S64 ![0] x0 Facts.slices_S128_S64_0) (fun a => match a with | ⟨0, _⟩ => e) = x0 (at1 e) :=
      congrArg x0 (funext fun a => match a with | ⟨0, _⟩ => Fin.ext (Nat.zero_add _))
    have s2 : (extractStridedSlice S64 ![64] x0 Facts.slices_S128_S64_64) (fun a => match a with | ⟨0, _⟩ => e) = x0 (at2 e) :=
      congrArg x0 (funext fun a => match a with | ⟨0, _⟩ => rfl)
    have s3 : concatenate S64 0 [⟨S63, muli (broadcastInDim S63 ![] Facts.bcast_S_S63 (constantI S_ 32 8#32)) (extractStridedSlice S63 ![1] x0 Facts.slices_S128_S63_1)⟩,
        ⟨S1, broadcastInDim S1 ![] Facts.bcast_S_S1 (constantI S_ 32 4544#32)⟩] Facts.concatenates_S63_S1_S64_d0 (fun a => match a with | ⟨0, _⟩ => e)
        = if h : e.val + 1 < 64 then 8#32 * x0 (at1 ⟨e.val + 1, h⟩) else 4544#32 := by
      by_cases h1 : e.val + 1 < 64
      · rw [dif_pos h1]
        refine (concatenate_pair_apply_left (0 : Fin S64.rank) _ _ Facts.concatenates_S63_S1_S64_d0 _ rfl
          (fun a => match a with | ⟨0, _⟩ => ⟨e.val, by show e.val < 63; omega⟩) (fun b => match b with | ⟨0, _⟩ => rfl)).trans ?_
        exact congrArg (fun w => 8#32 * w) (congrArg x0 (funext fun a => match a with | ⟨0, _⟩ => Fin.ext (Nat.add_comm 1 _)))
      · rw [dif_neg h1]
        refine (concatenate_pair_apply_right (0 : Fin S64.rank) _ _ Facts.concatenates_S63_S1_S64_d0 _ rfl rfl
          (fun a => match a with | ⟨0, _⟩ => ⟨0, by show 0 < 1; omega⟩) (fun b hb => match b, hb with | ⟨0, _⟩, hb => absurd rfl hb) ?_).trans rfl
        have := e.isLt
        show 0 + 63 = e.val
        omega
    simp only [fn, fn_part1, andi, cmpi, muli, addi, s1, s2] at he
    rw [s3] at he
    simp only [broadcastInDim, constantI, IntOp.cmpi, IntOp.muli, IntOp.addi, andi_ofBool, ofBool_one, Bool.and_eq_true] at he
    exact he
  have h1 : ∀ e : Fin 64, (x0 (at1 e)).toNat ≤ 568 := fun e => word_le _ 568 (by omega) (key e).1.1.1.1 (key e).1.1.1.2
  have h2 : ∀ e : Fin 64, (x0 (at2 e)).toNat ≤ 4544 := fun e => word_le _ 4544 (by omega) (key e).1.1.2 (key e).1.2
  have h3 : ∀ e e' : Fin 64, e'.val = e.val + 1 → 8 * (x0 (at1 e)).toNat + (x0 (at2 e)).toNat ≤ 8 * (x0 (at1 e')).toNat := by
    intro e e' hs
    have hk := (key e).2
    have hlt : e.val + 1 < 64 := hs ▸ e'.isLt
    obtain rfl : e' = ⟨e.val + 1, hlt⟩ := Fin.ext hs
    rw [dif_pos hlt] at hk
    have hv := h1 e; have hw := h2 e; have hv' := h1 ⟨e.val + 1, hlt⟩
    have e1 := sum_toNat _ _ hv hw
    have e2 : (8#32 * x0 (at1 ⟨e.val + 1, hlt⟩)).toNat = 8 * (x0 (at1 ⟨e.val + 1, hlt⟩)).toNat := by
      simp only [BitVec.toNat_mul, BitVec.toNat_ofNat]; omega
    have := sle_small _ _ (by omega) (by omega) hk
    omega
  refine ⟨h1, h2, h3, fun e => ?_⟩
  by_cases hlt : e.val + 1 < 64
  · have := h3 e ⟨e.val + 1, hlt⟩ rfl
    have := h1 ⟨e.val + 1, hlt⟩
    omega
  · have hk := (key e).2
    rw [dif_neg hlt] at hk
    have hv := h1 e; have hw := h2 e
    have e1 := sum_toNat _ _ hv hw
    have := sle_small _ 4544#32 (by omega) (by decide) hk
    have e2 : (4544#32).toNat = 4544 := by decide
    omega

end Cert.Table

end
-- ==== Proof.KernelIdeal.Words.lean ====
/-
  The machine words by which the expert region finds its rows: from an expert's first row (in units of eight rows) and its number
  of rows, how often its loop runs and where each trip's 128 rows start. The second loop, which takes the trips left over by
  unrolling, never runs. With them the region's own check of the two words it reads.
-/
module

public import proofs.«01_k».proof.KernelIdeal
public import Idealize.ShloMosaic.Lib.WordCmp

@[expose] public section

set_option maxRecDepth 16384

namespace Cert.KernelIdeal.Words

open Cert.KernelIdeal
open Idealize.ShloMosaic

/-- For every possible number of rows: the trips of the first loop, that both loops have a meaning, and that the second has no trip. -/
theorem loops_small : ∀ n : Fin 4545, (k1_t1_loop (BitVec.ofNat 32 n.val)).trips = (n.val + 127) / 128
    ∧ (k1_t1_loop (BitVec.ofNat 32 n.val)).OK ∧ (k1_t2_loop (BitVec.ofNat 32 n.val)).OK
    ∧ (k1_t2_loop (BitVec.ofNat 32 n.val)).trips = 0 := by decide +kernel

/-- The same of a word whose value is in the range. -/
theorem loops_word (v4 : BitVec 32) (h : v4.toNat ≤ 4544) : (k1_t1_loop v4).trips = (v4.toNat + 127) / 128
    ∧ (k1_t1_loop v4).OK ∧ (k1_t2_loop v4).OK ∧ (k1_t2_loop v4).trips = 0 := by
  have e : v4 = BitVec.ofNat 32 v4.toNat := by simp
  have := loops_small ⟨v4.toNat, by omega⟩
  dsimp only at this
  rwa [← e] at this

/-- The number of trips over an expert's rows, -/
theorem trips1 (v4 : BitVec 32) (h : v4.toNat ≤ 4544) : (k1_t1_loop v4).trips = (v4.toNat + 127) / 128 := (loops_word v4 h).1
/-- and that the second loop has none. -/
theorem trips2 (v4 : BitVec 32) (h : v4.toNat ≤ 4544) : (k1_t2_loop v4).trips = 0 := (loops_word v4 h).2.2.2

/-- Where trip `k` starts: the expert's first row, eight times its word, and 128 rows for each trip before. -/
theorem off3_row (v1 v4 : BitVec 32) (h1 : v1.toNat ≤ 568) (h4 : v4.toNat ≤ 4544) (k : Fin (k1_t1_loop v4).trips) :
    k1_off3 v1 v4 k = ![8 * v1.toNat + 128 * k.val, 0] := by
  have hk : k.val < (v4.toNat + 127) / 128 := (trips1 v4 h4) ▸ k.isLt
  have e : (k1_off3 v1 v4 k) 0 = 8 * v1.toNat + 128 * k.val := by
    simp only [k1_off3, Scf.iv, Scalar.muli, Scalar.addi, Scalar.indexCast, IntOp.muli, IntOp.addi, Matrix.cons_val_zero]
    simp only [BitVec.toNat_add, BitVec.toNat_mul, BitVec.toNat_ofNat]
    omega
  funext a
  match a with
  | 0 => exact e
  | 1 => rfl

/-- The region's check of the two words: the rows of every trip lie in the 4672 and start at a multiple of eight. -/
theorem check (v1 v4 : BitVec 32) (h1 : v1.toNat ≤ 568) (h : 8 * v1.toNat + v4.toNat ≤ 4544) : k1_chk1 v1 v4 := by
  have h4 : v4.toNat ≤ 4544 := by omega
  obtain ⟨ht, hok1, hok2, ht2⟩ := loops_word v4 h4
  refine ⟨hok1, ?_, ?_, hok2, ?_, ?_⟩
  · intro k a
    have hk : k.val < (v4.toNat + 127) / 128 := ht ▸ k.isLt
    rw [off3_row v1 v4 h1 h4 k]
    match a with
    | 0 => show 8 * v1.toNat + 128 * k.val + 128 ≤ 4672; omega
    | 1 => show 0 + 768 ≤ 768; omega
  · intro k hinb
    refine .inr ⟨by decide, rfl, .inl ⟨?_, ?_⟩⟩
    swap
    · show 2 ∣ 128; decide
    show 2 ∣ k1_off3 v1 v4 k 0
    rw [off3_row v1 v4 h1 h4 k]
    show 2 ∣ 8 * v1.toNat + 128 * k.val
    omega
  · intro k; exact absurd (Nat.lt_of_lt_of_eq k.isLt ht2) (Nat.not_lt_zero _)
  · intro k; exact absurd (Nat.lt_of_lt_of_eq k.isLt ht2) (Nat.not_lt_zero _)

end Cert.KernelIdeal.Words
-- ==== Proof.KernelIdeal.Shared.lean ====
/-
  The shared-expert region: one row block of 512 tokens at each of four points. What its body computes on any staging
  buffers, its proof data over any contents at entry, and the body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysT
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, core by core
variable (V : Dev nD → Valuation τ sig (Elt F))

/-- What the body stores in its output block: the residual rows plus the shared expert on them. -/
def out (x0 : Vec F S512x768 .f32) (x1 : Vec F S512x768 .bf16) (x2 : Vec F S768x1536 .bf16) (x3 : Vec F S1x1536 .f32) (x4 : Vec F S1536x768 .bf16) (x5 : Vec F S1x768 .f32) : Vec F S512x768 .f32 :=
  k0_pay1 x1 x2 x3 x0 x4 x5

set_option maxHeartbeats 1000000 in
/-- The body on whole staging buffers: the inputs stay as they are, the output holds `out` of them. -/
theorem sound_kernel (c : Dev nD) (E : Set ℕ) (i : grid0.Coords) (arg1 : Memref sig .tc .vmem S512x768 .f32) (harg1 : arg1.IsWhole) (arg2 : Memref sig .tc .vmem S512x768 .bf16) (harg2 : arg2.IsWhole) (arg3 : Memref sig .tc .vmem S768x1536 .bf16) (harg3 : arg3.IsWhole) (arg4 : Memref sig .tc .vmem S1x1536 .f32) (harg4 : arg4.IsWhole) (arg5 : Memref sig .tc .vmem S1536x768 .bf16) (harg5 : arg5.IsWhole) (arg6 : Memref sig .tc .vmem S1x768 .f32) (harg6 : arg6.IsWhole) (arg7 : Memref sig .tc .vmem S512x768 .f32) (harg7 : arg7.IsWhole)
    (x0 : Vec F S512x768 .f32) (x1 : Vec F S512x768 .bf16) (x2 : Vec F S768x1536 .bf16) (x3 : Vec F S1x1536 .f32) (x4 : Vec F S1536x768 .bf16) (x5 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out x0 x1 x2 x3 x4 x5)) -∗ K ⟨⟩))
      ⊢ wp frame (wpE (defs₀ (F := F)) Variants.none c none) E (cc0__shared_kernel i arg1 harg1 arg2 harg2 arg3 harg3 arg4 harg4 arg5 harg5 arg6 harg6 arg7 harg7) K := by
  simp only [cc0__shared_kernel_eq_skeleton]; unfold cc0__shared_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  rw [View.read_writes_full]
  unfold out
  congr 1
  · exact (View.readAt_full _ _ _).trans hf1
  · exact (View.readAt_full _ _ _).trans hf2
  · exact (View.readAt_full _ _ _).trans hf3
  · exact (View.readAt_full _ _ _).trans hf0
  · exact (View.readAt_full _ _ _).trans hf4
  · exact (View.readAt_full _ _ _).trans hf5

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data on core `c`: the arrays as the region finds them; after the body at point `t` each input's buffer at its block and the
    result's at the value named above; the invariant is the scoped buffers no window stages; nothing is owed; full shares. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out (iblk V c 0 t) (iblk V c 1 t) (iblk V c 2 t) (iblk V c 3 t) (iblk V c 4 t) (iblk V c 5 t)
  Φ _ := Pipeline.scopedRest spec0 c
  q _ := fullShare
  owed _ := 0

/-- The proof data's arrays are the contents at entry. -/
theorem A_eq (c : Dev nD) (w : Fin cfg0.W) : (dat V c).A w = V c (Proc.devRef .tc (Pipeline.arrRef spec0 w)) := by
  dsimp only [dat]

/-- What the body leaves in window 0. -/
theorem after_0 (c : Dev nD) (t : Fin cfg0.N) : (dat V c).after 0 t = iblk V c 0 t := by dsimp only [dat]
/-- What the body leaves in window 1. -/
theorem after_1 (c : Dev nD) (t : Fin cfg0.N) : (dat V c).after 1 t = iblk V c 1 t := by dsimp only [dat]
/-- What the body leaves in window 2. -/
theorem after_2 (c : Dev nD) (t : Fin cfg0.N) : (dat V c).after 2 t = iblk V c 2 t := by dsimp only [dat]
/-- What the body leaves in window 3. -/
theorem after_3 (c : Dev nD) (t : Fin cfg0.N) : (dat V c).after 3 t = iblk V c 3 t := by dsimp only [dat]
/-- What the body leaves in window 4. -/
theorem after_4 (c : Dev nD) (t : Fin cfg0.N) : (dat V c).after 4 t = iblk V c 4 t := by dsimp only [dat]
/-- What the body leaves in window 5. -/
theorem after_5 (c : Dev nD) (t : Fin cfg0.N) : (dat V c).after 5 t = iblk V c 5 t := by dsimp only [dat]
/-- What the body leaves in window 6. -/
theorem after_6 (c : Dev nD) (t : Fin cfg0.N) : (dat V c).after 6 t = out (iblk V c 0 t) (iblk V c 1 t) (iblk V c 2 t) (iblk V c 3 t) (iblk V c 4 t) (iblk V c 5 t) := by dsimp only [dat]

/-- Input window 0's staging buffer holds its block at every point, fetched there or not. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's staging buffer holds its block at every point, fetched there or not. -/
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's staging buffer holds its block at every point, fetched there or not. -/
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's staging buffer holds its block at every point, fetched there or not. -/
theorem before_3 (c : Dev nD) (t : Fin cfg0.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's staging buffer holds its block at every point, fetched there or not. -/
theorem before_4 (c : Dev nD) (t : Fin cfg0.N) (d) : (dat V c).before 4 t d = iblk V c 4 t :=
  ((dat V c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's staging buffer holds its block at every point, fetched there or not. -/
theorem before_5 (c : Dev nD) (t : Fin cfg0.N) (d) : (dat V c).before 5 t d = iblk V c 5 t :=
  ((dat V c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- What the body is called with at point `t`, window by window. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- What the body returns at point `t`, window by window. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Shared

end
-- ==== Proof.KernelIdeal.Moe.lean ====
/-
  The expert region: at point `e` the rows of expert `e` are computed 128 at a time and written into the one block of expert rows,
  which the first point clears. How often the inner loop runs and where it writes is read from a table of words. What the
  body computes on any staging buffers, the region's proof data over any contents at entry, and the body obligation.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.KernelIdeal.Words
public import Idealize.ShloMosaic.Lib.Pipeline.FrameBody
public import Idealize.ShloMosaic.Lib.Pipeline.RegionArraysT
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows trip `k` writes, from the values the body has read before the loop. -/
def tile (v1 v4 : BitVec 32) (v10 : FVec F S768x1536 .f32) (v12 : FVec F S1536x768 .f32) (v14 : FVec F S1x1536 .f32) (v16 : FVec F S1x768 .f32) (v17 : Vec F S2048x1 .f32) (v18 : Vec F S2048x1 .f32) (v20 : FVec F S2048x1 .bf16) (v22 : FVec F S2048x1 .bf16) (v24 : F .f32) (x0 : Vec F S2048x768 .bf16) (k : Fin (k1_t1_loop v4).trips) : Vec F S128x768 .bf16 :=
  k1_pay1 (k1_pay7 v1 v4 v10 v12 v14 v16 v17 v18 v24 0#32 1#32 k x0) (k1_pay8 v1 v4 v17 v18 v20 v22 v24 0#32 1#32 k)

/-- The block of expert rows after `n` trips: each trip's rows put in at its place, over the block the loop found. -/
def rows (v1 v4 : BitVec 32) (v10 : FVec F S768x1536 .f32) (v12 : FVec F S1536x768 .f32) (v14 : FVec F S1x1536 .f32) (v16 : FVec F S1x768 .f32) (v17 : Vec F S2048x1 .f32) (v18 : Vec F S2048x1 .f32) (v20 : FVec F S2048x1 .bf16) (v22 : FVec F S2048x1 .bf16) (v24 : F .f32) (x0 : Vec F S2048x768 .bf16) (prev : Vec F S4672x768 .bf16) : ℕ → Vec F S4672x768 .bf16
  | 0 => prev
  | n + 1 => if h : n < (k1_t1_loop v4).trips then
      VecWindow.put (rows v1 v4 v10 v12 v14 v16 v17 v18 v20 v22 v24 x0 prev n) (k1_off3 v1 v4 ⟨n, h⟩) S128x768.size (tile v1 v4 v10 v12 v14 v16 v17 v18 v20 v22 v24 x0 ⟨n, h⟩)
    else rows v1 v4 v10 v12 v14 v16 v17 v18 v20 v22 v24 x0 prev n

/-- One trip writes one piece: its rows at its place. -/
theorem pieces_trip (c : Dev nD) (bd : Option Variants.none.V) (i : grid1.Coords) (arg1 : Memref sig .tc .smem S128 .i32) (harg1 : arg1.IsWhole) (arg2 : Memref sig .tc .vmem S2048x768 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S1x768x1536 .f32) (harg7 : arg7.IsWhole) (arg8 : Memref sig .tc .vmem S1x1x1536 .f32) (harg8 : arg8.IsWhole) (arg9 : Memref sig .tc .vmem S1x1536x768 .f32) (harg9 : arg9.IsWhole) (arg10 : Memref sig .tc .vmem S1x1x768 .f32) (harg10 : arg10.IsWhole) (arg11 : Memref sig .tc .vmem S4672x768 .bf16) (harg11 : arg11.IsWhole)
    (v1 v4 : BitVec 32) (hw : k1_chk1 v1 v4) (v10 : FVec F S768x1536 .f32) (v12 : FVec F S1536x768 .f32) (v14 : FVec F S1x1536 .f32) (v16 : FVec F S1x768 .f32) (v17 : Vec F S2048x1 .f32) (v18 : Vec F S2048x1 .f32) (v20 : FVec F S2048x1 .bf16) (v22 : FVec F S2048x1 .bf16) (v24 : F .f32) (X : BufTy.Contents (Elt F) arg2.view.ty) (k : Fin (k1_t1_loop v4).trips) :
    tripL_k1_t1 (F := F) Variants.none c bd i arg1 harg1 arg2 harg2 arg3 harg3 arg4 harg4 arg5 harg5 arg6 harg6 arg7 harg7 arg8 harg8 arg9 harg9 arg10 harg10 arg11 harg11 v1 v4 hw v10 v12 v14 v16 v17 v18 v20 v22 v24 X k
      = [⟨Rect.unit (k1_off3 v1 v4 k) S128x768.size (k1_off3_inb v1 v4 hw k), tile v1 v4 v10 v12 v14 v16 v17 v18 v20 v22 v24 (arg2.view.readAt (Elt F) (Rect.unit (s := S2048x768) ![0, 0] S2048x768.size inb_S2048x768_S2048x768_0_0).toLoadRect X) k⟩] := by
  unfold tripL_k1_t1 trip_k1_t1
  rfl

/-- What the block of expert rows holds after `n` trips. -/
theorem read_trips (c : Dev nD) (bd : Option Variants.none.V) (i : grid1.Coords) (arg1 : Memref sig .tc .smem S128 .i32) (harg1 : arg1.IsWhole) (arg2 : Memref sig .tc .vmem S2048x768 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S1x768x1536 .f32) (harg7 : arg7.IsWhole) (arg8 : Memref sig .tc .vmem S1x1x1536 .f32) (harg8 : arg8.IsWhole) (arg9 : Memref sig .tc .vmem S1x1536x768 .f32) (harg9 : arg9.IsWhole) (arg10 : Memref sig .tc .vmem S1x1x768 .f32) (harg10 : arg10.IsWhole) (arg11 : Memref sig .tc .vmem S4672x768 .bf16) (harg11 : arg11.IsWhole)
    (v1 v4 : BitVec 32) (hw : k1_chk1 v1 v4) (v10 : FVec F S768x1536 .f32) (v12 : FVec F S1536x768 .f32) (v14 : FVec F S1x1536 .f32) (v16 : FVec F S1x768 .f32) (v17 : Vec F S2048x1 .f32) (v18 : Vec F S2048x1 .f32) (v20 : FVec F S2048x1 .bf16) (v22 : FVec F S2048x1 .bf16) (v24 : F .f32) (X : BufTy.Contents (Elt F) arg2.view.ty) (G : BufTy.Contents (Elt F) arg11.view.ty) (n : ℕ) (hn : n ≤ (k1_t1_loop v4).trips) :
    arg11.view.read (Elt F) (arg11.view.writes (Elt F) G (pb_k1_t1 (F := F) Variants.none c bd i arg1 harg1 arg2 harg2 arg3 harg3 arg4 harg4 arg5 harg5 arg6 harg6 arg7 harg7 arg8 harg8 arg9 harg9 arg10 harg10 arg11 harg11 v1 v4 hw v10 v12 v14 v16 v17 v18 v20 v22 v24 X n))
      = rows v1 v4 v10 v12 v14 v16 v17 v18 v20 v22 v24 (arg2.view.read (Elt F) X) (arg11.view.read (Elt F) G) n := by
  induction n with
  | zero => rfl
  | succ n ih =>
    rw [pb_k1_t1_succ Variants.none c bd i arg1 harg1 arg2 harg2 arg3 harg3 arg4 harg4 arg5 harg5 arg6 harg6 arg7 harg7 arg8 harg8 arg9 harg9 arg10 harg10 arg11 harg11 v1 v4 hw v10 v12 v14 v16 v17 v18 v20 v22 v24 X ⟨n, hn⟩, pieces_trip, List.singleton_append,
      View.read_writes_cons_put _ _ _ _ _ rfl, ih (Nat.le_of_succ_le hn)]
    have e : arg2.view.readAt (Elt F) (Rect.unit (s := S2048x768) ![0, 0] S2048x768.size inb_S2048x768_S2048x768_0_0).toLoadRect X = arg2.view.read (Elt F) X := View.readAt_full _ _ _
    rw [e, rows.eq_2, dif_pos (show n < (k1_t1_loop v4).trips from hn)]

/-- The block of expert rows from equal values. -/
theorem rows_congr {v1 v4 : BitVec 32} {v10 v10' : FVec F S768x1536 .f32} {v12 v12' : FVec F S1536x768 .f32} {v14 v14' : FVec F S1x1536 .f32} {v16 v16' : FVec F S1x768 .f32} {v17 v17' : Vec F S2048x1 .f32} {v18 v18' : Vec F S2048x1 .f32} {v20 v20' : FVec F S2048x1 .bf16} {v22 v22' : FVec F S2048x1 .bf16} {v24 : F .f32}
    {x0 x0' : Vec F S2048x768 .bf16} {prev prev' : Vec F S4672x768 .bf16} {n : ℕ}
    (h10 : v10 = v10') (h12 : v12 = v12') (h14 : v14 = v14') (h16 : v16 = v16') (h17 : v17 = v17') (h18 : v18 = v18') (h20 : v20 = v20') (h22 : v22 = v22') (h0 : x0 = x0') (hp : prev = prev') :
    rows v1 v4 v10 v12 v14 v16 v17 v18 v20 v22 v24 x0 prev n = rows v1 v4 v10' v12' v14' v16' v17' v18' v20' v22' v24 x0' prev' n := by
  subst h10 h12 h14 h16 h17 h18 h20 h22 h0 hp; rfl

/-- The second loop writes nothing. -/
theorem pieces_second (c : Dev nD) (bd : Option Variants.none.V) (i : grid1.Coords) (arg1 : Memref sig .tc .smem S128 .i32) (harg1 : arg1.IsWhole) (arg2 : Memref sig .tc .vmem S2048x768 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S1x768x1536 .f32) (harg7 : arg7.IsWhole) (arg8 : Memref sig .tc .vmem S1x1x1536 .f32) (harg8 : arg8.IsWhole) (arg9 : Memref sig .tc .vmem S1x1536x768 .f32) (harg9 : arg9.IsWhole) (arg10 : Memref sig .tc .vmem S1x1x768 .f32) (harg10 : arg10.IsWhole) (arg11 : Memref sig .tc .vmem S4672x768 .bf16) (harg11 : arg11.IsWhole)
    (v1 v4 : BitVec 32) (hw : k1_chk1 v1 v4) (v10 : FVec F S768x1536 .f32) (v12 : FVec F S1536x768 .f32) (v14 : FVec F S1x1536 .f32) (v16 : FVec F S1x768 .f32) (v17 : Vec F S2048x1 .f32) (v18 : Vec F S2048x1 .f32) (v20 : FVec F S2048x1 .bf16) (v22 : FVec F S2048x1 .bf16) (v24 : F .f32) (v48 : BitVec 32) (X : BufTy.Contents (Elt F) arg2.view.ty) (n : ℕ) (h : n = 0) :
    pb_k1_t2 (F := F) Variants.none c bd i arg1 harg1 arg2 harg2 arg3 harg3 arg4 harg4 arg5 harg5 arg6 harg6 arg7 harg7 arg8 harg8 arg9 harg9 arg10 harg10 arg11 harg11 v1 v4 hw v10 v12 v14 v16 v17 v18 v20 v22 v24 v48 X n = [] := by
  subst h; rfl

/-- The table of words as the body is handed it. -/
abbrev tbM : Memref sig .tc .smem S128 .i32 := Memref.whole main_arg0
/-- Contents of the table on core `c`, -/
abbrev TbBuf (c : Dev nD) {S : Shape} {e : EltTy} (M : Memref sig .tc .smem S e) : Type := Buf (Elt F) (M.view.loc (c : Thread nD τ))
/-- and the table held at them. -/
abbrev tbPt (c : Dev nD) {S : Shape} {e : EltTy} (M : Memref sig .tc .smem S e) (f : TbBuf (F := F) c M) : sProp 𝕄 :=
  M.view.loc (c : Thread nD τ) ↦{fullShare} f

/-- The first word point `i` reads: the expert's first row, in units of eight rows, -/
abbrev word1 (c : Dev nD) (i : grid1.Coords) (xt : TbBuf (F := F) c tbM) : BitVec 32 :=
  tbM.view.readAt (Elt F) (Rect.unit (s := S128) (k1_off1 i) S1.size (k1_off1_inb i)).toLoadRect xt (Shape.Idx.first (numel1_S1.symm ▸ Nat.one_pos))
/-- and the second: the expert's number of rows. -/
abbrev word2 (c : Dev nD) (i : grid1.Coords) (xt : TbBuf (F := F) c tbM) : BitVec 32 :=
  tbM.view.readAt (Elt F) (Rect.unit (s := S128) (k1_off2 i) S1.size (k1_off2_inb i)).toLoadRect xt (Shape.Idx.first (numel1_S1.symm ▸ Nat.one_pos))

/-- The block of expert rows after a point's whole loop, from the point's blocks, its two words and the block it finds. -/
def stepRows (v1 v4 : BitVec 32) (x0 : Vec F S2048x768 .bf16) (x1 : Vec F S2048x1 .f32) (x2 : Vec F S2048x1 .f32) (x3 : Vec F S2048x1 .f32) (x4 : Vec F S2048x1 .f32) (x5 : Vec F S1x768x1536 .f32) (x6 : Vec F S1x1x1536 .f32) (x7 : Vec F S1x1536x768 .f32) (x8 : Vec F S1x1x768 .f32) (prev : Vec F S4672x768 .bf16) : Vec F S4672x768 .bf16 :=
  rows v1 v4 (k1_pay16 x5) (k1_pay17 x7) (k1_pay18 x6) (k1_pay19 x8) x1 x2 (k1_pay20 x3) (k1_pay21 x4) (k1_pay22 v1 v4) x0 prev (k1_t1_loop v4).trips

/-- The condition under which the block is cleared, -/
abbrev cond (i : grid1.Coords) : Prop := (Scalar.cmpi .ne (Scalar.extui (Scalar.cmpi .eq (BitVec.ofNat 32 (i 0).val) 0#32)) 0#32) = 1#1
/-- which holds at point 0 only. -/
theorem hcond : ∀ t : Fin grid1.N, cond (grid1.coords t) ↔ t.val % 64 = 0 :=
  fun t => by
    have ht : t.val < 64 := Nat.lt_of_lt_of_eq t.isLt N_1
    have e0 : (grid1.coords t 0).val = t.val / 1 % 64 := Pipeline.Grid.coords_val t 0 (by decide) rfl
    simp only [cond, e0]
    word_cmp

set_option maxHeartbeats 2000000 in
/-- The body at the first point: whatever the block of expert rows held, it then holds the first expert's rows over zeros. -/
theorem sound_first (c : Dev nD) (E : Set ℕ) (i : grid1.Coords) (arg2 : Memref sig .tc .vmem S2048x768 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S1x768x1536 .f32) (harg7 : arg7.IsWhole) (arg8 : Memref sig .tc .vmem S1x1x1536 .f32) (harg8 : arg8.IsWhole) (arg9 : Memref sig .tc .vmem S1x1536x768 .f32) (harg9 : arg9.IsWhole) (arg10 : Memref sig .tc .vmem S1x1x768 .f32) (harg10 : arg10.IsWhole) (arg11 : Memref sig .tc .vmem S4672x768 .bf16) (harg11 : arg11.IsWhole) (hc : cond i)
    (x0 : Vec F S2048x768 .bf16) (x1 : Vec F S2048x1 .f32) (x2 : Vec F S2048x1 .f32) (x3 : Vec F S2048x1 .f32) (x4 : Vec F S2048x1 .f32) (x5 : Vec F S1x768x1536 .f32) (x6 : Vec F S1x1x1536 .f32) (x7 : Vec F S1x1536x768 .f32) (x8 : Vec F S1x1x768 .f32) (xt : TbBuf (F := F) c tbM) (hw : k1_chk1 (word1 c i xt) (word2 c i xt)) (h2 : (k1_t2_loop (word2 c i xt)).trips = 0) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (stepRows (word1 c i xt) (word2 c i xt) x0 x1 x2 x3 x4 x5 x6 x7 x8 (k1_pay15 : FVec F S4672x768 .bf16)) ∗ tbPt c tbM xt) -∗ K ⟨⟩))
      ⊢ wp frame (wpE (defs₀ (F := F)) Variants.none c none) E (cc1__moe_kernel i tbM (Memref.isWhole_whole _) arg2 harg2 arg3 harg3 arg4 harg4 arg5 harg5 arg6 harg6 arg7 harg7 arg8 harg8 arg9 harg9 arg10 harg10 arg11 harg11) K := by
  simp only [cc1__moe_kernel_eq_skeleton]; unfold cc1__moe_kernel_skel
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc | sl_exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    refine (congrArg (fun L => arg11.view.read (Elt F) (arg11.view.writes (Elt F) _ (L ++ _))) (pieces_second (F := F) _ _ _ _ _ _ _ _ _ _ _ _ _ _ _ _ _ _ _ _ _ _ _ _ _ _ _ _ _ _ _ _ _ _ _ _ _ _ _ _ h2)).trans ?_
    rw [List.nil_append, View.writes_append]
    refine (read_trips (F := F) _ _ _ _ _ _ _ _ _ _ _ _ _ _ _ _ _ _ _ _ _ _ _ _ _ _ _ _ _ _ _ _ _ _ _ _ _ _ _ _ (Nat.le_refl _)).trans ?_
    exact rows_congr (congrArg k1_pay16 ((View.readAt_full _ _ _).trans hf5)) (congrArg k1_pay17 ((View.readAt_full _ _ _).trans hf7))
      (congrArg k1_pay18 ((View.readAt_full _ _ _).trans hf6)) (congrArg k1_pay19 ((View.readAt_full _ _ _).trans hf8))
      ((View.readAt_full _ _ _).trans hf1) ((View.readAt_full _ _ _).trans hf2) (congrArg k1_pay20 ((View.readAt_full _ _ _).trans hf3))
      (congrArg k1_pay21 ((View.readAt_full _ _ _).trans hf4)) hf0 (View.read_writes_full _ _ _ _ _)
  iexact HT

set_option maxHeartbeats 2000000 in
/-- The body at a later point: the block of expert rows gains that expert's rows. -/
theorem sound_later (c : Dev nD) (E : Set ℕ) (i : grid1.Coords) (arg2 : Memref sig .tc .vmem S2048x768 .bf16) (harg2 : arg2.IsWhole) (arg3 : Memref sig .tc .vmem S2048x1 .f32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S1x768x1536 .f32) (harg7 : arg7.IsWhole) (arg8 : Memref sig .tc .vmem S1x1x1536 .f32) (harg8 : arg8.IsWhole) (arg9 : Memref sig .tc .vmem S1x1536x768 .f32) (harg9 : arg9.IsWhole) (arg10 : Memref sig .tc .vmem S1x1x768 .f32) (harg10 : arg10.IsWhole) (arg11 : Memref sig .tc .vmem S4672x768 .bf16) (harg11 : arg11.IsWhole) (hc : ¬cond i)
    (x0 : Vec F S2048x768 .bf16) (x1 : Vec F S2048x1 .f32) (x2 : Vec F S2048x1 .f32) (x3 : Vec F S2048x1 .f32) (x4 : Vec F S2048x1 .f32) (x5 : Vec F S1x768x1536 .f32) (x6 : Vec F S1x1x1536 .f32) (x7 : Vec F S1x1536x768 .f32) (x8 : Vec F S1x1x768 .f32) (x9 : Vec F S4672x768 .bf16) (xt : TbBuf (F := F) c tbM) (hw : k1_chk1 (word1 c i xt) (word2 c i xt)) (h2 : (k1_t2_loop (word2 c i xt)).trips = 0) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ tbPt c tbM xt
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (stepRows (word1 c i xt) (word2 c i xt) x0 x1 x2 x3 x4 x5 x6 x7 x8 x9) ∗ tbPt c tbM xt) -∗ K ⟨⟩))
      ⊢ wp frame (wpE (defs₀ (F := F)) Variants.none c none) E (cc1__moe_kernel i tbM (Memref.isWhole_whole _) arg2 harg2 arg3 harg3 arg4 harg4 arg5 harg5 arg6 harg6 arg7 harg7 arg8 harg8 arg9 harg9 arg10 harg10 arg11 harg11) K := by
  simp only [cc1__moe_kernel_eq_skeleton]; unfold cc1__moe_kernel_skel
  simp only [k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, HT, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc | sl_exact hw)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    refine (congrArg (fun L => arg11.view.read (Elt F) (arg11.view.writes (Elt F) _ (L ++ _))) (pieces_second (F := F) _ _ _ _ _ _ _ _ _ _ _ _ _ _ _ _ _ _ _ _ _ _ _ _ _ _ _ _ _ _ _ _ _ _ _ _ _ _ _ _ h2)).trans ?_
    refine (read_trips (F := F) _ _ _ _ _ _ _ _ _ _ _ _ _ _ _ _ _ _ _ _ _ _ _ _ _ _ _ _ _ _ _ _ _ _ _ _ _ _ _ _ (Nat.le_refl _)).trans ?_
    exact rows_congr (congrArg k1_pay16 ((View.readAt_full _ _ _).trans hf5)) (congrArg k1_pay17 ((View.readAt_full _ _ _).trans hf7))
      (congrArg k1_pay18 ((View.readAt_full _ _ _).trans hf6)) (congrArg k1_pay19 ((View.readAt_full _ _ _).trans hf8))
      ((View.readAt_full _ _ _).trans hf1) ((View.readAt_full _ _ _).trans hf2) (congrArg k1_pay20 ((View.readAt_full _ _ _).trans hf3))
      (congrArg k1_pay21 ((View.readAt_full _ _ _).trans hf4)) hf0 hf9
  iexact HT

-- the buffers' contents when the region is entered, core by core, and the table's
variable (V : Dev nD → Valuation τ sig (Elt F)) (a : (pcfg1 (F := F)).Adm)

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Proc.devRef .tc (Pipeline.arrRef spec1 w)))

/-- A point's whole loop over the block it finds. -/
def stepAt (c : Dev nD) (t : Fin (cfg1 a).N) (prev : Vec F S4672x768 .bf16) : Vec F S4672x768 .bf16 :=
  stepRows (word1 c (grid1.coords t) (a.1 0)) (word2 c (grid1.coords t) (a.1 0)) (iblk V a c 0 t) (iblk V a c 1 t) (iblk V a c 2 t) (iblk V a c 3 t) (iblk V a c 4 t) (iblk V a c 5 t) (iblk V a c 6 t) (iblk V a c 7 t) (iblk V a c 8 t) prev

/-- The block of expert rows after point `n`: the first expert's rows over zeros, then each expert's rows over what was there. -/
def hsAt (c : Dev nD) : (n : ℕ) → n < (cfg1 a).N → Vec F S4672x768 .bf16
  | 0, h => stepAt V a c ⟨0, h⟩ (k1_pay15 : FVec F S4672x768 .bf16)
  | n + 1, h => stepAt V a c ⟨n + 1, h⟩ (hsAt c n (Nat.lt_of_succ_lt h))

/-- The proof data on core `c`: the arrays as the region finds them; after the body at point `t` each input's buffer at its block and the
    block of expert rows at the value named above; the invariant is the scoped buffers no window stages and the table; nothing is owed; full shares. -/
def dat (c : Dev nD) : Dat τ (Elt F) Unit ℕ (UR sig nD τ) ℕ (cfg1 a) c where
  A w := V c (Proc.devRef .tc (Pipeline.arrRef spec1 w))
  after w t := match w with
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => iblk V a c 7 t
    | ⟨8, _⟩ => iblk V a c 8 t
    | ⟨9, _⟩ => hsAt V a c t.val t.isLt
  Φ _ := iprop(Pipeline.scopedRest spec1 c ∗ Pipeline.prefHeld pre1 c (fun _ => fullShare) a.1)
  q _ := fullShare
  owed _ := 0

/-- The table as the body holds it. -/
theorem table_eq (c : Dev nD) : (Pipeline.prefHeld pre1 c (fun _ => fullShare) a.1 : sProp 𝕄) = iprop(tbPt c tbM (a.1 0)) := by
  unfold Pipeline.prefHeld
  rw [show (Finset.univ : Finset (Fin 1)) = {(0 : Fin 1)} from by decide, bigSep_singleton]
  rfl

/-- The proof data's arrays are the contents at entry. -/
theorem A_eq (c : Dev nD) (w : Fin (cfg1 a).W) : (dat V a c).A w = V c (Proc.devRef .tc (Pipeline.arrRef spec1 w)) := by
  dsimp only [dat]

/-- What the body leaves in window 0. -/
theorem after_0 (c : Dev nD) (t : Fin (cfg1 a).N) : (dat V a c).after 0 t = iblk V a c 0 t := by dsimp only [dat]; try rfl
/-- What the body leaves in window 1. -/
theorem after_1 (c : Dev nD) (t : Fin (cfg1 a).N) : (dat V a c).after 1 t = iblk V a c 1 t := by dsimp only [dat]; try rfl
/-- What the body leaves in window 2. -/
theorem after_2 (c : Dev nD) (t : Fin (cfg1 a).N) : (dat V a c).after 2 t = iblk V a c 2 t := by dsimp only [dat]; try rfl
/-- What the body leaves in window 3. -/
theorem after_3 (c : Dev nD) (t : Fin (cfg1 a).N) : (dat V a c).after 3 t = iblk V a c 3 t := by dsimp only [dat]; try rfl
/-- What the body leaves in window 4. -/
theorem after_4 (c : Dev nD) (t : Fin (cfg1 a).N) : (dat V a c).after 4 t = iblk V a c 4 t := by dsimp only [dat]; try rfl
/-- What the body leaves in window 5. -/
theorem after_5 (c : Dev nD) (t : Fin (cfg1 a).N) : (dat V a c).after 5 t = iblk V a c 5 t := by dsimp only [dat]; try rfl
/-- What the body leaves in window 6. -/
theorem after_6 (c : Dev nD) (t : Fin (cfg1 a).N) : (dat V a c).after 6 t = iblk V a c 6 t := by dsimp only [dat]; try rfl
/-- What the body leaves in window 7. -/
theorem after_7 (c : Dev nD) (t : Fin (cfg1 a).N) : (dat V a c).after 7 t = iblk V a c 7 t := by dsimp only [dat]; try rfl
/-- What the body leaves in window 8. -/
theorem after_8 (c : Dev nD) (t : Fin (cfg1 a).N) : (dat V a c).after 8 t = iblk V a c 8 t := by dsimp only [dat]; try rfl
/-- What the body leaves in the block of expert rows. -/
theorem after_9 (c : Dev nD) (t : Fin (cfg1 a).N) : (dat V a c).after 9 t = hsAt V a c t.val t.isLt := by dsimp only [dat]; try rfl

/-- Input window 0's staging buffer holds its block at every point, fetched there or not. -/
theorem before_0 (c : Dev nD) (t : Fin (cfg1 a).N) (d) : (dat V a c).before 0 t d = iblk V a c 0 t :=
  ((dat V a c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's staging buffer holds its block at every point, fetched there or not. -/
theorem before_1 (c : Dev nD) (t : Fin (cfg1 a).N) (d) : (dat V a c).before 1 t d = iblk V a c 1 t :=
  ((dat V a c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's staging buffer holds its block at every point, fetched there or not. -/
theorem before_2 (c : Dev nD) (t : Fin (cfg1 a).N) (d) : (dat V a c).before 2 t d = iblk V a c 2 t :=
  ((dat V a c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's staging buffer holds its block at every point, fetched there or not. -/
theorem before_3 (c : Dev nD) (t : Fin (cfg1 a).N) (d) : (dat V a c).before 3 t d = iblk V a c 3 t :=
  ((dat V a c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input window 4's staging buffer holds its block at every point, fetched there or not. -/
theorem before_4 (c : Dev nD) (t : Fin (cfg1 a).N) (d) : (dat V a c).before 4 t d = iblk V a c 4 t :=
  ((dat V a c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input window 5's staging buffer holds its block at every point, fetched there or not. -/
theorem before_5 (c : Dev nD) (t : Fin (cfg1 a).N) (d) : (dat V a c).before 5 t d = iblk V a c 5 t :=
  ((dat V a c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Input window 6's staging buffer holds its block at every point, fetched there or not. -/
theorem before_6 (c : Dev nD) (t : Fin (cfg1 a).N) (d) : (dat V a c).before 6 t d = iblk V a c 6 t :=
  ((dat V a c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
/-- Input window 7's staging buffer holds its block at every point, fetched there or not. -/
theorem before_7 (c : Dev nD) (t : Fin (cfg1 a).N) (d) : (dat V a c).before 7 t d = iblk V a c 7 t :=
  ((dat V a c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
/-- Input window 8's staging buffer holds its block at every point, fetched there or not. -/
theorem before_8 (c : Dev nD) (t : Fin (cfg1 a).N) (d) : (dat V a c).before 8 t d = iblk V a c 8 t :=
  ((dat V a c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-- The block of expert rows is written back after the last point only. -/
theorem flush_9 : ∀ t : Fin (cfg1 a).N, ((cfg1 a).win 9).flush t = true ↔ t.val % 64 = 63 :=
  (fun t => Pipeline.Window.flushOf_const cc1_transform_9 (fun _ _ => rfl) (n := 64) (by decide) rfl t : ∀ t : Fin grid1.N, Pipeline.Window.flushOf grid1 true cc1_transform_9 t = true ↔ t.val % 64 = 63)

/-- From point 1 on the block of expert rows holds what the point before left. -/
theorem before_9 (c : Dev nD) (n : ℕ) (h : n + 1 < (cfg1 a).N) (d) : (dat V a c).before 9 ⟨n + 1, h⟩ d = hsAt V a c n (Nat.lt_of_succ_lt h) := by
  rw [Dat.before_out_acc _ 9 rfl ⟨n + 1, h⟩ (Nat.succ_ne_zero n) (hlive := fun _ => rfl) (hfl := by
    have h4 : n + 1 < 64 := Nat.lt_of_lt_of_eq h N_1
    rw [Bool.eq_false_iff]
    intro hf
    have := (flush_9 a _).mp hf
    dsimp only at this
    omega)]
  exact after_9 V a c _

/-- The body as point `t` runs it. -/
abbrev bodyAt (t : Fin (cfg1 a).N) : Prog (TpuEff nD τ sig (Elt F) Λ₀ .tc) PUnit :=
  cc1__moe_kernel (grid1.coords t) tbM (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (spec1_8.stage ((cfg1 a).slots t 8)) (hstage1_8 (((cfg1 a).slots t 8).cast nbuf1_8)) (spec1_9.stage ((cfg1 a).slots t 9)) (hstage1_9 (((cfg1 a).slots t 9).cast nbuf1_9))

/-- What the body is called with at point `t`, window by window. -/
def bodyPre (c : Dev nD) (t : Fin (cfg1 a).N) : sProp 𝕄 :=
  iprop((dat V a c).Φ t.castSucc ∗ (dat V a c).owesAt () t.castSucc
    ∗ (∃ d, owns (c : Thread nD τ) (spec1_0.stage ((cfg1 a).slots t 0)) fullShare ((dat V a c).before 0 t d))
    ∗ (∃ d, owns (c : Thread nD τ) (spec1_1.stage ((cfg1 a).slots t 1)) fullShare ((dat V a c).before 1 t d))
    ∗ (∃ d, owns (c : Thread nD τ) (spec1_2.stage ((cfg1 a).slots t 2)) fullShare ((dat V a c).before 2 t d))
    ∗ (∃ d, owns (c : Thread nD τ) (spec1_3.stage ((cfg1 a).slots t 3)) fullShare ((dat V a c).before 3 t d))
    ∗ (∃ d, owns (c : Thread nD τ) (spec1_4.stage ((cfg1 a).slots t 4)) fullShare ((dat V a c).before 4 t d))
    ∗ (∃ d, owns (c : Thread nD τ) (spec1_5.stage ((cfg1 a).slots t 5)) fullShare ((dat V a c).before 5 t d))
    ∗ (∃ d, owns (c : Thread nD τ) (spec1_6.stage ((cfg1 a).slots t 6)) fullShare ((dat V a c).before 6 t d))
    ∗ (∃ d, owns (c : Thread nD τ) (spec1_7.stage ((cfg1 a).slots t 7)) fullShare ((dat V a c).before 7 t d))
    ∗ (∃ d, owns (c : Thread nD τ) (spec1_8.stage ((cfg1 a).slots t 8)) fullShare ((dat V a c).before 8 t d))
    ∗ (∃ d, owns (c : Thread nD τ) (spec1_9.stage ((cfg1 a).slots t 9)) fullShare ((dat V a c).before 9 t d)))

/-- What the body returns at point `t`, window by window. -/
def bodyPost (c : Dev nD) (t : Fin (cfg1 a).N) : sProp 𝕄 :=
  iprop((dat V a c).Φ t.succ ∗ (dat V a c).owesAt () t.succ
    ∗ owns (c : Thread nD τ) (spec1_0.stage ((cfg1 a).slots t 0)) fullShare ((dat V a c).after 0 t)
    ∗ owns (c : Thread nD τ) (spec1_1.stage ((cfg1 a).slots t 1)) fullShare ((dat V a c).after 1 t)
    ∗ owns (c : Thread nD τ) (spec1_2.stage ((cfg1 a).slots t 2)) fullShare ((dat V a c).after 2 t)
    ∗ owns (c : Thread nD τ) (spec1_3.stage ((cfg1 a).slots t 3)) fullShare ((dat V a c).after 3 t)
    ∗ owns (c : Thread nD τ) (spec1_4.stage ((cfg1 a).slots t 4)) fullShare ((dat V a c).after 4 t)
    ∗ owns (c : Thread nD τ) (spec1_5.stage ((cfg1 a).slots t 5)) fullShare ((dat V a c).after 5 t)
    ∗ owns (c : Thread nD τ) (spec1_6.stage ((cfg1 a).slots t 6)) fullShare ((dat V a c).after 6 t)
    ∗ owns (c : Thread nD τ) (spec1_7.stage ((cfg1 a).slots t 7)) fullShare ((dat V a c).after 7 t)
    ∗ owns (c : Thread nD τ) (spec1_8.stage ((cfg1 a).slots t 8)) fullShare ((dat V a c).after 8 t)
    ∗ owns (c : Thread nD τ) (spec1_9.stage ((cfg1 a).slots t 9)) fullShare ((dat V a c).after 9 t))

/-- What the two words of every point must satisfy: the body's own check of them, and that nothing is left for the second loop. -/
def WordsOk : Prop := ∀ (c : Dev nD) (t : Fin (cfg1 a).N),
  k1_chk1 (word1 c (grid1.coords t) (a.1 0)) (word2 c (grid1.coords t) (a.1 0)) ∧ (k1_t2_loop (word2 c (grid1.coords t) (a.1 0))).trips = 0

set_option maxHeartbeats 1600000 in
/-- The body at any point. -/
theorem sound_body (hW : WordsOk a) (c : Dev nD) (t : Fin (cfg1 a).N) :
    bodyPre V a c t ⊢ wp frame (wpE (defs₀ (F := F)) Variants.none c none) Set.univ (bodyAt a t) (fun _ => bodyPost V a c t) := by
  unfold bodyPre bodyPost bodyAt
  rw [show (dat V a c).Φ t.succ = (dat V a c).Φ t.castSucc from rfl,
    show (dat V a c).owesAt () t.succ = (dat V a c).owesAt () t.castSucc from rfl,
    after_0, after_1, after_2, after_3, after_4, after_5, after_6, after_7, after_8, after_9]
  rw [show (dat V a c).Φ t.castSucc = iprop(Pipeline.scopedRest spec1 c ∗ Pipeline.prefHeld pre1 c (fun _ => fullShare) a.1) from rfl, table_eq]
  simp only [before_0, before_1, before_2, before_3, before_4, before_5, before_6, before_7, before_8]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain ⟨n, hn⟩ := t
  cases n with
  | zero =>
    iapply (sound_first c Set.univ (grid1.coords ⟨0, hn⟩) _ _ _ _ _ _ _ _ _ _ _ _ _ _ _ _ _ _ _ _ ((hcond ⟨0, hn⟩).mpr rfl) (iblk V a c 0 ⟨0, hn⟩) (iblk V a c 1 ⟨0, hn⟩) (iblk V a c 2 ⟨0, hn⟩) (iblk V a c 3 ⟨0, hn⟩) (iblk V a c 4 ⟨0, hn⟩) (iblk V a c 5 ⟨0, hn⟩) (iblk V a c 6 ⟨0, hn⟩) (iblk V a c 7 ⟨0, hn⟩) (iblk V a c 8 ⟨0, hn⟩) (a.1 0) (hW c ⟨0, hn⟩).1 (hW c ⟨0, hn⟩).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HT]; · iexact HT
    iintro ⟨H0, H1, H2, H3, H4, H5, H6, H7, H8, H9, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  | succ n =>
    rw [before_9]
    have h4 : n + 1 < 64 := Nat.lt_of_lt_of_eq hn N_1
    iapply (sound_later c Set.univ (grid1.coords ⟨n + 1, hn⟩) _ _ _ _ _ _ _ _ _ _ _ _ _ _ _ _ _ _ _ _ (fun h => by have := (hcond ⟨n + 1, hn⟩).mp h; dsimp only at this; omega) (iblk V a c 0 ⟨n + 1, hn⟩) (iblk V a c 1 ⟨n + 1, hn⟩) (iblk V a c 2 ⟨n + 1, hn⟩) (iblk V a c 3 ⟨n + 1, hn⟩) (iblk V a c 4 ⟨n + 1, hn⟩) (iblk V a c 5 ⟨n + 1, hn⟩) (iblk V a c 6 ⟨n + 1, hn⟩) (iblk V a c 7 ⟨n + 1, hn⟩) (iblk V a c 8 ⟨n + 1, hn⟩) _ (a.1 0) (hW c ⟨n + 1, hn⟩).1 (hW c ⟨n + 1, hn⟩).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HT]; · iexact HT
    iintro ⟨H0, H1, H2, H3, H4, H5, H6, H7, H8, H9, HT⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body. -/
theorem defs₀_row (t : Fin (cfg1 a).N) :
    defs₀ (F := F) .tc (cfg1 a).body ((cfg1 a).bodyArgs t ((cfg1 a).slots t)) = bodyAt a t := by
  unfold defs₀; rw [Defs.onTc_tc]

/-- The body obligation at every point. -/
theorem body_obligation (hW : WordsOk a) (c : Dev nD) : BodyObligation (dat (F := F) V a c) (defs₀ (F := F)) Variants.none () Set.univ := fun t => by
  rw [bigSep_W1, bigSep_W1, defs₀_row]
  exact triple_restated (sound_body V a hW c t) rfl .rfl fun _ => .rfl

end Cert.KernelIdeal.Moe

end
-- ==== Proof.KernelIdeal.Scatter.lean ====
/-
  The scattering region: the expert rows are added onto the residual rows, one chunk of 1168 expert rows at each of four points,
  accumulating in the result block. What its body computes on any staging buffers, its proof data over any contents at
  entry, and the body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionArraysT
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered, core by core
variable (V : Dev nD → Valuation τ sig (Elt F))

/-- The first point's condition, -/
abbrev cond1 (i : grid2.Coords) : Prop := k2_cond1 i = 1#1
/-- which holds at point 0 only. -/
theorem hcond1 : ∀ t : Fin cfg2.N, cond1 (grid2.coords t) ↔ t.val % 4 = 0 :=
  (fun t => by
    have ht : t.val < 4 := Nat.lt_of_lt_of_eq t.isLt N_2
    have e0 : (grid2.coords t 0).val = t.val / 1 % 4 := Pipeline.Grid.coords_val t 0 (by decide) rfl
    simp only [cond1, k2_cond1, e0]
    word_cmp
   : ∀ t : Fin grid2.N, cond1 (grid2.coords t) ↔ t.val % 4 = 0)
/-- The later points' condition, -/
abbrev cond2 (i : grid2.Coords) : Prop := k2_cond2 i = 1#1
/-- which holds from point 1 on. -/
theorem hcond2 : ∀ t : Fin cfg2.N, cond2 (grid2.coords t) ↔ 1 ≤ t.val :=
  (by decide +kernel : ∀ t : Fin grid2.N, cond2 (grid2.coords t) ↔ 1 ≤ t.val)

set_option maxHeartbeats 1000000 in
/-- The body at the first point: the output block holds the residual block plus the first chunk's rows, whatever it held before. -/
theorem sound_first (c : Dev nD) (E : Set ℕ) (i : grid2.Coords) (arg1 : Memref sig .tc .vmem S2048x1 .f32) (harg1 : arg1.IsWhole) (arg2 : Memref sig .tc .vmem S2048x1 .f32) (harg2 : arg2.IsWhole) (arg3 : Memref sig .tc .vmem S1168x768 .bf16) (harg3 : arg3.IsWhole) (arg4 : Memref sig .tc .vmem S2048x768 .f32) (harg4 : arg4.IsWhole) (arg5 : Memref sig .tc .vmem S2048x768 .f32) (harg5 : arg5.IsWhole) (hc1 : cond1 i) (hc2 : ¬cond2 i)
    (x0 : Vec F S2048x1 .f32) (x1 : Vec F S2048x1 .f32) (x2 : Vec F S1168x768 .bf16) (x3 : Vec F S2048x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay2 i x0 x1 x2 x3)) -∗ K ⟨⟩))
      ⊢ wp frame (wpE (defs₀ (F := F)) Variants.none c none) E (cc2__scatter_kernel i arg1 harg1 arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [View.read_writes_full]
  congr 1
  · exact (View.readAt_full _ _ _).trans hf0
  · exact (View.readAt_full _ _ _).trans hf1
  · exact (View.readAt_full _ _ _).trans hf2
  · exact (View.readAt_full _ _ _).trans hf3

set_option maxHeartbeats 1000000 in
/-- The body at a later point: the output block gains that chunk's rows. -/
theorem sound_later (c : Dev nD) (E : Set ℕ) (i : grid2.Coords) (arg1 : Memref sig .tc .vmem S2048x1 .f32) (harg1 : arg1.IsWhole) (arg2 : Memref sig .tc .vmem S2048x1 .f32) (harg2 : arg2.IsWhole) (arg3 : Memref sig .tc .vmem S1168x768 .bf16) (harg3 : arg3.IsWhole) (arg4 : Memref sig .tc .vmem S2048x768 .f32) (harg4 : arg4.IsWhole) (arg5 : Memref sig .tc .vmem S2048x768 .f32) (harg5 : arg5.IsWhole) (hc1 : ¬cond1 i) (hc2 : cond2 i)
    (x0 : Vec F S2048x1 .f32) (x1 : Vec F S2048x1 .f32) (x2 : Vec F S1168x768 .bf16) (x3 : Vec F S2048x768 .f32) (x4 : Vec F S2048x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay3 i x0 x1 x2 x4)) -∗ K ⟨⟩))
      ⊢ wp frame (wpE (defs₀ (F := F)) Variants.none c none) E (cc2__scatter_kernel i arg1 harg1 arg2 harg2 arg3 harg3 arg4 harg4 arg5 harg5) K := by
  simp only [cc2__scatter_kernel_eq_skeleton]; unfold cc2__scatter_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [View.read_writes_full]
  congr 1
  · exact (View.readAt_full _ _ _).trans hf0
  · exact (View.readAt_full _ _ _).trans hf1
  · exact (View.readAt_full _ _ _).trans hf2
  · exact (View.readAt_full _ _ _).trans hf4

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The result block after point `n`: the first chunk's rows on the residual block at point 0, then each chunk's rows on what was there. -/
def acc (c : Dev nD) : (n : ℕ) → n < cfg2.N → Vec F S2048x768 .f32
  | 0, h => k2_pay2 (grid2.coords ⟨0, h⟩) (iblk V c 0 ⟨0, h⟩) (iblk V c 1 ⟨0, h⟩) (iblk V c 2 ⟨0, h⟩) (iblk V c 3 ⟨0, h⟩)
  | n + 1, h => k2_pay3 (grid2.coords ⟨n + 1, h⟩) (iblk V c 0 ⟨n + 1, h⟩) (iblk V c 1 ⟨n + 1, h⟩) (iblk V c 2 ⟨n + 1, h⟩) (acc c n (Nat.lt_of_succ_lt h))

/-- The proof data on core `c`: the arrays as the region finds them; after the body at point `t` each input's buffer at its block and the
    result's at the value named above; the invariant is the scoped buffers no window stages; nothing is owed; full shares. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => iblk V c 3 t
    | ⟨4, _⟩ => acc V c t.val t.isLt
  Φ _ := Pipeline.scopedRest spec2 c
  q _ := fullShare
  owed _ := 0

/-- The proof data's arrays are the contents at entry. -/
theorem A_eq (c : Dev nD) (w : Fin cfg2.W) : (dat V c).A w = V c (Proc.devRef .tc (Pipeline.arrRef spec2 w)) := by
  dsimp only [dat]

/-- What the body leaves in window 0. -/
theorem after_0 (c : Dev nD) (t : Fin cfg2.N) : (dat V c).after 0 t = iblk V c 0 t := by dsimp only [dat]
/-- What the body leaves in window 1. -/
theorem after_1 (c : Dev nD) (t : Fin cfg2.N) : (dat V c).after 1 t = iblk V c 1 t := by dsimp only [dat]
/-- What the body leaves in window 2. -/
theorem after_2 (c : Dev nD) (t : Fin cfg2.N) : (dat V c).after 2 t = iblk V c 2 t := by dsimp only [dat]
/-- What the body leaves in window 3. -/
theorem after_3 (c : Dev nD) (t : Fin cfg2.N) : (dat V c).after 3 t = iblk V c 3 t := by dsimp only [dat]
/-- What the body leaves in window 4. -/
theorem after_4 (c : Dev nD) (t : Fin cfg2.N) : (dat V c).after 4 t = acc V c t.val t.isLt := by dsimp only [dat]

/-- Input window 0's staging buffer holds its block at every point, fetched there or not. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input window 1's staging buffer holds its block at every point, fetched there or not. -/
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input window 2's staging buffer holds its block at every point, fetched there or not. -/
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input window 3's staging buffer holds its block at every point, fetched there or not. -/
theorem before_3 (c : Dev nD) (t : Fin cfg2.N) (d) : (dat V c).before 3 t d = iblk V c 3 t :=
  ((dat V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- The output block is written at every point. -/
theorem live_4 : ∀ i : grid2.Coords, cfg2.idle 4 i = false := by decide +kernel

/-- From point 1 on the output block holds what the point before left. -/
theorem before_4 (c : Dev nD) (n : ℕ) (h : n + 1 < cfg2.N) (d) : (dat V c).before 4 ⟨n + 1, h⟩ d = acc V c n (Nat.lt_of_succ_lt h) := by
  rw [Dat.before_out_acc _ 4 rfl ⟨n + 1, h⟩ (Nat.succ_ne_zero n) (hlive := live_4) (hfl := by
    have h4 : n + 1 < 4 := Nat.lt_of_lt_of_eq h N_2
    rw [Bool.eq_false_iff]
    intro hf
    have := (flush2_4 _).mp hf
    dsimp only at this
    omega)]
  exact after_4 V c _

/-- What the body is called with at point `t`, window by window. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- What the body returns at point `t`, window by window. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  rw [show (dat V c).Φ t.succ = (dat V c).Φ t.castSucc from rfl,
    show (dat V c).owesAt () t.succ = (dat V c).owesAt () t.castSucc from rfl,
    after_0, after_1, after_2, after_3, after_4]
  simp only [before_0, before_1, before_2, before_3]
  iintro ⟨HΦ, Ho, ⟨%d0, H0⟩, ⟨%d1, H1⟩, ⟨%d2, H2⟩, ⟨%d3, H3⟩, ⟨%d4, H4⟩⟩
  obtain ⟨n, hn⟩ := t
  cases n with
  | zero =>
    iapply (sound_first c Set.univ (grid2.coords ⟨0, hn⟩) _ _ _ _ _ _ _ _ _ _ ((hcond1 ⟨0, hn⟩).mpr rfl) (fun h => by have := (hcond2 ⟨0, hn⟩).mp h; simp at this) (iblk V c 0 ⟨0, hn⟩) (iblk V c 1 ⟨0, hn⟩) (iblk V c 2 ⟨0, hn⟩) (iblk V c 3 ⟨0, hn⟩) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  | succ n =>
    rw [before_4]
    have h4 : n + 1 < 4 := Nat.lt_of_lt_of_eq hn N_2
    iapply (sound_later c Set.univ (grid2.coords ⟨n + 1, hn⟩) _ _ _ _ _ _ _ _ _ _ (fun h => by have := (hcond1 ⟨n + 1, hn⟩).mp h; dsimp only at this; omega) ((hcond2 ⟨n + 1, hn⟩).mpr (Nat.succ_le_succ (Nat.zero_le n))) (iblk V c 0 ⟨n + 1, hn⟩) (iblk V c 1 ⟨n + 1, hn⟩) (iblk V c 2 ⟨n + 1, hn⟩) (iblk V c 3 ⟨n + 1, hn⟩) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body table's row at point `t`'s slots is the body. -/
theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row, live_4 (cfg2.grid.coords t)]
  exact triple_restated (sound_body V c t) rfl .rfl fun _ => .rfl

end Cert.KernelIdeal.Scatter

end
-- ==== Proof.KernelIdeal.Run.lean ====
/-
  The whole run: the three regions one after another with the host operations between them. From every launch memory whose
  table of words passes the expert region's check the program terminates, leaves every argument as it was and every counter
  at zero, and the result's buffer holds what the three regions' proof data name.
-/
module

public import proofs.«01_k».proof.Proof.Gen.KernelIdeal.Regions
public import proofs.«01_k».proof.Proof.KernelIdeal.Shared
public import proofs.«01_k».proof.Proof.KernelIdeal.Moe
public import proofs.«01_k».proof.Proof.KernelIdeal.Scatter

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg RegionSeg)

variable {F : FTy → Type} [FloatOps F]

local notation "𝕄" => MT nD τ sig Unit (Elt F) ℕ (UR sig nD τ) ℕ

/-! ## What each region leaves in its arrays -/

section Arrays

variable (V : Dev nD → Valuation τ sig (Elt F))

/-- Shared: what the region leaves in its result's array. -/
def res_Shared (c : Dev nD) : (Proc.devRef (τ := τ) .tc main_v4).ty.Contents (Elt F) := (Shared.dat V c).arrAt 6 cfg0.N

/-- Shared: after the region its arrays are as at entry but for the result's. -/
theorem exit_Shared (c : Dev nD) (w : Fin cfg0.W) :
    (Shared.dat V c).arrAt w cfg0.N = Function.update (V c) (Proc.devRef .tc main_v4) (res_Shared V c) (Proc.devRef .tc (Pipeline.arrRef spec0 w)) := by
  match w with
  | ⟨0, h⟩ =>
    refine ((Shared.dat V c).arrAt_in ⟨0, h⟩ rfl _).trans ((Shared.A_eq V c _).trans ?_)
    exact (Function.update_of_ne (StableHlo.devRef_ne_of_ne (by decide : Pipeline.arrRef spec0 (0 : Fin 7) ≠ main_v4)) _ _).symm
  | ⟨1, h⟩ =>
    refine ((Shared.dat V c).arrAt_in ⟨1, h⟩ rfl _).trans ((Shared.A_eq V c _).trans ?_)
    exact (Function.update_of_ne (StableHlo.devRef_ne_of_ne (by decide : Pipeline.arrRef spec0 (1 : Fin 7) ≠ main_v4)) _ _).symm
  | ⟨2, h⟩ =>
    refine ((Shared.dat V c).arrAt_in ⟨2, h⟩ rfl _).trans ((Shared.A_eq V c _).trans ?_)
    exact (Function.update_of_ne (StableHlo.devRef_ne_of_ne (by decide : Pipeline.arrRef spec0 (2 : Fin 7) ≠ main_v4)) _ _).symm
  | ⟨3, h⟩ =>
    refine ((Shared.dat V c).arrAt_in ⟨3, h⟩ rfl _).trans ((Shared.A_eq V c _).trans ?_)
    exact (Function.update_of_ne (StableHlo.devRef_ne_of_ne (by decide : Pipeline.arrRef spec0 (3 : Fin 7) ≠ main_v4)) _ _).symm
  | ⟨4, h⟩ =>
    refine ((Shared.dat V c).arrAt_in ⟨4, h⟩ rfl _).trans ((Shared.A_eq V c _).trans ?_)
    exact (Function.update_of_ne (StableHlo.devRef_ne_of_ne (by decide : Pipeline.arrRef spec0 (4 : Fin 7) ≠ main_v4)) _ _).symm
  | ⟨5, h⟩ =>
    refine ((Shared.dat V c).arrAt_in ⟨5, h⟩ rfl _).trans ((Shared.A_eq V c _).trans ?_)
    exact (Function.update_of_ne (StableHlo.devRef_ne_of_ne (by decide : Pipeline.arrRef spec0 (5 : Fin 7) ≠ main_v4)) _ _).symm
  | ⟨6, _⟩ =>
    show res_Shared V c = Function.update (V c) (Proc.devRef .tc main_v4) (res_Shared V c) (Proc.devRef .tc main_v4)
    rw [Function.update_self]

/-- Shared: at entry its arrays are what the region finds. -/
theorem entry_Shared (c : Dev nD) (w : Fin cfg0.W) : (Shared.dat V c).arrAt w 0 = V c (Proc.devRef .tc (Pipeline.arrRef spec0 w)) := by
  refine Eq.trans ?_ (Shared.A_eq V c w)
  unfold Dat.arrAt
  rfl

/-- Moe: what the region leaves in its result's array. -/
def res_Moe (a : (pcfg1 (F := F)).Adm) (c : Dev nD) : (Proc.devRef (τ := τ) .tc main_v7).ty.Contents (Elt F) := (Moe.dat V a c).arrAt 9 (cfg1 a).N

/-- Moe: after the region its arrays are as at entry but for the result's. -/
theorem exit_Moe (a : (pcfg1 (F := F)).Adm) (c : Dev nD) (w : Fin (cfg1 a).W) :
    (Moe.dat V a c).arrAt w (cfg1 a).N = Function.update (V c) (Proc.devRef .tc main_v7) (res_Moe V a c) (Proc.devRef .tc (Pipeline.arrRef spec1 w)) := by
  match w with
  | ⟨0, h⟩ =>
    refine ((Moe.dat V a c).arrAt_in ⟨0, h⟩ rfl _).trans ((Moe.A_eq V a c _).trans ?_)
    exact (Function.update_of_ne (StableHlo.devRef_ne_of_ne (by decide : Pipeline.arrRef spec1 (0 : Fin 10) ≠ main_v7)) _ _).symm
  | ⟨1, h⟩ =>
    refine ((Moe.dat V a c).arrAt_in ⟨1, h⟩ rfl _).trans ((Moe.A_eq V a c _).trans ?_)
    exact (Function.update_of_ne (StableHlo.devRef_ne_of_ne (by decide : Pipeline.arrRef spec1 (1 : Fin 10) ≠ main_v7)) _ _).symm
  | ⟨2, h⟩ =>
    refine ((Moe.dat V a c).arrAt_in ⟨2, h⟩ rfl _).trans ((Moe.A_eq V a c _).trans ?_)
    exact (Function.update_of_ne (StableHlo.devRef_ne_of_ne (by decide : Pipeline.arrRef spec1 (2 : Fin 10) ≠ main_v7)) _ _).symm
  | ⟨3, h⟩ =>
    refine ((Moe.dat V a c).arrAt_in ⟨3, h⟩ rfl _).trans ((Moe.A_eq V a c _).trans ?_)
    exact (Function.update_of_ne (StableHlo.devRef_ne_of_ne (by decide : Pipeline.arrRef spec1 (3 : Fin 10) ≠ main_v7)) _ _).symm
  | ⟨4, h⟩ =>
    refine ((Moe.dat V a c).arrAt_in ⟨4, h⟩ rfl _).trans ((Moe.A_eq V a c _).trans ?_)
    exact (Function.update_of_ne (StableHlo.devRef_ne_of_ne (by decide : Pipeline.arrRef spec1 (4 : Fin 10) ≠ main_v7)) _ _).symm
  | ⟨5, h⟩ =>
    refine ((Moe.dat V a c).arrAt_in ⟨5, h⟩ rfl _).trans ((Moe.A_eq V a c _).trans ?_)
    exact (Function.update_of_ne (StableHlo.devRef_ne_of_ne (by decide : Pipeline.arrRef spec1 (5 : Fin 10) ≠ main_v7)) _ _).symm
  | ⟨6, h⟩ =>
    refine ((Moe.dat V a c).arrAt_in ⟨6, h⟩ rfl _).trans ((Moe.A_eq V a c _).trans ?_)
    exact (Function.update_of_ne (StableHlo.devRef_ne_of_ne (by decide : Pipeline.arrRef spec1 (6 : Fin 10) ≠ main_v7)) _ _).symm
  | ⟨7, h⟩ =>
    refine ((Moe.dat V a c).arrAt_in ⟨7, h⟩ rfl _).trans ((Moe.A_eq V a c _).trans ?_)
    exact (Function.update_of_ne (StableHlo.devRef_ne_of_ne (by decide : Pipeline.arrRef spec1 (7 : Fin 10) ≠ main_v7)) _ _).symm
  | ⟨8, h⟩ =>
    refine ((Moe.dat V a c).arrAt_in ⟨8, h⟩ rfl _).trans ((Moe.A_eq V a c _).trans ?_)
    exact (Function.update_of_ne (StableHlo.devRef_ne_of_ne (by decide : Pipeline.arrRef spec1 (8 : Fin 10) ≠ main_v7)) _ _).symm
  | ⟨9, _⟩ =>
    show res_Moe V a c = Function.update (V c) (Proc.devRef .tc main_v7) (res_Moe V a c) (Proc.devRef .tc main_v7)
    rw [Function.update_self]

/-- Moe: at entry its arrays are what the region finds. -/
theorem entry_Moe (a : (pcfg1 (F := F)).Adm) (c : Dev nD) (w : Fin (cfg1 a).W) : (Moe.dat V a c).arrAt w 0 = V c (Proc.devRef .tc (Pipeline.arrRef spec1 w)) := by
  refine Eq.trans ?_ (Moe.A_eq V a c w)
  unfold Dat.arrAt
  rfl

/-- Scatter: what the region leaves in its result's array. -/
def res_Scatter (c : Dev nD) : (Proc.devRef (τ := τ) .tc main_v8).ty.Contents (Elt F) := (Scatter.dat V c).arrAt 4 cfg2.N

/-- Scatter: after the region its arrays are as at entry but for the result's. -/
theorem exit_Scatter (c : Dev nD) (w : Fin cfg2.W) :
    (Scatter.dat V c).arrAt w cfg2.N = Function.update (V c) (Proc.devRef .tc main_v8) (res_Scatter V c) (Proc.devRef .tc (Pipeline.arrRef spec2 w)) := by
  match w with
  | ⟨0, h⟩ =>
    refine ((Scatter.dat V c).arrAt_in ⟨0, h⟩ rfl _).trans ((Scatter.A_eq V c _).trans ?_)
    exact (Function.update_of_ne (StableHlo.devRef_ne_of_ne (by decide : Pipeline.arrRef spec2 (0 : Fin 5) ≠ main_v8)) _ _).symm
  | ⟨1, h⟩ =>
    refine ((Scatter.dat V c).arrAt_in ⟨1, h⟩ rfl _).trans ((Scatter.A_eq V c _).trans ?_)
    exact (Function.update_of_ne (StableHlo.devRef_ne_of_ne (by decide : Pipeline.arrRef spec2 (1 : Fin 5) ≠ main_v8)) _ _).symm
  | ⟨2, h⟩ =>
    refine ((Scatter.dat V c).arrAt_in ⟨2, h⟩ rfl _).trans ((Scatter.A_eq V c _).trans ?_)
    exact (Function.update_of_ne (StableHlo.devRef_ne_of_ne (by decide : Pipeline.arrRef spec2 (2 : Fin 5) ≠ main_v8)) _ _).symm
  | ⟨3, h⟩ =>
    refine ((Scatter.dat V c).arrAt_in ⟨3, h⟩ rfl _).trans ((Scatter.A_eq V c _).trans ?_)
    exact (Function.update_of_ne (StableHlo.devRef_ne_of_ne (by decide : Pipeline.arrRef spec2 (3 : Fin 5) ≠ main_v8)) _ _).symm
  | ⟨4, _⟩ =>
    show res_Scatter V c = Function.update (V c) (Proc.devRef .tc main_v8) (res_Scatter V c) (Proc.devRef .tc main_v8)
    rw [Function.update_self]

/-- Scatter: at entry its arrays are what the region finds. -/
theorem entry_Scatter (c : Dev nD) (w : Fin cfg2.W) : (Scatter.dat V c).arrAt w 0 = V c (Proc.devRef .tc (Pipeline.arrRef spec2 w)) := by
  refine Eq.trans ?_ (Scatter.A_eq V c w)
  unfold Dat.arrAt
  rfl

end Arrays

/-! ## The buffers' contents between the items -/

variable (m : (ℓ : Loc nD τ sig) → Buf (Elt F) ℓ) (ρ : Dev nD → PrngReg)

/-- The table's contents, as launched, -/
def adm1 : (pcfg1 (F := F)).Adm := ⟨fun j => m ((0 : Dev nD).tc.loc (pre1.ref j)), trivial⟩
/-- and each region at its tables' contents. -/
def adm : (p : Fin 3) → (pcfgs (F := F) p).Adm
  | ⟨0, _⟩ => cfg0.toPCfg_adm
  | ⟨1, _⟩ => adm1 m
  | ⟨2, _⟩ => cfg2.toPCfg_adm
  | ⟨_ + 3, h⟩ => absurd h (Nat.not_lt.2 (Nat.le_add_left _ _))

/-- After the first region, -/
def W2 (c : Dev nD) : Valuation τ sig (Elt F) :=
  Function.update (V1 m c) (Proc.devRef .tc main_v4) (res_Shared (V1 m) c)
/-- after the host operations between, -/
def W3 (c : Dev nD) : Valuation τ sig (Elt F) := StableHlo.after hostOps1 (W2 m c)
/-- after the second region, -/
def W4 (c : Dev nD) : Valuation τ sig (Elt F) :=
  Function.update (W3 m c) (Proc.devRef .tc main_v7) (res_Moe (W3 m) (adm1 m) c)
/-- and after the third. -/
def W5 (c : Dev nD) : Valuation τ sig (Elt F) :=
  Function.update (W4 m c) (Proc.devRef .tc main_v8) (res_Scatter (W4 m) c)

/-- What the regions leave in their results' buffers. -/
def outs : Outs (F := F) := fun i r c => match i with
  | 2 => W2 m c (Proc.devRef .tc r)
  | 4 => W4 m c (Proc.devRef .tc r)
  | _ => W5 m c (Proc.devRef .tc r)

theorem V2_eq (c : Dev nD) : V2 m (outs m) c = W2 m c := by
  show Function.update (V1 m c) _ (W2 m c (Proc.devRef .tc main_v4)) = W2 m c
  unfold W2
  rw [Function.update_self]
theorem V3_eq (c : Dev nD) : V3 m (outs m) c = W3 m c := by
  show StableHlo.after hostOps1 (V2 m (outs m) c) = _
  rw [V2_eq]; rfl
theorem V4_eq (c : Dev nD) : V4 m (outs m) c = W4 m c := by
  show Function.update (V3 m (outs m) c) _ (W4 m c (Proc.devRef .tc main_v7)) = W4 m c
  rw [V3_eq]
  unfold W4
  rw [Function.update_self]
theorem V5_eq (c : Dev nD) : V5 m (outs m) c = W5 m c := by
  show Function.update (V4 m (outs m) c) _ (W5 m c (Proc.devRef .tc main_v8)) = W5 m c
  rw [V4_eq]
  unfold W5
  rw [Function.update_self]

/-- The table is never written: the second region finds it as launched. -/
theorem W3_table (c : Dev nD) : W3 m c (Proc.devRef .tc main_arg0) = m ((c : Thread nD τ).loc main_arg0) := by
  rw [← V3_eq, V3_of m (outs m) c main_arg0 (by decide), V2_of m (outs m) c main_arg0 (by decide), V1_of m c main_arg0 (by decide)]
/-- The same after the second region. -/
theorem W4_table (c : Dev nD) : W4 m c (Proc.devRef .tc main_arg0) = W3 m c (Proc.devRef .tc main_arg0) := by
  unfold W4
  rw [Function.update_of_ne (StableHlo.devRef_ne_of_ne (by decide))]

/-- The three regions' proof data. -/
def pdats : (p : Fin 3) → (c : Dev nD) → Dat τ (Elt F) Unit ℕ (UR sig nD τ) ℕ (Pipeline.pin (pcfgs (F := F)) (adm m) p) c
  | ⟨0, _⟩ => fun c => Shared.dat (V1 m) c
  | ⟨1, _⟩ => fun c => Moe.dat (W3 m) (adm1 m) c
  | ⟨2, _⟩ => fun c => Scatter.dat (W4 m) c
  | ⟨_ + 3, h⟩ => absurd h (Nat.not_lt.2 (Nat.le_add_left _ _))

/-! ## The regions' records -/

/-- The semaphores that carry a level: the TensorCore's. -/
def Lv (g : GSem nD τ sig) : Finset Unit := if g.1.2 = .tc then {()} else ∅
/-- All at one level. -/
def lv (_ : GSem nD τ sig) (_ : Unit) : ℕ := 0

/-- Nothing more comes in at a region's entry, -/
theorem entry_emp (X : sProp 𝕄) : iprop(X ∗ BI.emp) ⊢ X := by
  iintro ⟨H, -⟩; iexact H
/-- and nothing more goes out at its exit; -/
theorem exit_emp (X : sProp 𝕄) : X ⊢ iprop(X ∗ BI.emp) := by
  iintro H; isplitl [H]; · iexact H
  iempintro
/-- the same beside a table, in -/
theorem entry_emp' (X Y : sProp 𝕄) : iprop((X ∗ BI.emp) ∗ Y) ⊢ iprop(X ∗ Y) := by
  iintro ⟨⟨H, -⟩, HT⟩; isplitl [H]; · iexact H
  iexact HT
/-- and out. -/
theorem exit_emp' (X Y : sProp 𝕄) : iprop(X ∗ Y) ⊢ iprop((X ∗ BI.emp) ∗ Y) := by
  iintro ⟨H, HT⟩; isplitr [HT]
  · isplitl [H]; · iexact H
    iempintro
  iexact HT

/-- Nothing is owed, so there is nothing to bound. -/
theorem cut (p : Fin 3) : Pipeline.LevelCut (pcfgs (F := F)) (adm m) () Lv lv p (fun _ => 0) (fun _ => 0) where
  hι c w s := by unfold Lv; rw [if_pos rfl]; exact Finset.mem_singleton_self _
  hιb c w s := Nat.le_refl _
  hD c g i h := absurd h (Nat.lt_irrefl 0)

/-- Shared: the scratch buffers come in as they are, -/
theorem inS_Shared (c : Dev nD) : iprop(Pipeline.scopedRest spec0 c ∗ BI.emp) ⊢ (pdats m 0 c).Φ 0 := by
  show iprop(Pipeline.scopedRest spec0 c ∗ BI.emp) ⊢ (Shared.dat (V1 m) c).Φ 0
  exact (entry_emp _).trans .rfl
/-- and go out so. -/
theorem outS_Shared (c : Dev nD) : (pdats m 0 c).Φ (Fin.last cfg0.N) ⊢ iprop(Pipeline.scopedRest spec0 c ∗ BI.emp) := by
  show (Shared.dat (V1 m) c).Φ (Fin.last cfg0.N) ⊢ iprop(Pipeline.scopedRest spec0 c ∗ BI.emp)
  exact BIBase.Entails.trans .rfl (exit_emp _)
/-- The Shared region. -/
def seg_Shared : RegionSeg (pcfgs (F := F)) (adm m) (pdats m) () defs₀ Variants.none Lv lv 0 :=
  RegionSeg.ofHeld (pcfgs (F := F)) (adm m) (pdats m) () defs₀ Variants.none Lv lv 0 (fun _ => 0) (fun _ => (BI.emp : sProp 𝕄)) (fun _ => (BI.emp : sProp 𝕄)) launch0 rfl
    (fun c => (Shared.body_obligation (V1 m) c).loose) (fun _ _ => rfl) (fun _ => rfl) (fun c => (Shared.dat (V1 m) c).share_full fun _ => rfl)
    (fun c => inS_Shared m c) (fun c => outS_Shared m c)
    (fun _ => 0) (cut m 0) (fun c => StableHlo.held (c : Thread nD τ) (Pipeline.ucRefs τ sig \ Pipeline.arrRefs spec0) (V1 m c))
    (V1 m) (W2 m) (fun c w => entry_Shared (V1 m) c w) (fun c w => exit_Shared (V1 m) c w)

/-- Its entry: the whole of the unscoped buffers. -/
theorem pre_Shared (c : Dev nD) : iprop(StableHlo.held (c : Thread nD τ) (Pipeline.ucRefs τ sig) (V1 m c) ∗ ∃ Wd, owes (c : Thread nD τ) (0 : CellTallies nD τ sig Unit) Wd)
    ⊢ (seg_Shared m).pre c := by
  show _ ⊢ iprop(StableHlo.held (c.tc : Thread nD τ) (Pipeline.arrRefs spec0) (V1 m c) ∗ BI.emp ∗ StableHlo.held (c : Thread nD τ) (Pipeline.ucRefs τ sig \ Pipeline.arrRefs spec0) (V1 m c) ∗ ∃ Wd, owes (c : Thread nD τ) (0 : CellTallies nD τ sig Unit) Wd)
  rw [StableHlo.held_sub_split (c : Thread nD τ) (Pipeline.arrRefs_sub_ucRefs spec0 (by decide)) (V1 m c)]
  iintro ⟨⟨Ha, Hr⟩, Ho⟩
  isplitl [Ha]; · iexact Ha
  isplitr; · iempintro
  isplitl [Hr]; · iexact Hr
  iexact Ho

/-- Its exit: the same with the result's buffer changed. -/
theorem post_Shared (c : Dev nD) : (seg_Shared m).post c ⊢ iprop(StableHlo.held (c : Thread nD τ) (Pipeline.ucRefs τ sig) (W2 m c)
    ∗ ∃ Wd, owes (c : Thread nD τ) (0 : CellTallies nD τ sig Unit) Wd) := by
  show iprop(StableHlo.held (c.tc : Thread nD τ) (Pipeline.arrRefs spec0) (W2 m c) ∗ BI.emp ∗ StableHlo.held (c : Thread nD τ) (Pipeline.ucRefs τ sig \ Pipeline.arrRefs spec0) (V1 m c) ∗ ∃ Wd, owes (c : Thread nD τ) (0 : CellTallies nD τ sig Unit) Wd) ⊢ _
  rw [StableHlo.held_sub_split (c : Thread nD τ) (Pipeline.arrRefs_sub_ucRefs spec0 (by decide)) (W2 m c),
    StableHlo.held_congr (c : Thread nD τ) (S := Pipeline.ucRefs τ sig \ Pipeline.arrRefs spec0) (V := W2 m c) (V' := V1 m c) (fun b hb => Function.update_of_ne (fun e => (Finset.mem_sdiff.mp hb).2 (by
      subst e; exact Finset.mem_map_of_mem _ (by decide))) _ _)]
  iintro ⟨Ha, -, Hr, Ho⟩
  isplitr [Ho]
  · isplitl [Ha]; · iexact Ha
    iexact Hr
  iexact Ho

/-- Moe: the scratch buffers come in as they are, beside the table, -/
theorem inS_Moe (c : Dev nD) : iprop((Pipeline.scopedRest spec1 c ∗ BI.emp) ∗ Pipeline.tablesAt (pcfgs (F := F)) (adm m) 1 c) ⊢ (pdats m 1 c).Φ 0 := by
  show iprop((Pipeline.scopedRest spec1 c ∗ BI.emp) ∗ Pipeline.prefHeld pre1 c (fun _ => fullShare) (adm1 m).1) ⊢ (Moe.dat (W3 m) (adm1 m) c).Φ 0
  exact (entry_emp' _ _).trans .rfl
/-- and go out so. -/
theorem outS_Moe (c : Dev nD) : (pdats m 1 c).Φ (Fin.last (cfg1 (adm1 m)).N) ⊢ iprop((Pipeline.scopedRest spec1 c ∗ BI.emp) ∗ Pipeline.tablesAt (pcfgs (F := F)) (adm m) 1 c) := by
  show (Moe.dat (W3 m) (adm1 m) c).Φ (Fin.last (cfg1 (adm1 m)).N) ⊢ iprop((Pipeline.scopedRest spec1 c ∗ BI.emp) ∗ Pipeline.prefHeld pre1 c (fun _ => fullShare) (adm1 m).1)
  exact BIBase.Entails.trans .rfl (exit_emp' _ _)
/-- The expert region, given that its words pass its check. -/
def seg_Moe (hW : Moe.WordsOk (adm1 m)) : RegionSeg (pcfgs (F := F)) (adm m) (pdats m) () defs₀ Variants.none Lv lv 1 :=
  RegionSeg.ofHeldT (pcfgs (F := F)) (adm m) (pdats m) () defs₀ Variants.none Lv lv 1 (fun _ => 0) (fun _ => (BI.emp : sProp 𝕄)) (fun _ => (BI.emp : sProp 𝕄)) launch1
    (fun c => (Moe.body_obligation (W3 m) (adm1 m) hW c).loose) (fun _ _ => rfl) (fun _ => rfl) (fun c => (Moe.dat (W3 m) (adm1 m) c).share_full fun _ => rfl)
    (fun c => inS_Moe m c) (fun c => outS_Moe m c)
    (fun _ => 0) (cut m 1) (fun c => StableHlo.held (c : Thread nD τ) ((Pipeline.ucRefs τ sig \ Pipeline.arrRefs spec1) \ Pipeline.tblRefs pre1) (W3 m c))
    (W3 m) (W4 m) (fun c w => entry_Moe (W3 m) (adm1 m) c w) (fun c k => by
      obtain rfl : k = (0 : Fin 1) := Subsingleton.elim (α := Fin 1) _ _
      obtain rfl : c = 0 := Subsingleton.elim _ _
      exact (W3_table m 0).symm) (fun c w => exit_Moe (W3 m) (adm1 m) c w) (fun c k => by
      obtain rfl : k = (0 : Fin 1) := Subsingleton.elim (α := Fin 1) _ _
      obtain rfl : c = 0 := Subsingleton.elim _ _
      exact ((W4_table m 0).trans (W3_table m 0)).symm)

/-- Its entry: the whole of the unscoped buffers. -/
theorem pre_Moe (hW : Moe.WordsOk (adm1 m)) (c : Dev nD) : iprop(StableHlo.held (c : Thread nD τ) (Pipeline.ucRefs τ sig) (W3 m c) ∗ ∃ Wd, owes (c : Thread nD τ) (0 : CellTallies nD τ sig Unit) Wd)
    ⊢ (seg_Moe m hW).pre c := by
  show _ ⊢ iprop(StableHlo.held (c.tc : Thread nD τ) (Pipeline.arrRefs spec1) (W3 m c) ∗ StableHlo.held (c.tc : Thread nD τ) (Pipeline.tblRefs pre1) (W3 m c) ∗ BI.emp ∗ StableHlo.held (c : Thread nD τ) ((Pipeline.ucRefs τ sig \ Pipeline.arrRefs spec1) \ Pipeline.tblRefs pre1) (W3 m c) ∗ ∃ Wd, owes (c : Thread nD τ) (0 : CellTallies nD τ sig Unit) Wd)
  rw [StableHlo.held_sub_split (c : Thread nD τ) (Pipeline.arrRefs_sub_ucRefs spec1 (by decide)) (W3 m c),
    StableHlo.held_sub_split (c : Thread nD τ) (Pipeline.tblRefs_sub_ucRefs_sdiff spec1 pre1 (by decide) (by decide)) (W3 m c)]
  iintro ⟨⟨Ha, Ht, Hr⟩, Ho⟩
  isplitl [Ha]; · iexact Ha
  isplitl [Ht]; · iexact Ht
  isplitr; · iempintro
  isplitl [Hr]; · iexact Hr
  iexact Ho

/-- Its exit: the same with the result's buffer changed. -/
theorem post_Moe (hW : Moe.WordsOk (adm1 m)) (c : Dev nD) : (seg_Moe m hW).post c ⊢ iprop(StableHlo.held (c : Thread nD τ) (Pipeline.ucRefs τ sig) (W4 m c)
    ∗ ∃ Wd, owes (c : Thread nD τ) (0 : CellTallies nD τ sig Unit) Wd) := by
  show iprop(StableHlo.held (c.tc : Thread nD τ) (Pipeline.arrRefs spec1) (W4 m c) ∗ StableHlo.held (c.tc : Thread nD τ) (Pipeline.tblRefs pre1) (W4 m c) ∗ BI.emp ∗ StableHlo.held (c : Thread nD τ) ((Pipeline.ucRefs τ sig \ Pipeline.arrRefs spec1) \ Pipeline.tblRefs pre1) (W3 m c) ∗ ∃ Wd, owes (c : Thread nD τ) (0 : CellTallies nD τ sig Unit) Wd) ⊢ _
  rw [StableHlo.held_sub_split (c : Thread nD τ) (Pipeline.arrRefs_sub_ucRefs spec1 (by decide)) (W4 m c),
    StableHlo.held_sub_split (c : Thread nD τ) (Pipeline.tblRefs_sub_ucRefs_sdiff spec1 pre1 (by decide) (by decide)) (W4 m c),
    StableHlo.held_congr (c : Thread nD τ) (S := ((Pipeline.ucRefs τ sig \ Pipeline.arrRefs spec1) \ Pipeline.tblRefs pre1)) (V := W4 m c) (V' := W3 m c) (fun b hb => Function.update_of_ne (fun e => (Finset.mem_sdiff.mp (Finset.mem_sdiff.mp hb).1).2 (by
      subst e; exact Finset.mem_map_of_mem _ (by decide))) _ _)]
  iintro ⟨Ha, Ht, -, Hr, Ho⟩
  isplitr [Ho]
  · isplitl [Ha]; · iexact Ha
    isplitl [Ht]; · iexact Ht
    iexact Hr
  iexact Ho

/-- Scatter: the scratch buffers come in as they are, -/
theorem inS_Scatter (c : Dev nD) : iprop(Pipeline.scopedRest spec2 c ∗ BI.emp) ⊢ (pdats m 2 c).Φ 0 := by
  show iprop(Pipeline.scopedRest spec2 c ∗ BI.emp) ⊢ (Scatter.dat (W4 m) c).Φ 0
  exact (entry_emp _).trans .rfl
/-- and go out so. -/
theorem outS_Scatter (c : Dev nD) : (pdats m 2 c).Φ (Fin.last cfg2.N) ⊢ iprop(Pipeline.scopedRest spec2 c ∗ BI.emp) := by
  show (Scatter.dat (W4 m) c).Φ (Fin.last cfg2.N) ⊢ iprop(Pipeline.scopedRest spec2 c ∗ BI.emp)
  exact BIBase.Entails.trans .rfl (exit_emp _)
/-- The Scatter region. -/
def seg_Scatter : RegionSeg (pcfgs (F := F)) (adm m) (pdats m) () defs₀ Variants.none Lv lv 2 :=
  RegionSeg.ofHeld (pcfgs (F := F)) (adm m) (pdats m) () defs₀ Variants.none Lv lv 2 (fun _ => 0) (fun _ => (BI.emp : sProp 𝕄)) (fun _ => (BI.emp : sProp 𝕄)) launch2 rfl
    (fun c => (Scatter.body_obligation (W4 m) c).loose) (fun _ _ => rfl) (fun _ => rfl) (fun c => (Scatter.dat (W4 m) c).share_full fun _ => rfl)
    (fun c => inS_Scatter m c) (fun c => outS_Scatter m c)
    (fun _ => 0) (cut m 2) (fun c => StableHlo.held (c : Thread nD τ) (Pipeline.ucRefs τ sig \ Pipeline.arrRefs spec2) (W4 m c))
    (W4 m) (W5 m) (fun c w => entry_Scatter (W4 m) c w) (fun c w => exit_Scatter (W4 m) c w)

/-- Its entry: the whole of the unscoped buffers. -/
theorem pre_Scatter (c : Dev nD) : iprop(StableHlo.held (c : Thread nD τ) (Pipeline.ucRefs τ sig) (W4 m c) ∗ ∃ Wd, owes (c : Thread nD τ) (0 : CellTallies nD τ sig Unit) Wd)
    ⊢ (seg_Scatter m).pre c := by
  show _ ⊢ iprop(StableHlo.held (c.tc : Thread nD τ) (Pipeline.arrRefs spec2) (W4 m c) ∗ BI.emp ∗ StableHlo.held (c : Thread nD τ) (Pipeline.ucRefs τ sig \ Pipeline.arrRefs spec2) (W4 m c) ∗ ∃ Wd, owes (c : Thread nD τ) (0 : CellTallies nD τ sig Unit) Wd)
  rw [StableHlo.held_sub_split (c : Thread nD τ) (Pipeline.arrRefs_sub_ucRefs spec2 (by decide)) (W4 m c)]
  iintro ⟨⟨Ha, Hr⟩, Ho⟩
  isplitl [Ha]; · iexact Ha
  isplitr; · iempintro
  isplitl [Hr]; · iexact Hr
  iexact Ho

/-- Its exit: the same with the result's buffer changed. -/
theorem post_Scatter (c : Dev nD) : (seg_Scatter m).post c ⊢ iprop(StableHlo.held (c : Thread nD τ) (Pipeline.ucRefs τ sig) (W5 m c)
    ∗ ∃ Wd, owes (c : Thread nD τ) (0 : CellTallies nD τ sig Unit) Wd) := by
  show iprop(StableHlo.held (c.tc : Thread nD τ) (Pipeline.arrRefs spec2) (W5 m c) ∗ BI.emp ∗ StableHlo.held (c : Thread nD τ) (Pipeline.ucRefs τ sig \ Pipeline.arrRefs spec2) (W4 m c) ∗ ∃ Wd, owes (c : Thread nD τ) (0 : CellTallies nD τ sig Unit) Wd) ⊢ _
  rw [StableHlo.held_sub_split (c : Thread nD τ) (Pipeline.arrRefs_sub_ucRefs spec2 (by decide)) (W5 m c),
    StableHlo.held_congr (c : Thread nD τ) (S := Pipeline.ucRefs τ sig \ Pipeline.arrRefs spec2) (V := W5 m c) (V' := W4 m c) (fun b hb => Function.update_of_ne (fun e => (Finset.mem_sdiff.mp hb).2 (by
      subst e; exact Finset.mem_map_of_mem _ (by decide))) _ _)]
  iintro ⟨Ha, -, Hr, Ho⟩
  isplitr [Ho]
  · isplitl [Ha]; · iexact Ha
    iexact Hr
  iexact Ho

/-! ## The run -/

/-- What rides beside the buffers between the items: nothing is owed. -/
def between (_ : Fin 4) (c : Dev nD) : sProp 𝕄 := iprop(∃ Wd, owes (c : Thread nD τ) (0 : CellTallies nD τ sig Unit) Wd)

/-- Of what a launch gives, the buffers and the tally are kept. -/
theorem first_rest (A B C D : sProp 𝕄) (c : Dev nD) :
    iprop(A ∗ B ∗ owes (c.tc : Thread nD τ) (0 : CellTallies nD τ sig Unit) ∅ ∗ C ∗ D ∗ BI.emp) ⊢ iprop(A ∗ between 0 c) := by
  unfold between
  iintro ⟨Hb, -, Ho, -⟩
  isplitl [Hb]; · iexact Hb
  iexists _; iexact Ho

/-- The first region's exit is the host operations' entry, -/
theorem hpost0 (c : Dev nD) : (seg_Shared m).post c ⊢ iprop(StableHlo.held (c : Thread nD τ) (Pipeline.ucRefs τ sig) (V2 m (outs m) c) ∗ between 1 c) := by
  rw [V2_eq]; exact post_Shared m c
/-- and their exit is the second region's entry. -/
theorem hpre1 (hW : Moe.WordsOk (adm1 m)) (c : Dev nD) : iprop(StableHlo.held (c : Thread nD τ) (Pipeline.ucRefs τ sig) (V3 m (outs m) c) ∗ between 1 c) ⊢ (seg_Moe m hW).pre c := by
  rw [V3_eq]; exact pre_Moe m hW c

set_option backward.isDefEq.respectTransparency.types false in
/-- From every launch memory whose words pass the check the program terminates; at the end the result's buffer is what the last
    contents say, the arguments are unchanged and every counter is zero. -/
theorem run_main (hW : Moe.WordsOk (adm1 m)) :
    θ_run defs (onTc (τ := τ) (main (F := F))) ⟨m, fun _ => 0, ρ⟩ (fun r => (∀ c : Dev nD,
      r.2.mem ((c.tc : Thread nD τ).loc main_v8) = W5 m c (Proc.devRef .tc main_v8)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)))
      ∧ r.2.sem = fun _ => 0) := by
  refine Pipeline.θ_run_regions_kit_dev_sems (pcfgs (F := F)) (adm m) (pdats m) () (cellOf_inj (adm m)) emb₁ defs₀ Variants.none Lv lv m ρ main
    (segs m (outs m) Variants.none Lv lv between () (adm m) (pdats m) (seg_Shared m) (seg_Moe m hW) (seg_Scatter m))
    (fun c Q => by
      rewrite [main_chain c, Seg.run_eq_chain,
        show (segs m (outs m) Variants.none Lv lv between () (adm m) (pdats m) (seg_Shared m) (seg_Moe m hW) (seg_Scatter m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp)) (initOf (Pipeline.cells (Pipeline.pin (pcfgs (F := F)) (adm m)) (cellOf_inj (adm m))) (Pipeline.launchToks (Pipeline.pin (pcfgs (F := F)) (adm m)) (cellOf_inj (adm m))))
    (hu₀ := by
      iintro Hu
      imodintro
      isplitl [Hu]
      · iapply (show (ownU _ : sProp 𝕄) ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ between 0 c))
    (Tₙ := fun c => StableHlo.held (c : Thread nD τ) (Pipeline.ucRefs τ sig) (W5 m c))
    (hch := fun c => ⟨.rfl, pre_Shared m c, hpost0 m c, hpre1 m hW c, (post_Moe m hW c).trans (pre_Scatter m c), post_Scatter m c⟩)
    (hinit := ?_)
    (QY := fun c s => s.mem ((c.tc : Thread nD τ).loc main_v8) = W5 m c (Proc.devRef .tc main_v8)
      ∧ (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ between 0 c) : sProp 𝕄) :=
      bigSep_mono fun c _ => by
        rw [← Pipeline.unscopedBufs_held (Ix := Unit) (Name := ℕ) (U := UR sig nD τ) (Lvl := ℕ) c (V0 m c)]
        exact first_rest _ _ _ _ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      have hm : ∀ b : Ref sig .tc, ¬ (Proc.devRef .tc b : DevRef τ sig).isScoped → Proc.devRef .tc b ∈ Pipeline.ucRefs τ sig :=
        fun b hb => Finset.mem_filter.mpr ⟨StableHlo.devRef_mem_tcRefs b, hb⟩
      refine ⟨h (Proc.devRef .tc main_v8) (hm _ (by decide)), (h (Proc.devRef .tc main_arg0) (hm _ (by decide))).trans ((congrFun (V5_eq m c).symm _).trans (V5_main_arg0 m (outs m) c)), (h (Proc.devRef .tc main_arg1) (hm _ (by decide))).trans ((congrFun (V5_eq m c).symm _).trans (V5_main_arg1 m (outs m) c)), (h (Proc.devRef .tc main_arg2) (hm _ (by decide))).trans ((congrFun (V5_eq m c).symm _).trans (V5_main_arg2 m (outs m) c)), (h (Proc.devRef .tc main_arg3) (hm _ (by decide))).trans ((congrFun (V5_eq m c).symm _).trans (V5_main_arg3 m (outs m) c)), (h (Proc.devRef .tc main_arg4) (hm _ (by decide))).trans ((congrFun (V5_eq m c).symm _).trans (V5_main_arg4 m (outs m) c)), (h (Proc.devRef .tc main_arg5) (hm _ (by decide))).trans ((congrFun (V5_eq m c).symm _).trans (V5_main_arg5 m (outs m) c)), (h (Proc.devRef .tc main_arg6) (hm _ (by decide))).trans ((congrFun (V5_eq m c).symm _).trans (V5_main_arg6 m (outs m) c)), (h (Proc.devRef .tc main_arg7) (hm _ (by decide))).trans ((congrFun (V5_eq m c).symm _).trans (V5_main_arg7 m (outs m) c)), (h (Proc.devRef .tc main_arg8) (hm _ (by decide))).trans ((congrFun (V5_eq m c).symm _).trans (V5_main_arg8 m (outs m) c)), (h (Proc.devRef .tc main_arg9) (hm _ (by decide))).trans ((congrFun (V5_eq m c).symm _).trans (V5_main_arg9 m (outs m) c)), (h (Proc.devRef .tc main_arg10) (hm _ (by decide))).trans ((congrFun (V5_eq m c).symm _).trans (V5_main_arg10 m (outs m) c)), (h (Proc.devRef .tc main_arg11) (hm _ (by decide))).trans ((congrFun (V5_eq m c).symm _).trans (V5_main_arg11 m (outs m) c)), (h (Proc.devRef .tc main_arg12) (hm _ (by decide))).trans ((congrFun (V5_eq m c).symm _).trans (V5_main_arg12 m (outs m) c)), (h (Proc.devRef .tc main_arg13) (hm _ (by decide))).trans ((congrFun (V5_eq m c).symm _).trans (V5_main_arg13 m (outs m) c)), (h (Proc.devRef .tc main_arg14) (hm _ (by decide))).trans ((congrFun (V5_eq m c).symm _).trans (V5_main_arg14 m (outs m) c))⟩
    · iexact HSI

end Cert.KernelIdeal.Run

end
-- ==== Proof.KernelIdeal.Frames.lean ====
/-
  The program runs, and leaves its arguments unchanged and every counter at zero, from every launch memory whose table passes
  `tables_fit`: the words the expert region reads are then in range.
-/
module

public import proofs.«01_k».proof.Proof.KernelIdeal.Words
public import proofs.«01_k».proof.Proof.KernelIdeal.Run
public import proofs.«01_k».proof.Proof.Table

@[expose] public section

set_option maxRecDepth 16384

noncomputable section

namespace Cert.KernelIdeal.Frames

open Cert.KernelIdeal Cert.KernelIdeal.Gen
open Idealize.ShloMosaic Idealize.ShloMosaic.TcCoe
open Idealize.SL.Sem

variable {F : FTy → Type} [FloatOps F]

/-- A point's expert. -/
def expert (i : grid1.Coords) : Fin 64 := ⟨(i 0).val, (i 0).isLt⟩

/-- A small number as an index of the table. -/
theorem index_toNat (n : ℕ) (h : n < 128) : (Scalar.indexCast (BitVec.ofNat 32 n)).toNat = n := by
  show n % 2 ^ 32 = n
  omega

/-- The first word a point reads is its expert's first, -/
theorem word1_eq (c : Dev nD) (i : grid1.Coords) (x : Moe.TbBuf (F := F) c Moe.tbM) : Moe.word1 c i x = x (Table.at1 (expert i)) := by
  refine congrArg x (funext fun a => match a with | ⟨0, _⟩ => Fin.ext ?_)
  have h : (i 0).val < 64 := (i 0).isLt
  have e : k1_off1 i 0 = (i 0).val := index_toNat _ (by omega)
  show k1_off1 i 0 + 0 * 1 = (i 0).val
  omega

/-- and the second its second. -/
theorem word2_eq (c : Dev nD) (i : grid1.Coords) (x : Moe.TbBuf (F := F) c Moe.tbM) : Moe.word2 c i x = x (Table.at2 (expert i)) := by
  refine congrArg x (funext fun a => match a with | ⟨0, _⟩ => Fin.ext ?_)
  have h : (i 0).val < 64 := (i 0).isLt
  have e : k1_off2 i 0 = 64 + (i 0).val := by
    refine Eq.trans ?_ (index_toNat (64 + (i 0).val) (by omega))
    show (Scalar.indexCast (Scalar.addi 64#32 (BitVec.ofNat 32 (i 0).val))).toNat = _
    rw [BitVec.ofNat_add]
    rfl
  show k1_off2 i 0 + 0 * 1 = 64 + (i 0).val
  omega

variable (m : (ℓ : Loc nD τ sig) → Buf (Elt F) ℓ) (ρ : Dev nD → PrngReg)

/-- The words of a table in order pass the expert region's check at every point. -/
theorem words_ok (h : Table.Fits (m (((0 : Dev nD).tc : Thread nD τ).loc main_arg0))) : Moe.WordsOk (Run.adm1 m) := fun c t => by
  have e1 : Moe.word1 c (grid1.coords t) ((Run.adm1 m).1 0) = _ := word1_eq c (grid1.coords t) _
  have e2 : Moe.word2 c (grid1.coords t) ((Run.adm1 m).1 0) = _ := word2_eq c (grid1.coords t) _
  rw [e1, e2]
  have h1 := h.first (expert (grid1.coords t))
  have h2 := h.count (expert (grid1.coords t))
  have h3 := h.last (expert (grid1.coords t))
  exact ⟨Words.check _ _ h1 h3, Words.trips2 _ h2⟩

end Cert.KernelIdeal.Frames

end
-- ==== Proof.Value.Sums.lean ====
module
public import Idealize.ShloMosaic.Lib.Pointwise

/-!
Dispatch by slots, as sums of extended reals.

A token owns two slots.  Expert `e` owns the slots from `lo e` up to `hi e`.  A slot's row is the
expert's network of the token that owns the slot, scaled by that token's weight.  Summing, over all
slots, "is this slot the token's?" times the slot's row gives what the plain form gives: the sum over
all experts of the network of the token times the weight the token gives that expert.
-/

@[expose] public section

noncomputable section
namespace Cert.Sums
open Idealize.ShloMosaic

/-- A natural number as an extended real. -/
def num (p : ℕ) : EReal := ((p : ℝ) : EReal)

/-- One where `q` holds and zero elsewhere. -/
def hot (q : Prop) [Decidable q] : EReal := if q then 1 else 0

/-- The smooth gate `a / (1 + e^(-a))`. -/
def silu (a : EReal) : EReal := a * Ideal.div 1 (1 + Ideal.exp (0 - a))

/-- Two dense layers with the gate between them, at output column `j`. -/
def ffn (row : Fin 768 → EReal) (W1 : Fin 768 → Fin 1536 → EReal) (b1 : Fin 1536 → EReal)
    (W2 : Fin 1536 → Fin 768 → EReal) (b2 : Fin 768 → EReal) (j : Fin 768) : EReal :=
  (∑ f, silu ((∑ k, row k * W1 k f) + b1 f) * W2 f j) + b2 j

theorem num_lt {p q : ℕ} : num p < num q ↔ p < q := by
  unfold num; rw [EReal.coe_lt_coe_iff, Nat.cast_lt]

theorem num_le {p q : ℕ} : num p ≤ num q ↔ p ≤ q := by
  unfold num; rw [EReal.coe_le_coe_iff, Nat.cast_le]

theorem num_inj {p q : ℕ} : num p = num q ↔ p = q := by
  unfold num; rw [EReal.coe_eq_coe_iff, Nat.cast_inj]

/-- A value that rounding down leaves alone, between two natural numbers, is a natural number. -/
theorem whole_between (v : EReal) (h : v = Ideal.liftRound Int.floor v) (a b : ℕ)
    (h1 : num a ≤ v) (h2 : v < num b) : ∃ p : ℕ, v = num p ∧ a ≤ p ∧ p < b := by
  induction v using EReal.rec with
  | bot => exact absurd h1 (not_le.mpr (EReal.bot_lt_coe _))
  | top => exact absurd h2 (by simp)
  | coe x =>
    have hx : x = ((Int.floor x : ℤ) : ℝ) := by
      have : (x : EReal) = (((Int.floor x : ℤ) : ℝ) : EReal) := h
      exact EReal.coe_eq_coe_iff.mp this
    have h1' : (a : ℝ) ≤ x := EReal.coe_le_coe_iff.mp h1
    have h2' : x < (b : ℝ) := EReal.coe_lt_coe_iff.mp h2
    have h0 : 0 ≤ Int.floor x := Int.floor_nonneg.mpr (le_trans (Nat.cast_nonneg a) h1')
    obtain ⟨p, hp⟩ := Int.eq_ofNat_of_zero_le h0
    have hxp : x = (p : ℝ) := by rw [hx, hp]; simp
    refine ⟨p, by unfold num; rw [hxp], ?_, ?_⟩
    · rw [hxp] at h1'; exact_mod_cast h1'
    · rw [hxp] at h2'; exact_mod_cast h2'

variable (lo hi : Fin 64 → ℕ) (d1 d2 g1 g2 : Fin 2048 → EReal) (X : Fin 2048 → Fin 768 → EReal)
  (net : Fin 64 → (Fin 768 → EReal) → Fin 768 → EReal)

/-- Whether slot `p` is token `t`'s by the slot list `d`, for a slot below the end `h`. -/
def mask (d : Fin 2048 → EReal) (h p : ℕ) (t : Fin 2048) : EReal := hot (d t = num p ∧ num p < num h)

/-- What the kernel puts in slot `p` for an expert whose slots end at `h`. -/
def slot (f : (Fin 768 → EReal) → Fin 768 → EReal) (h p : ℕ) (j : Fin 768) : EReal :=
  f (fun k => ∑ t, (mask d1 h p t + mask d2 h p t) * X t k) j
    * ((∑ t, mask d1 h p t * g1 t) + ∑ t, mask d2 h p t * g2 t)

/-- A slot at or past the end gets zero. -/
theorem slot_past (f : (Fin 768 → EReal) → Fin 768 → EReal) (h p : ℕ) (j : Fin 768) (hp : h ≤ p) :
    slot d1 d2 g1 g2 X f h p j = 0 := by
  have hm : ∀ d t, mask d h p t = 0 := fun d t => by
    unfold mask hot; rw [if_neg]; rintro ⟨-, h'⟩; exact absurd (num_lt.mp h') (by omega)
  simp [slot, hm]

/-- A mask that names exactly one token picks that token's entry out of a sum. -/
theorem mask_self (d : Fin 2048 → EReal) (h p : ℕ) (t : Fin 2048) (hp : p < h) (ht : d t = num p)
    (inj : ∀ t t', d t = d t' → t = t') (t' : Fin 2048) : mask d h p t' = if t' = t then 1 else 0 := by
  unfold mask hot
  by_cases e : t' = t
  · subst e; rw [if_pos ⟨ht, num_lt.mpr hp⟩, if_pos rfl]
  · rw [if_neg e, if_neg]; rintro ⟨h', -⟩; exact e (inj _ _ (h'.trans ht.symm))

/-- A mask whose slot list never holds `p` is zero. -/
theorem mask_other (d : Fin 2048 → EReal) (h p : ℕ) (hn : ∀ t, d t ≠ num p) (t' : Fin 2048) :
    mask d h p t' = 0 := by
  unfold mask hot; rw [if_neg]; rintro ⟨h', -⟩; exact hn _ h'

/-- The slot a token owns by the first list holds the network of that token times its first weight. -/
theorem slot_first (f : (Fin 768 → EReal) → Fin 768 → EReal) (h p : ℕ) (j : Fin 768) (t : Fin 2048)
    (hp : p < h) (ht : d1 t = num p) (inj : ∀ t t', d1 t = d1 t' → t = t') (ne : ∀ t t', d1 t ≠ d2 t') :
    slot d1 d2 g1 g2 X f h p j = f (X t) j * g1 t := by
  have h1 := mask_self d1 h p t hp ht inj
  have h2 := mask_other d2 h p (fun t' e => ne t t' (ht.trans e.symm))
  simp [slot, h1, h2]

/-- The same for the second list. -/
theorem slot_second (f : (Fin 768 → EReal) → Fin 768 → EReal) (h p : ℕ) (j : Fin 768) (t : Fin 2048)
    (hp : p < h) (ht : d2 t = num p) (inj : ∀ t t', d2 t = d2 t' → t = t') (ne : ∀ t t', d1 t ≠ d2 t') :
    slot d1 d2 g1 g2 X f h p j = f (X t) j * g2 t := by
  have h1 := mask_self d2 h p t hp ht inj
  have h2 := mask_other d1 h p (fun t' e => ne t' t (e.trans ht.symm))
  simp [slot, h1, h2]

/-- The rows of the slots, as the kernel leaves them. -/
structure Filled (hs : ℕ → Fin 768 → EReal) : Prop where
  own : ∀ e p j, lo e ≤ p → p < hi e → hs p j = slot d1 d2 g1 g2 X (net e) (hi e) p j
  none : ∀ p j, p < 4672 → (∀ e, ¬(lo e ≤ p ∧ p < hi e)) → hs p j = 0

/-- Picking one token's slot out of all slots, by one of its two lists. -/
theorem pick (hs : ℕ → Fin 768 → EReal) (d : Fin 2048 → EReal) (g : Fin 2048 → EReal) (t : Fin 2048)
    (j : Fin 768) (apart : ∀ e e' : Fin 64, e < e' → hi e ≤ lo e') (top : ∀ e, hi e ≤ 4672)
    (own : ∀ e p, lo e ≤ p → p < hi e → d t = num p → hs p j = net e (X t) j * g t)
    (none : ∀ p, p < 4672 → (∀ e, ¬(lo e ≤ p ∧ p < hi e)) → hs p j = 0)
    (whole : d t = Ideal.liftRound Int.floor (d t)) :
    (∑ p : Fin 4672, hot (d t = num p) * hs p j)
      = ∑ e, net e (X t) j * (if num (lo e) ≤ d t ∧ d t < num (hi e) then g t else 0) := by
  by_cases he : ∃ e, num (lo e) ≤ d t ∧ d t < num (hi e)
  · obtain ⟨e, h1, h2⟩ := he
    obtain ⟨p, hp, ha, hb⟩ := whole_between _ whole _ _ h1 h2
    have hp4 : p < 4672 := lt_of_lt_of_le hb (top e)
    rw [Finset.sum_eq_single (⟨p, hp4⟩ : Fin 4672), Finset.sum_eq_single e]
    · rw [if_pos ⟨h1, h2⟩]; simp only [hot, hp, if_true, one_mul]; exact own e p ha hb hp
    · intro e' _ hne
      rw [if_neg, mul_zero]
      rw [hp, num_le, num_lt]
      rcases lt_or_gt_of_ne hne with h | h
      · have := apart e' e h; omega
      · have := apart e e' h; omega
    · intro h; exact absurd (Finset.mem_univ _) h
    · intro q _ hq
      unfold hot; rw [if_neg, zero_mul]
      intro h; rw [hp, num_inj] at h; exact hq (Fin.ext h.symm)
    · intro h; exact absurd (Finset.mem_univ _) h
  · rw [Finset.sum_eq_zero, Finset.sum_eq_zero]
    · intro e _; rw [if_neg (fun h => he ⟨e, h⟩), mul_zero]
    · intro p _
      unfold hot; split_ifs with h
      · rw [one_mul]; refine none p p.2 fun e hep => he ⟨e, ?_⟩
        rw [h, num_le, num_lt]; exact hep
      · rw [zero_mul]

/-- Summing over all slots gives the plain sum over all experts. -/
theorem combine (hs : ℕ → Fin 768 → EReal) (hf : Filled lo hi d1 d2 g1 g2 X net hs) (t : Fin 2048)
    (j : Fin 768) (apart : ∀ e e' : Fin 64, e < e' → hi e ≤ lo e') (top : ∀ e, hi e ≤ 4672)
    (w1 : ∀ t, d1 t = Ideal.liftRound Int.floor (d1 t)) (w2 : ∀ t, d2 t = Ideal.liftRound Int.floor (d2 t))
    (inj1 : ∀ t t', d1 t = d1 t' → t = t') (inj2 : ∀ t t', d2 t = d2 t' → t = t')
    (ne : ∀ t t', d1 t ≠ d2 t')
    (once : ∀ e t, ¬((num (lo e) ≤ d1 t ∧ d1 t < num (hi e)) ∧ (num (lo e) ≤ d2 t ∧ d2 t < num (hi e)))) :
    (∑ p : Fin 4672, (hot (d1 t = num p) + hot (d2 t = num p)) * hs p j)
      = ∑ e, net e (X t) j * ((if num (lo e) ≤ d1 t ∧ d1 t < num (hi e) then g1 t else 0)
          + if num (lo e) ≤ d2 t ∧ d2 t < num (hi e) then g2 t else 0) := by
  have hpos : ∀ (q : Prop) [Decidable q], 0 ≤ hot q := fun q _ => by unfold hot; split_ifs <;> simp
  have hL : ∀ p : Fin 4672, (hot (d1 t = num p) + hot (d2 t = num p)) * hs p j
      = hot (d1 t = num p) * hs p j + hot (d2 t = num p) * hs p j := fun p =>
    EReal.right_distrib_of_nonneg (hpos _) (hpos _)
  have hR : ∀ e, net e (X t) j * ((if num (lo e) ≤ d1 t ∧ d1 t < num (hi e) then g1 t else 0)
          + if num (lo e) ≤ d2 t ∧ d2 t < num (hi e) then g2 t else 0)
      = net e (X t) j * (if num (lo e) ≤ d1 t ∧ d1 t < num (hi e) then g1 t else 0)
        + net e (X t) j * (if num (lo e) ≤ d2 t ∧ d2 t < num (hi e) then g2 t else 0) := fun e => by
    have := once e t
    by_cases ha : num (lo e) ≤ d1 t ∧ d1 t < num (hi e)
    · rw [if_neg (fun hb => this ⟨ha, hb⟩), add_zero, mul_zero, add_zero]
    · rw [if_neg ha, zero_add, mul_zero, zero_add]
  rw [Finset.sum_congr rfl fun p _ => hL p, Finset.sum_congr rfl fun e _ => hR e,
    Finset.sum_add_distrib, Finset.sum_add_distrib]
  congr 1
  · exact pick lo hi X net hs d1 g1 t j apart top
      (fun e p ha hb ht => (hf.own e p j ha hb).trans (slot_first d1 d2 g1 g2 X (net e) (hi e) p j t hb ht inj1 ne))
      (fun p hp h => hf.none p j hp h) (w1 t)
  · exact pick lo hi X net hs d2 g2 t j apart top
      (fun e p ha hb ht => (hf.own e p j ha hb).trans (slot_second d1 d2 g1 g2 X (net e) (hi e) p j t hb ht inj2 ne))
      (fun p hp h => hf.none p j hp h) (w2 t)

end Cert.Sums
-- ==== Proof.Value.Tiles.lean ====
module
public import proofs.«01_k».proof.Proof.Value.Sums
public import proofs.«01_k».proof.Proof.KernelIdeal.Moe
public import proofs.«01_k».proof.Proof.KernelIdeal.Words
public import Idealize.ShloMosaic.Lib.Pointwise

/-!
What the three regions' stored blocks hold at one row and column, as sums of extended reals.
-/

@[expose] public section
set_option maxRecDepth 16384

noncomputable section
namespace Cert.KernelIdeal.Tiles
open Idealize.ShloMosaic Idealize.ShloMosaic.TcCoe Idealize.SL.Sem
open Cert.KernelIdeal Cert.KernelIdeal.Gen

/-- A row of the shared block: the residual row plus two dense layers of the normalised row. -/
theorem shared_at (v0 : FVec Ideal S512x768 .bf16) (v1 : FVec Ideal S768x1536 .bf16) (v4 : FVec Ideal S1x1536 .f32)
    (v16 : FVec Ideal S512x768 .f32) (v18 : FVec Ideal S1536x768 .bf16) (v22 : FVec Ideal S1x768 .f32) (r : Fin 512) (j : Fin 768) :
    k0_pay1 (F := Ideal) v0 v1 v4 v16 v18 v22 (ix2 r j)
      = (show EReal from v16 (ix2 r j)) + Sums.ffn (fun k => v0 (ix2 r k)) (fun k f => v1 (ix2 k f)) (fun f => v4 (ix2 0 f))
          (fun f j => v18 (ix2 f j)) (fun j => v22 (ix2 0 j)) j := by
  pointwise [k0_pay1]
  unfold Sums.ffn Sums.silu
  exact add_assoc _ _ _

/-- A word below half its range, read as a signed number. -/
theorem word_num (b : BitVec 32) (n : ℕ) (h : b.toNat = n) (hn : n < 2 ^ 31) : ((b.toInt : ℝ) : EReal) = Sums.num n := by
  subst h
  have : b.toInt = (b.toNat : ℤ) := by rw [BitVec.toInt_eq_toNat_cond]; split_ifs <;> omega
  rw [this]; rfl

/-- The same, of the conversion to a number. -/
theorem sitofp_num (b : BitVec 32) (n : ℕ) (h : b.toNat = n) (hn : n < 2 ^ 31) :
    (FloatOps.sitofp (F := Ideal) FTy.f32 b : EReal) = Sums.num n := word_num b n h hn

/-- A truth value widened to a word and converted to a number. -/
theorem hot_word (q : Prop) [Decidable q] :
    (FloatOps.sitofp (F := Ideal) FTy.f32 (BitVec.setWidth 32 (BitVec.ofBool (decide q))) : EReal) = Sums.hot q := by
  show (((BitVec.setWidth 32 (BitVec.ofBool (decide q))).toInt : ℝ) : EReal) = _
  unfold Sums.hot
  by_cases h : q
  · rw [if_pos h]; simp [h]
  · rw [if_neg h]; simp [h]

/-- Two truth values joined, widened to a word and converted to a number. -/
theorem hot_and (p q : Prop) [Decidable p] [Decidable q] :
    (FloatOps.sitofp (F := Ideal) FTy.f32 (BitVec.setWidth 32 (IntOp.andi (BitVec.ofBool (decide p)) (BitVec.ofBool (decide q)))) : EReal)
      = Sums.hot (p ∧ q) := by
  rw [← hot_word]
  by_cases h : p <;> by_cases h' : q <;> simp [h, h', IntOp.andi]

theorem num_add (a b : ℕ) : Sums.num a + Sums.num b = Sums.num (a + b) := by
  unfold Sums.num; rw [← EReal.coe_add, Nat.cast_add]

/-- The slot number of lane `r` of trip `k`. -/
theorem slot_at (v1 v4 : BitVec 32) (h1 : v1.toNat ≤ 568) (h4 : v4.toNat ≤ 4544) (k : Fin (k1_t1_loop v4).trips) (r : Fin 128) :
    k1_pay3 (F := Ideal) v1 v4 0#32 1#32 k (ix2 0 r) = Sums.num (8 * v1.toNat + 128 * k.val + r.val) := by
  have hk : k.val < (v4.toNat + 127) / 128 := Nat.lt_of_lt_of_eq k.isLt (Words.trips1 v4 h4)
  have hr := r.isLt
  pointwise [k1_pay3]
  rw [sitofp_num _ r.val (by simp [BitVec.toNat_ofNat]; omega) (by omega),
    word_num _ (8 * v1.toNat + 128 * k.val) (by
      simp only [Scalar.addi, Scalar.muli, Scf.iv, IntOp.addi, IntOp.muli, BitVec.toNat_add, BitVec.toNat_mul, BitVec.toNat_ofNat]
      simp
      omega) (by omega), num_add, add_comm]

/-- The number of the slot after an expert's last. -/
theorem limit_at (v1 v4 : BitVec 32) (h1 : v1.toNat ≤ 568) (h4 : v4.toNat ≤ 4544) :
    k1_pay22 (F := Ideal) v1 v4 = Sums.num (8 * v1.toNat + v4.toNat) := by
  unfold k1_pay22
  refine word_num _ _ ?_ (by omega)
  simp only [Scalar.addi, Scalar.muli, IntOp.addi, IntOp.muli, BitVec.toNat_add, BitVec.toNat_mul, BitVec.toNat_ofNat]
  omega

theorem mask_at (v1 v4 : BitVec 32) (h1 : v1.toNat ≤ 568) (h4 : v4.toNat ≤ 4544) (v17 : FVec Ideal S2048x1 .f32) (h : ℕ) (k : Fin (k1_t1_loop v4).trips) (t : Fin 2048) (r : Fin 128) :
    k1_pay5 (F := Ideal) v1 v4 v17 (Sums.num h) 0#32 1#32 k (ix2 t r) = Sums.mask (fun t => v17 (ix2 t 0)) h (8 * v1.toNat + 128 * k.val + r.val) t := by
  pointwise [k1_pay5, k1_pay4, slot_at v1 v4 h1 h4]
  exact hot_and _ _

theorem mask_at' (v1 v4 : BitVec 32) (h1 : v1.toNat ≤ 568) (h4 : v4.toNat ≤ 4544) (v17 : FVec Ideal S2048x1 .f32) (h : ℕ) (k : Fin (k1_t1_loop v4).trips) (t : Fin 2048) (r : Fin 128) :
    k1_pay6 (F := Ideal) v1 v4 v17 (Sums.num h) 0#32 1#32 k (ix2 t r) = Sums.mask (fun t => v17 (ix2 t 0)) h (8 * v1.toNat + 128 * k.val + r.val) t := by
  pointwise [k1_pay6, k1_pay4, slot_at v1 v4 h1 h4]
  exact hot_and _ _

/-- The rows a trip writes: each is the slot's row. -/
theorem tile_at (v1 v4 : BitVec 32) (h1 : v1.toNat ≤ 568) (h4 : v4.toNat ≤ 4544) (v10 : FVec Ideal S768x1536 .f32) (v12 : FVec Ideal S1536x768 .f32)
    (v14 : FVec Ideal S1x1536 .f32) (v16 : FVec Ideal S1x768 .f32) (v17 v18 : FVec Ideal S2048x1 .f32) (v20 v22 : FVec Ideal S2048x1 .bf16)
    (h : ℕ) (x0 : FVec Ideal S2048x768 .bf16) (k : Fin (k1_t1_loop v4).trips) (r : Fin 128) (j : Fin 768) :
    Moe.tile (F := Ideal) v1 v4 v10 v12 v14 v16 v17 v18 v20 v22 (Sums.num h) x0 k (ix2 r j)
      = Sums.slot (fun t => v17 (ix2 t 0)) (fun t => v18 (ix2 t 0)) (fun t => v20 (ix2 t 0)) (fun t => v22 (ix2 t 0))
          (fun t k => x0 (ix2 t k))
          (fun row => Sums.ffn row (fun k f => v10 (ix2 k f)) (fun f => v14 (ix2 0 f)) (fun f j => v12 (ix2 f j)) (fun j => v16 (ix2 0 j)))
          h (8 * v1.toNat + 128 * k.val + r.val) j := by
  pointwise [Moe.tile, k1_pay1, k1_pay7, k1_pay8, mask_at v1 v4 h1 h4, mask_at' v1 v4 h1 h4]
  rfl

/-- What a chunk of slots adds to a token's row. -/
theorem chunk_at (i : grid2.Coords) (x0 x1 : FVec Ideal S2048x1 .f32) (x2 : FVec Ideal S1168x768 .bf16) (t : Fin 2048) (j : Fin 768) :
    k2_pay1 (F := Ideal) i x0 x1 x2 (ix2 t j)
      = ∑ q : Fin 1168, (Sums.hot (x0 (ix2 t 0) = Sums.num ((i 0).val * 1168 + q.val)) + Sums.hot (x1 (ix2 t 0) = Sums.num ((i 0).val * 1168 + q.val)))
          * x2 (ix2 q j) := by
  have hi : (i 0).val < 4 := (i 0).isLt
  have e : ∀ q : Fin 1168, (FloatOps.sitofp (F := Ideal) FTy.f32 (BitVec.ofNat 32 q.val) : EReal)
      + (((Scalar.muli (BitVec.ofNat 32 (i 0).val) 1168#32).toInt : ℝ) : EReal) = Sums.num ((i 0).val * 1168 + q.val) := fun q => by
    have hq := q.isLt
    rw [sitofp_num _ q.val (by simp [BitVec.toNat_ofNat]; omega) (by omega),
      word_num _ ((i 0).val * 1168) (by
        simp only [Scalar.muli, IntOp.muli, BitVec.toNat_mul, BitVec.toNat_ofNat]
        omega) (by omega), num_add, add_comm]
  pointwise [k2_pay1]
  refine Finset.sum_congr rfl fun q _ => ?_
  rw [hot_word, hot_word, e q]

end Cert.KernelIdeal.Tiles
-- ==== Proof.Routing.lean ====
/-
  What the precondition `routing` says: the experts' slots are in order, and of the tokens' two slots that they are whole
  numbers, that no slot is owned twice, and that no token has both its slots at one expert.
-/
module

public import proofs.«01_k».proof.Proof.Table
public import proofs.«01_k».proof.Proof.Value.Tiles
public import proofs.«01_k».proof.Proof.Gen.Pre_routing
public import Idealize.ShloMosaic.Lib.Pointwise

@[expose] public section

set_option maxRecDepth 16384

noncomputable section

namespace Cert.Routing

open Idealize.ShloMosaic
open Cert.Pre_routing

variable (x0 : IVec S128 32) (x1 : FVec Ideal S2048x768 .f32) (x2 : FVec Ideal S2048x768 .bf16) (x3 x4 x5 x6 : FVec Ideal S2048x1 .f32)
    (x7 : FVec Ideal S64x768x1536 .f32) (x8 : FVec Ideal S64x1536 .f32) (x9 : FVec Ideal S64x1536x768 .f32) (x10 : FVec Ideal S64x768 .f32) (x11 : FVec Ideal S768x1536 .f32)
    (x12 : FVec Ideal S1536 .f32) (x13 : FVec Ideal S1536x768 .f32) (x14 : FVec Ideal S768 .f32)

/-- The first conjunct: the experts' slots are in order. -/
theorem fits_of_routing (h : (fn x0 x1 x2 x3 x4 x5 x6 x7 x8 x9 x10 x11 x12 x13 x14).1 = fun _ => 1#1) : Table.Fits x0 :=
  Table.fits_of x0 x1 x2 x3 x4 x5 x6 x7 x8 x9 x10 x11 x12 x13 x14 h

theorem ofBool_one {q : Prop} [Decidable q] (h : BitVec.ofBool (decide q) = 1#1) : q := by
  by_contra hq; rw [decide_eq_false hq] at h; exact absurd h (by decide)

theorem not_ofBool_one {q : Prop} [Decidable q] (h : ~~~BitVec.ofBool (decide q) = 1#1) : ¬q := by
  intro hq; rw [decide_eq_true hq] at h; exact absurd h (by decide)

/-- A token's first slot is a whole number, -/
theorem whole1 (h : (fn x0 x1 x2 x3 x4 x5 x6 x7 x8 x9 x10 x11 x12 x13 x14).2.1 = fun _ => 1#1) (t : Fin 2048) :
    x3 (ix2 t 0) = Ideal.liftRound Int.floor (x3 (ix2 t 0)) := by
  have h := congrFun h (ix2 t 0)
  pointwise [fn, fn_part1, fn_part2, fn_part3] at h
  exact ofBool_one h
/-- and so is its second. -/
theorem whole2 (h : (fn x0 x1 x2 x3 x4 x5 x6 x7 x8 x9 x10 x11 x12 x13 x14).2.2.1 = fun _ => 1#1) (t : Fin 2048) :
    x4 (ix2 t 0) = Ideal.liftRound Int.floor (x4 (ix2 t 0)) := by
  have h := congrFun h (ix2 t 0)
  pointwise [fn, fn_part1, fn_part2, fn_part3] at h
  exact ofBool_one h

/-- Two row numbers compared as words, or a statement that fails: the row numbers are equal. -/
theorem eq_of_ori (t t' : Fin 2048) (q : Prop) [Decidable q] (hq : q)
    (h : IntOp.ori (IntOp.cmpi CmpIPredicate.eq (BitVec.ofNat 32 t.val) (BitVec.ofNat 32 t'.val)) (~~~BitVec.ofBool (decide q)) = 1#1) : t = t' := by
  rw [decide_eq_true hq] at h
  by_contra hne
  have hv : t.val ≠ t'.val := fun e => hne (Fin.ext e)
  have hw : BitVec.ofNat 32 t.val ≠ BitVec.ofNat 32 t'.val := fun e => hv (by
    have := congrArg BitVec.toNat e
    simp only [BitVec.toNat_ofNat] at this
    have := t.isLt; have := t'.isLt
    omega)
  have e : IntOp.cmpi CmpIPredicate.eq (BitVec.ofNat 32 t.val) (BitVec.ofNat 32 t'.val) = 0#1 := by
    show BitVec.ofBool (BitVec.ofNat 32 t.val == BitVec.ofNat 32 t'.val) = 0#1
    rw [beq_eq_false_iff_ne.mpr hw]; rfl
  rw [e] at h
  exact absurd h (by decide)

/-- No slot is the first of two tokens, -/
theorem inj1 (h : (fn x0 x1 x2 x3 x4 x5 x6 x7 x8 x9 x10 x11 x12 x13 x14).2.2.2.1 = fun _ => 1#1) (t t' : Fin 2048)
    (e : x3 (ix2 t 0) = x3 (ix2 t' 0)) : t = t' := by
  have h := congrFun h (ix2 t t')
  pointwise [fn, fn_part1, fn_part2, fn_part3] at h
  exact eq_of_ori t t' _ e h
/-- or the second of two, -/
theorem inj2 (h : (fn x0 x1 x2 x3 x4 x5 x6 x7 x8 x9 x10 x11 x12 x13 x14).2.2.2.2.1 = fun _ => 1#1) (t t' : Fin 2048)
    (e : x4 (ix2 t 0) = x4 (ix2 t' 0)) : t = t' := by
  have h := congrFun h (ix2 t t')
  pointwise [fn, fn_part1, fn_part2, fn_part3] at h
  exact eq_of_ori t t' _ e h
/-- or one token's first and another's second. -/
theorem ne12 (h : (fn x0 x1 x2 x3 x4 x5 x6 x7 x8 x9 x10 x11 x12 x13 x14).2.2.2.2.2.1 = fun _ => 1#1) (t t' : Fin 2048) :
    x3 (ix2 t 0) ≠ x4 (ix2 t' 0) := by
  have h := congrFun h (ix2 t t')
  pointwise [fn, fn_part1, fn_part2, fn_part3] at h
  exact not_ofBool_one h

/-- An expert's first slot and the slot after its last, as numbers made from the table's words. -/
theorem lo_num (hT : Table.Fits x0) (e : Fin 64) (he : e.val < 128) (i : S128.Idx) (hi : i = Table.at1 e) :
    (FloatOps.sitofp (F := Ideal) FTy.f32 (IntOp.muli (8#32) (x0 i)) : EReal) = Sums.num (8 * (x0 (Table.at1 e)).toNat) := by
  subst hi
  have := hT.first e
  refine Cert.KernelIdeal.Tiles.sitofp_num _ _ ?_ (by omega)
  simp only [IntOp.muli, BitVec.toNat_mul, BitVec.toNat_ofNat]
  omega
theorem hi_num (hT : Table.Fits x0) (e : Fin 64) (i i' : S128.Idx) (hi : i = Table.at1 e) (hi' : i' = Table.at2 e) :
    (FloatOps.sitofp (F := Ideal) FTy.f32 (IntOp.addi (IntOp.muli (8#32) (x0 i)) (x0 i')) : EReal)
      = Sums.num (8 * (x0 (Table.at1 e)).toNat + (x0 (Table.at2 e)).toNat) := by
  subst hi hi'
  have := hT.first e
  have := hT.count e
  refine Cert.KernelIdeal.Tiles.sitofp_num _ _ ?_ (by omega)
  simp only [IntOp.muli, IntOp.addi, BitVec.toNat_mul, BitVec.toNat_add, BitVec.toNat_ofNat]
  omega

theorem ix_at1 (e : Fin 64) (h : e.val < 128) : (ix1 ⟨e.val, h⟩ : S128.Idx) = Table.at1 e := funext fun a => match a with | ⟨0, _⟩ => rfl
theorem ix_at2 (e : Fin 64) (h : 64 + e.val < 128) : (ix1 ⟨64 + e.val, h⟩ : S128.Idx) = Table.at2 e := funext fun a => match a with | ⟨0, _⟩ => rfl

/-- Four truth values joined and the join denied. -/
theorem not_and4 {p q r s : Prop} [Decidable p] [Decidable q] [Decidable r] [Decidable s]
    (h : ~~~IntOp.andi (IntOp.andi (IntOp.andi (BitVec.ofBool (decide p)) (BitVec.ofBool (decide q))) (BitVec.ofBool (decide r))) (BitVec.ofBool (decide s)) = 1#1) :
    ¬((p ∧ q) ∧ (r ∧ s)) := by
  rintro ⟨⟨hp, hq⟩, hr, hs⟩
  rw [decide_eq_true hp, decide_eq_true hq, decide_eq_true hr, decide_eq_true hs] at h
  exact absurd h (by decide)

/-- No token has both its slots at one expert. -/
theorem once (hT : Table.Fits x0) (h : (fn x0 x1 x2 x3 x4 x5 x6 x7 x8 x9 x10 x11 x12 x13 x14).2.2.2.2.2.2 = fun _ => 1#1) (e : Fin 64) (t : Fin 2048) :
    ¬((Sums.num (8 * (x0 (Table.at1 e)).toNat) ≤ x3 (ix2 t 0) ∧ x3 (ix2 t 0) < Sums.num (8 * (x0 (Table.at1 e)).toNat + (x0 (Table.at2 e)).toNat))
      ∧ (Sums.num (8 * (x0 (Table.at1 e)).toNat) ≤ x4 (ix2 t 0) ∧ x4 (ix2 t 0) < Sums.num (8 * (x0 (Table.at1 e)).toNat + (x0 (Table.at2 e)).toNat))) := by
  have h := congrFun h (ix2 e t)
  pointwise [fn, fn_part1, fn_part2, fn_part3] at h
  rw [lo_num x0 hT e (by omega) _ (ix_at1 e _), hi_num x0 hT e _ _ (ix_at1 e _) (ix_at2 e _)] at h
  exact not_and4 h

end Cert.Routing
-- ==== Proof.Value.Rows.lean ====
module
public import proofs.«01_k».proof.Proof.Value.Tiles

/-!
The block of expert rows, at one row and column: after one expert's whole loop, and after the loops of the first experts.
-/

@[expose] public section
set_option maxRecDepth 16384

noncomputable section
namespace Cert.KernelIdeal.Rows
open Idealize.ShloMosaic Idealize.ShloMosaic.TcCoe Idealize.SL.Sem
open Cert.KernelIdeal Cert.KernelIdeal.Gen

/-- Rows put in at a place: read at a row and column. -/
theorem put_at (x : FVec Ideal S4672x768 .bf16) (o : ℕ) (w : FVec Ideal S128x768 .bf16) (p : Fin 4672) (j : Fin 768) :
    VecWindow.put (s := S4672x768) x ![o, 0] S128x768.size w (ix2 p j)
      = if h : o ≤ p.val ∧ p.val < o + 128 then w (ix2 ⟨p.val - o, by omega⟩ j) else x (ix2 p j) := by
  unfold VecWindow.put
  by_cases h : o ≤ p.val ∧ p.val < o + 128
  · have h' : ∀ a, (![o, 0] : Fin S4672x768.rank → ℕ) a ≤ ((ix2 p j : S4672x768.Idx) a).val
        ∧ ((ix2 p j : S4672x768.Idx) a).val < (![o, 0] : Fin S4672x768.rank → ℕ) a + S128x768.size a := by
      intro a
      match a with
      | ⟨0, _⟩ => exact h
      | ⟨1, _⟩ => exact ⟨Nat.zero_le _, by show j.val < 0 + 768; omega⟩
    rw [dif_pos h, dif_pos h']
    refine congrArg w (funext fun a => ?_)
    match a with
    | ⟨0, _⟩ => rfl
    | ⟨1, _⟩ => rfl
  · rw [dif_neg h, dif_neg]
    intro h'; exact h (h' 0)

section One
variable (v1 v4 : BitVec 32) (h1 : v1.toNat ≤ 568) (h4 : v4.toNat ≤ 4544) (v10 : FVec Ideal S768x1536 .f32) (v12 : FVec Ideal S1536x768 .f32)
    (v14 : FVec Ideal S1x1536 .f32) (v16 : FVec Ideal S1x768 .f32) (v17 v18 : FVec Ideal S2048x1 .f32) (v20 v22 : FVec Ideal S2048x1 .bf16)
    (h : ℕ) (x0 : FVec Ideal S2048x768 .bf16) (prev : FVec Ideal S4672x768 .bf16)

include h1 h4 in
/-- After `n` trips: the rows the trips have reached hold the slots' rows, the others what was there. -/
theorem rows_at (n : ℕ) (hn : n ≤ (k1_t1_loop v4).trips) (p : Fin 4672) (j : Fin 768) :
    Moe.rows (F := Ideal) v1 v4 v10 v12 v14 v16 v17 v18 v20 v22 (Sums.num h) x0 prev n (ix2 p j)
      = if 8 * v1.toNat ≤ p.val ∧ p.val < 8 * v1.toNat + 128 * n then
          Sums.slot (fun t => v17 (ix2 t 0)) (fun t => v18 (ix2 t 0)) (fun t => v20 (ix2 t 0)) (fun t => v22 (ix2 t 0))
            (fun t k => x0 (ix2 t k))
            (fun row => Sums.ffn row (fun k f => v10 (ix2 k f)) (fun f => v14 (ix2 0 f)) (fun f j => v12 (ix2 f j)) (fun j => v16 (ix2 0 j)))
            h p.val j
        else prev (ix2 p j) := by
  induction n with
  | zero => rw [if_neg (by omega)]; rfl
  | succ n ih =>
    have ih := ih (Nat.le_of_succ_le hn)
    rw [Moe.rows.eq_2, dif_pos (show n < (k1_t1_loop v4).trips from hn), Words.off3_row v1 v4 h1 h4, put_at]
    by_cases hp : 8 * v1.toNat + 128 * n ≤ p.val ∧ p.val < 8 * v1.toNat + 128 * n + 128
    · rw [dif_pos hp, if_pos (by omega), Tiles.tile_at v1 v4 h1 h4]
      congr 1
      show 8 * v1.toNat + 128 * n + (p.val - (8 * v1.toNat + 128 * n)) = p.val
      omega
    · rw [dif_neg hp, ih]
      by_cases hq : 8 * v1.toNat ≤ p.val ∧ p.val < 8 * v1.toNat + 128 * n
      · rw [if_pos hq, if_pos (by omega)]
      · rw [if_neg hq, if_neg (by omega)]
end One

/-- After an expert's whole loop: its own slots hold their rows, the slots the last trip reached beyond them hold zero,
    the others what was there. -/
theorem step_at (v1 v4 : BitVec 32) (h1 : v1.toNat ≤ 568) (h4 : v4.toNat ≤ 4544) (x0 : FVec Ideal S2048x768 .bf16)
    (x1 x2 x3 x4 : FVec Ideal S2048x1 .f32) (x5 : FVec Ideal S1x768x1536 .f32) (x6 : FVec Ideal S1x1x1536 .f32)
    (x7 : FVec Ideal S1x1536x768 .f32) (x8 : FVec Ideal S1x1x768 .f32) (prev : FVec Ideal S4672x768 .bf16) (p : Fin 4672) (j : Fin 768) :
    Moe.stepRows (F := Ideal) v1 v4 x0 x1 x2 x3 x4 x5 x6 x7 x8 prev (ix2 p j)
      = if 8 * v1.toNat ≤ p.val ∧ p.val < 8 * v1.toNat + v4.toNat then
          Sums.slot (fun t => x1 (ix2 t 0)) (fun t => x2 (ix2 t 0)) (fun t => x3 (ix2 t 0)) (fun t => x4 (ix2 t 0))
            (fun t k => x0 (ix2 t k))
            (fun row => Sums.ffn row (fun k f => x5 (ix3 0 k f)) (fun f => x6 (ix3 0 0 f)) (fun f j => x7 (ix3 0 f j)) (fun j => x8 (ix3 0 0 j)))
            (8 * v1.toNat + v4.toNat) p.val j
        else if 8 * v1.toNat ≤ p.val ∧ p.val < 8 * v1.toNat + 128 * (k1_t1_loop v4).trips then 0
        else prev (ix2 p j) := by
  have ht : (k1_t1_loop v4).trips = (v4.toNat + 127) / 128 := Words.trips1 v4 h4
  unfold Moe.stepRows
  rw [Tiles.limit_at v1 v4 h1 h4, rows_at v1 v4 h1 h4 _ _ _ _ _ _ _ _ _ _ _ _ le_rfl]
  have e16 : ∀ k f, k1_pay16 (F := Ideal) x5 (ix2 k f) = x5 (ix3 0 k f) := fun k f => by pointwise [k1_pay16]
  have e17 : ∀ f j, k1_pay17 (F := Ideal) x7 (ix2 f j) = x7 (ix3 0 f j) := fun f j => by pointwise [k1_pay17]
  have e18 : ∀ f, k1_pay18 (F := Ideal) x6 (ix2 0 f) = x6 (ix3 0 0 f) := fun f => by pointwise [k1_pay18]
  have e19 : ∀ j, k1_pay19 (F := Ideal) x8 (ix2 0 j) = x8 (ix3 0 0 j) := fun j => by pointwise [k1_pay19]
  have e20 : ∀ t, k1_pay20 (F := Ideal) x3 (ix2 t 0) = x3 (ix2 t 0) := fun t => by pointwise [k1_pay20]
  have e21 : ∀ t, k1_pay21 (F := Ideal) x4 (ix2 t 0) = x4 (ix2 t 0) := fun t => by pointwise [k1_pay21]
  simp only [e16, e17, e18, e19, e20, e21]
  by_cases ha : 8 * v1.toNat ≤ p.val ∧ p.val < 8 * v1.toNat + v4.toNat
  · rw [if_pos ha, if_pos (by omega)]
  · rw [if_neg ha]
    by_cases hb : 8 * v1.toNat ≤ p.val ∧ p.val < 8 * v1.toNat + 128 * (k1_t1_loop v4).trips
    · rw [if_pos hb, if_pos hb]
      exact Sums.slot_past _ _ _ _ _ _ _ _ _ (by omega)
    · rw [if_neg hb, if_neg hb]

end Cert.KernelIdeal.Rows
-- ==== Proof.Value.ScatterArr.lean ====
module
public import proofs.«01_k».proof.Proof.Value.Tiles
public import proofs.«01_k».proof.Proof.KernelIdeal.Run
public import Idealize.ShloMosaic.Lib.Pipeline.ValueKit

/-!
What the first and the third region leave in their result arrays, at one row and column, from the arrays they find.
-/

@[expose] public section
set_option maxRecDepth 16384

noncomputable section
namespace Cert.KernelIdeal.Arr
open Idealize.ShloMosaic Idealize.ShloMosaic.TcCoe Idealize.SL.Sem
open Idealize.ShloMosaic.Pipeline (Dat)
open Cert.KernelIdeal Cert.KernelIdeal.Gen

variable (V : Dev nD → Valuation τ sig (Elt Ideal)) (c : Dev nD)

theorem idx2 : ∀ t : Fin cfg2.N, (cfg2.win 0).index t = ![0, 0] ∧ (cfg2.win 1).index t = ![0, 0]
    ∧ (cfg2.win 2).index t = ![t.val, 0] ∧ (cfg2.win 3).index t = ![0, 0] ∧ (cfg2.win 4).index t = ![0, 0] :=
  (by decide +kernel : ∀ t : Fin grid2.N, _)

theorem blk2_0 (t : Fin cfg2.N) (r : Fin 2048) : Scatter.iblk V c 0 t (ix2 r 0) = V c (Proc.devRef .tc main_arg3) (ix2 r 0) := by
  blk_ext [Scatter.iblk, idx2 t]
theorem blk2_1 (t : Fin cfg2.N) (r : Fin 2048) : Scatter.iblk V c 1 t (ix2 r 0) = V c (Proc.devRef .tc main_arg4) (ix2 r 0) := by
  blk_ext [Scatter.iblk, idx2 t]
theorem blk2_2 (t : Fin cfg2.N) (q : Fin 1168) (j : Fin 768) :
    Scatter.iblk V c 2 t (ix2 q j) = V c (Proc.devRef .tc main_v7) (ix2 ⟨t.val * 1168 + q.val, by have := t.isLt; have : cfg2.N = 4 := N_2; omega⟩ j) := by
  blk_ext [Scatter.iblk, idx2 t]
theorem blk2_3 (t : Fin cfg2.N) (r : Fin 2048) (j : Fin 768) : Scatter.iblk V c 3 t (ix2 r j) = V c (Proc.devRef .tc main_v4) (ix2 r j) := by
  blk_ext [Scatter.iblk, idx2 t]

theorem scatter_last : Run.res_Scatter V c = Scatter.acc V c 3 (by decide +kernel) := by
  unfold Run.res_Scatter
  refine (Scatter.dat V c).arrAt_eq_of_after_last 4 ⟨3, by decide +kernel⟩ (by decide +kernel) _ fun j => ?_
  blk_simp
  exact congrFun (Scatter.after_4 V c ⟨3, by decide +kernel⟩) j

/-- A point's chunk of slots, on whatever the block holds. -/
theorem pay2_at (i : grid2.Coords) (x0 x1 : FVec Ideal S2048x1 .f32) (x2 : FVec Ideal S1168x768 .bf16) (p : FVec Ideal S2048x768 .f32) (r : Fin 2048) (j : Fin 768) :
    k2_pay2 (F := Ideal) i x0 x1 x2 p (ix2 r j) = (show EReal from p (ix2 r j)) + k2_pay1 (F := Ideal) i x0 x1 x2 (ix2 r j) := by
  pointwise [k2_pay2]
theorem pay3_at (i : grid2.Coords) (x0 x1 : FVec Ideal S2048x1 .f32) (x2 : FVec Ideal S1168x768 .bf16) (p : FVec Ideal S2048x768 .f32) (r : Fin 2048) (j : Fin 768) :
    k2_pay3 (F := Ideal) i x0 x1 x2 p (ix2 r j) = (show EReal from p (ix2 r j)) + k2_pay1 (F := Ideal) i x0 x1 x2 (ix2 r j) := by
  pointwise [k2_pay3]

theorem coords2 : ∀ t : Fin cfg2.N, (grid2.coords t 0).val = t.val := (by decide +kernel : ∀ t : Fin grid2.N, _)

/-- A chunk of slots, over the arrays of slots and of rows. -/
theorem chunk (D1 D2 : FVec Ideal S2048x1 .f32) (H : FVec Ideal S4672x768 .bf16) (e1 : V c (Proc.devRef .tc main_arg3) = D1)
    (e2 : V c (Proc.devRef .tc main_arg4) = D2) (eH : V c (Proc.devRef .tc main_v7) = H) (t : Fin cfg2.N) (r : Fin 2048) (j : Fin 768) :
    k2_pay1 (F := Ideal) (grid2.coords t) (Scatter.iblk V c 0 t) (Scatter.iblk V c 1 t) (Scatter.iblk V c 2 t) (ix2 r j)
      = ∑ q : Fin 1168, (Sums.hot (D1 (ix2 r 0) = Sums.num (t.val * 1168 + q.val)) + Sums.hot (D2 (ix2 r 0) = Sums.num (t.val * 1168 + q.val)))
          * H (ix2 ⟨t.val * 1168 + q.val, by have := t.isLt; have : cfg2.N = 4 := N_2; omega⟩ j) := by
  subst e1 e2 eH
  refine (Tiles.chunk_at _ _ _ _ r j).trans ?_
  rw [coords2 t]
  refine Finset.sum_congr rfl fun q _ => ?_
  refine congrArg₂ (· * ·) ?_ (blk2_2 V c t q j)
  exact congrArg₂ (fun (a b : EReal) => Sums.hot (a = Sums.num (t.val * 1168 + q.val)) + Sums.hot (b = Sums.num (t.val * 1168 + q.val))) (blk2_0 V c t r) (blk2_1 V c t r)

/-- The third region's result: each row is the residual row plus, over all slots, the rows of the slots that are the token's. -/
theorem scatter_at (D1 D2 : FVec Ideal S2048x1 .f32) (H : FVec Ideal S4672x768 .bf16) (B : FVec Ideal S2048x768 .f32)
    (e1 : V c (Proc.devRef .tc main_arg3) = D1) (e2 : V c (Proc.devRef .tc main_arg4) = D2) (eH : V c (Proc.devRef .tc main_v7) = H)
    (eB : V c (Proc.devRef .tc main_v4) = B) (r : Fin 2048) (j : Fin 768) :
    (show FVec Ideal S2048x768 .f32 from Run.res_Scatter V c) (ix2 r j)
      = B (ix2 r j) + ∑ p : Fin 4672, (Sums.hot (D1 (ix2 r 0) = Sums.num p.val) + Sums.hot (D2 (ix2 r 0) = Sums.num p.val)) * H (ix2 p j) := by
  have hN : cfg2.N = 4 := N_2
  rw [scatter_last]
  have c0 := chunk V c D1 D2 H e1 e2 eH ⟨0, by omega⟩ r j
  have c1 := chunk V c D1 D2 H e1 e2 eH ⟨1, by omega⟩ r j
  have c2 := chunk V c D1 D2 H e1 e2 eH ⟨2, by omega⟩ r j
  have c3 := chunk V c D1 D2 H e1 e2 eH ⟨3, by omega⟩ r j
  have b3 : (show EReal from Scatter.iblk V c 3 ⟨0, by omega⟩ (ix2 r j)) = B (ix2 r j) := (blk2_3 V c _ r j).trans (congrFun eB _)
  have h : Scatter.acc V c 3 (by omega) (ix2 r j) = (((B (ix2 r j) + _) + _) + _) + _ :=
    (pay3_at _ _ _ _ _ r j).trans (congrArg₂ (· + ·) ((pay3_at _ _ _ _ _ r j).trans (congrArg₂ (· + ·) ((pay3_at _ _ _ _ _ r j).trans
      (congrArg₂ (· + ·) ((pay2_at _ _ _ _ _ r j).trans (congrArg₂ (· + ·) b3 c0)) c1)) c2)) c3)
  refine h.trans ?_
  rw [Fin.sum_univ_tiles 4 1168 rfl, Fin.sum_univ_four]
  simp only [add_assoc]
  rfl

/-! ## The first region -/

theorem idx0 : ∀ t : Fin cfg0.N, (cfg0.win 0).index t = ![t.val, 0] ∧ (cfg0.win 1).index t = ![t.val, 0]
    ∧ (cfg0.win 2).index t = ![0, 0] ∧ (cfg0.win 3).index t = ![0, 0] ∧ (cfg0.win 4).index t = ![0, 0] ∧ (cfg0.win 5).index t = ![0, 0]
    ∧ (cfg0.win 6).index t = ![t.val, 0] :=
  (by decide +kernel : ∀ t : Fin grid0.N, _)

theorem lt0 (t : Fin cfg0.N) (r : Fin 512) : t.val * 512 + r.val < 2048 := by
  have := t.isLt; have : cfg0.N = 4 := N_0; omega

theorem blk0_0 (t : Fin cfg0.N) (r : Fin 512) (j : Fin 768) : Shared.iblk V c 0 t (ix2 r j) = V c (Proc.devRef .tc main_arg1) (ix2 ⟨_, lt0 t r⟩ j) := by
  blk_ext [Shared.iblk, idx0 t]
theorem blk0_1 (t : Fin cfg0.N) (r : Fin 512) (j : Fin 768) : Shared.iblk V c 1 t (ix2 r j) = V c (Proc.devRef .tc main_arg2) (ix2 ⟨_, lt0 t r⟩ j) := by
  blk_ext [Shared.iblk, idx0 t]
theorem blk0_2 (t : Fin cfg0.N) (k : Fin 768) (f : Fin 1536) : Shared.iblk V c 2 t (ix2 k f) = V c (Proc.devRef .tc main_v0) (ix2 k f) := by
  blk_ext [Shared.iblk, idx0 t]
theorem blk0_3 (t : Fin cfg0.N) (f : Fin 1536) : Shared.iblk V c 3 t (ix2 0 f) = V c (Proc.devRef .tc main_v1) (ix2 0 f) := by
  blk_ext [Shared.iblk, idx0 t]
theorem blk0_4 (t : Fin cfg0.N) (f : Fin 1536) (j : Fin 768) : Shared.iblk V c 4 t (ix2 f j) = V c (Proc.devRef .tc main_v2) (ix2 f j) := by
  blk_ext [Shared.iblk, idx0 t]
theorem blk0_5 (t : Fin cfg0.N) (j : Fin 768) : Shared.iblk V c 5 t (ix2 0 j) = V c (Proc.devRef .tc main_v3) (ix2 0 j) := by
  blk_ext [Shared.iblk, idx0 t]

/-- The dense layers from equal parts. -/
theorem ffn_congr {r r' : Fin 768 → EReal} {W1 W1' : Fin 768 → Fin 1536 → EReal} {b1 b1' : Fin 1536 → EReal} {W2 W2' : Fin 1536 → Fin 768 → EReal}
    {b2 b2' : Fin 768 → EReal} (h : r = r') (h1 : W1 = W1') (h2 : b1 = b1') (h3 : W2 = W2') (h4 : b2 = b2') (j : Fin 768) :
    Sums.ffn r W1 b1 W2 b2 j = Sums.ffn r' W1' b1' W2' b2' j := by subst h h1 h2 h3 h4; rfl

/-- The first region's result as one array. -/
def base (X1 : FVec Ideal S2048x768 .f32) (X2 : FVec Ideal S2048x768 .bf16) (W1 : FVec Ideal S768x1536 .bf16) (b1 : FVec Ideal S1x1536 .f32)
    (W2 : FVec Ideal S1536x768 .bf16) (b2 : FVec Ideal S1x768 .f32) : FVec Ideal S2048x768 .f32 := fun i =>
  (show EReal from X1 i) + Sums.ffn (fun k => X2 (ix2 (i 0) k)) (fun k f => W1 (ix2 k f)) (fun f => b1 (ix2 0 f))
          (fun f j => W2 (ix2 f j)) (fun j => b2 (ix2 0 j)) (i 1)

/-- The first region's result: each row is the residual row plus the two dense layers of the normalised row. -/
theorem shared_arr : Run.res_Shared V c = base (V c (Proc.devRef .tc main_arg1)) (V c (Proc.devRef .tc main_arg2)) (V c (Proc.devRef .tc main_v0))
    (V c (Proc.devRef .tc main_v1)) (V c (Proc.devRef .tc main_v2)) (V c (Proc.devRef .tc main_v3)) := by
  unfold Run.res_Shared
  refine (Shared.dat V c).arrAt_eq_of_covers 6 _ (by decide +kernel) fun t _ y => ?_
  have hy : ((cfg0.win 6).blk t).view.emb y = (ix2 ⟨_, lt0 t (y 0)⟩ (y 1) : S2048x768.Idx) := by
    blk_ext [idx0 t]
  rw [hy]
  blk_simp
  rw [Shared.after_6]
  have ey : y = (ix2 (y 0) (y 1) : S512x768.Idx) := eq_ix2 _
  refine (congrArg _ ey).trans ((Tiles.shared_at _ _ _ _ _ _ (y 0) (y 1)).trans ?_)
  unfold base
  refine congrArg₂ (· + ·) (blk0_0 V c t (y 0) (y 1)) (ffn_congr (funext fun k => blk0_1 V c t (y 0) k) (funext fun k => funext fun f => blk0_2 V c t k f)
    (funext fun f => blk0_3 V c t f) (funext fun f => funext fun j => blk0_4 V c t f j) (funext fun j => blk0_5 V c t j) (y 1))

end Cert.KernelIdeal.Arr
-- ==== Proof.Value.MoeArr.lean ====
module
public import proofs.«01_k».proof.Proof.Value.Rows
public import proofs.«01_k».proof.Proof.Value.ScatterArr
public import proofs.«01_k».proof.Proof.KernelIdeal.Frames
public import Idealize.ShloMosaic.Lib.Pipeline.ValueKit

/-!
What the second region leaves in the array of expert rows, from the arrays it finds.
-/

@[expose] public section
set_option maxRecDepth 16384

noncomputable section
namespace Cert.KernelIdeal.Arr
open Idealize.ShloMosaic Idealize.ShloMosaic.TcCoe Idealize.SL.Sem
open Idealize.ShloMosaic.Pipeline (Dat)
open Cert.KernelIdeal Cert.KernelIdeal.Gen

variable (V : Dev nD → Valuation τ sig (Elt Ideal)) (a : (pcfg1 (F := Ideal)).Adm) (c : Dev nD)

theorem tr1 : ∀ t : Fin grid1.N, cc1_transform_0 (grid1.coords t) = ![0, 0] ∧ cc1_transform_1 (grid1.coords t) = ![0, 0] ∧ cc1_transform_2 (grid1.coords t) = ![0, 0]
    ∧ cc1_transform_3 (grid1.coords t) = ![0, 0] ∧ cc1_transform_4 (grid1.coords t) = ![0, 0] ∧ cc1_transform_5 (grid1.coords t) = ![t.val, 0, 0]
    ∧ cc1_transform_6 (grid1.coords t) = ![t.val, 0, 0] ∧ cc1_transform_7 (grid1.coords t) = ![t.val, 0, 0] ∧ cc1_transform_8 (grid1.coords t) = ![t.val, 0, 0]
    ∧ cc1_transform_9 (grid1.coords t) = ![0, 0] := by decide +kernel

theorem idx1 (t : Fin (cfg1 a).N) : ((cfg1 a).win 0).index t = ![0, 0] ∧ ((cfg1 a).win 1).index t = ![0, 0]
    ∧ ((cfg1 a).win 2).index t = ![0, 0] ∧ ((cfg1 a).win 3).index t = ![0, 0] ∧ ((cfg1 a).win 4).index t = ![0, 0] ∧ ((cfg1 a).win 5).index t = ![t.val, 0, 0]
    ∧ ((cfg1 a).win 6).index t = ![t.val, 0, 0] ∧ ((cfg1 a).win 7).index t = ![t.val, 0, 0] ∧ ((cfg1 a).win 8).index t = ![t.val, 0, 0]
    ∧ ((cfg1 a).win 9).index t = ![0, 0] := tr1 t

theorem blk1_0 (t : Fin (cfg1 a).N) (r : Fin 2048) (k : Fin 768) : Moe.iblk V a c 0 t (ix2 r k) = V c (Proc.devRef .tc main_arg2) (ix2 r k) := by
  blk_ext [Moe.iblk, idx1 a t]
theorem blk1_1 (t : Fin (cfg1 a).N) (r : Fin 2048) : Moe.iblk V a c 1 t (ix2 r 0) = V c (Proc.devRef .tc main_arg3) (ix2 r 0) := by
  blk_ext [Moe.iblk, idx1 a t]
theorem blk1_2 (t : Fin (cfg1 a).N) (r : Fin 2048) : Moe.iblk V a c 2 t (ix2 r 0) = V c (Proc.devRef .tc main_arg4) (ix2 r 0) := by
  blk_ext [Moe.iblk, idx1 a t]
theorem blk1_3 (t : Fin (cfg1 a).N) (r : Fin 2048) : Moe.iblk V a c 3 t (ix2 r 0) = V c (Proc.devRef .tc main_arg5) (ix2 r 0) := by
  blk_ext [Moe.iblk, idx1 a t]
theorem blk1_4 (t : Fin (cfg1 a).N) (r : Fin 2048) : Moe.iblk V a c 4 t (ix2 r 0) = V c (Proc.devRef .tc main_arg6) (ix2 r 0) := by
  blk_ext [Moe.iblk, idx1 a t]

theorem blk1_5 (t : Fin (cfg1 a).N) (k : Fin 768) (f : Fin 1536) : Moe.iblk V a c 5 t (ix3 0 k f) = V c (Proc.devRef .tc main_arg7) (ix3 ⟨t.val, Nat.lt_of_lt_of_eq t.isLt N_1⟩ k f) := by
  blk_ext [Moe.iblk, idx1 a t]
theorem blk1_6 (t : Fin (cfg1 a).N) (f : Fin 1536) : Moe.iblk V a c 6 t (ix3 0 0 f) = V c (Proc.devRef .tc main_v5) (ix3 ⟨t.val, Nat.lt_of_lt_of_eq t.isLt N_1⟩ 0 f) := by
  blk_ext [Moe.iblk, idx1 a t]
theorem blk1_7 (t : Fin (cfg1 a).N) (f : Fin 1536) (j : Fin 768) : Moe.iblk V a c 7 t (ix3 0 f j) = V c (Proc.devRef .tc main_arg9) (ix3 ⟨t.val, Nat.lt_of_lt_of_eq t.isLt N_1⟩ f j) := by
  blk_ext [Moe.iblk, idx1 a t]
theorem blk1_8 (t : Fin (cfg1 a).N) (j : Fin 768) : Moe.iblk V a c 8 t (ix3 0 0 j) = V c (Proc.devRef .tc main_v6) (ix3 ⟨t.val, Nat.lt_of_lt_of_eq t.isLt N_1⟩ 0 j) := by
  blk_ext [Moe.iblk, idx1 a t]

theorem lt63 : 63 < (cfg1 a).N := by
  have : (cfg1 a).N = 64 := N_1
  omega

theorem whole1 : ((cfg1 a).win 9).WholeAt ⟨63, lt63 a⟩ := by
  refine ⟨(Moe.flush_9 a ⟨63, lt63 a⟩).mpr rfl, fun t ht => ?_, fun x => ⟨?_, ?_⟩⟩
  · have := (Moe.flush_9 a t).mp ht
    have h4 : t.val < 64 := Nat.lt_of_lt_of_eq t.isLt N_1
    exact Fin.ext (by show t.val = 63; omega)
  · rw [(idx1 a _).2.2.2.2.2.2.2.2.2]
    match x with
    | ⟨0, _⟩ => rfl
    | ⟨1, _⟩ => rfl
  · match x with
    | ⟨0, _⟩ => rfl
    | ⟨1, _⟩ => rfl

theorem moe_last : Run.res_Moe V a c = Moe.hsAt V a c 63 (lt63 a) := by
  unfold Run.res_Moe
  refine (Moe.dat V a c).arrAt_eq_of_after_last 9 _ (whole1 a) _ fun j => ?_
  blk_simp
  exact congrFun (Moe.after_9 V a c ⟨63, lt63 a⟩) j

/-! ## The rows, expert by expert -/

/-- An expert's first slot, -/
def lo (T : IVec S128 32) (e : Fin 64) : ℕ := 8 * (T (Table.at1 e)).toNat
/-- and the slot after its last. -/
def hi (T : IVec S128 32) (e : Fin 64) : ℕ := 8 * (T (Table.at1 e)).toNat + (T (Table.at2 e)).toNat

/-- An expert's two dense layers, from the arrays of all experts'. -/
def net (E1 : FVec Ideal S64x768x1536 .f32) (B1 : FVec Ideal S64x1x1536 .f32) (E2 : FVec Ideal S64x1536x768 .f32) (B2 : FVec Ideal S64x1x768 .f32)
    (e : Fin 64) (row : Fin 768 → EReal) : Fin 768 → EReal :=
  Sums.ffn row (fun k f => E1 (ix3 e k f)) (fun f => B1 (ix3 e 0 f)) (fun f j => E2 (ix3 e f j)) (fun j => B2 (ix3 e 0 j))

/-- The experts' slots follow one another. -/
theorem apart (T : IVec S128 32) (hT : Table.Fits T) (e e' : Fin 64) (h : e < e') : hi T e ≤ lo T e' := by
  have hstep : ∀ n : ℕ, ∀ h : e.val + n + 1 < 64, hi T e ≤ lo T ⟨e.val + n + 1, h⟩ := by
    intro n
    induction n with
    | zero => intro h; exact hT.next e _ rfl
    | succ n ih =>
      intro h
      have h1 := ih (by omega)
      have h2 := hT.next ⟨e.val + n + 1, by omega⟩ ⟨e.val + (n + 1) + 1, h⟩ rfl
      unfold lo at h1 ⊢
      omega
  have hv : e.val < e'.val := h
  have h2 := hstep (e'.val - e.val - 1) (by have := e'.isLt; omega)
  have he : (⟨e.val + (e'.val - e.val - 1) + 1, by have := e'.isLt; omega⟩ : Fin 64) = e' := Fin.ext (by show e.val + (e'.val - e.val - 1) + 1 = e'.val; omega)
  rw [he] at h2
  exact h2

section Rows
variable (T : IVec S128 32) (hT : Table.Fits T) (eT : a.1 0 = T)
  (X2 : FVec Ideal S2048x768 .bf16) (D1 D2 G1 G2 : FVec Ideal S2048x1 .f32) (E1 : FVec Ideal S64x768x1536 .f32) (B1 : FVec Ideal S64x1x1536 .f32)
  (E2 : FVec Ideal S64x1536x768 .f32) (B2 : FVec Ideal S64x1x768 .f32)
  (e2 : V c (Proc.devRef .tc main_arg2) = X2) (e3 : V c (Proc.devRef .tc main_arg3) = D1) (e4 : V c (Proc.devRef .tc main_arg4) = D2)
  (e5 : V c (Proc.devRef .tc main_arg5) = G1) (e6 : V c (Proc.devRef .tc main_arg6) = G2) (e7 : V c (Proc.devRef .tc main_arg7) = E1)
  (e8 : V c (Proc.devRef .tc main_v5) = B1) (e9 : V c (Proc.devRef .tc main_arg9) = E2) (e10 : V c (Proc.devRef .tc main_v6) = B2)

/-- The row the kernel computes for slot `p` as one of expert `e`'s. -/
abbrev slotRow (e : Fin 64) (p : ℕ) (j : Fin 768) : EReal :=
  Sums.slot (fun t => D1 (ix2 t 0)) (fun t => D2 (ix2 t 0)) (fun t => G1 (ix2 t 0)) (fun t => G2 (ix2 t 0)) (fun t k => X2 (ix2 t k))
    (net E1 B1 E2 B2 e) (hi T e) p j

theorem slot_congr {d1 d1' d2 d2' g1 g1' g2 g2' : Fin 2048 → EReal} {X X' : Fin 2048 → Fin 768 → EReal}
    {f f' : (Fin 768 → EReal) → Fin 768 → EReal} {h h' : ℕ} (h1 : d1 = d1') (h2 : d2 = d2') (h3 : g1 = g1') (h4 : g2 = g2') (h5 : X = X') (h6 : f = f')
    (h7 : h = h') (p : ℕ) (j : Fin 768) : Sums.slot d1 d2 g1 g2 X f h p j = Sums.slot d1' d2' g1' g2' X' f' h' p j := by
  subst h1 h2 h3 h4 h5 h6 h7; rfl

include hT eT e2 e3 e4 e5 e6 e7 e8 e9 e10 in
/-- One expert's whole loop, over the arrays. -/
theorem step_arr (t : Fin (cfg1 a).N) (e : Fin 64) (he : e.val = t.val) (prev : FVec Ideal S4672x768 .bf16) (p : Fin 4672) (j : Fin 768) :
    Moe.stepAt V a c t prev (ix2 p j)
      = if lo T e ≤ p.val ∧ p.val < hi T e then slotRow T X2 D1 D2 G1 G2 E1 B1 E2 B2 e p.val j
        else if lo T e ≤ p.val ∧ p.val < lo T e + 128 * (k1_t1_loop (T (Table.at2 e))).trips then 0 else prev (ix2 p j) := by
  have hex : Frames.expert (grid1.coords t) = e := Fin.ext (by
    rw [he]
    exact (by decide +kernel : ∀ t : Fin grid1.N, (grid1.coords t 0).val = t.val) t)
  have w1 : Moe.word1 c (grid1.coords t) (a.1 0) = T (Table.at1 e) :=
    (Frames.word1_eq c (grid1.coords t) (a.1 0)).trans ((congrFun eT _).trans (by rw [hex]))
  have w2 : Moe.word2 c (grid1.coords t) (a.1 0) = T (Table.at2 e) :=
    (Frames.word2_eq c (grid1.coords t) (a.1 0)).trans ((congrFun eT _).trans (by rw [hex]))
  have h1 := hT.first e
  have h4 := hT.count e
  have et : (⟨t.val, Nat.lt_of_lt_of_eq t.isLt N_1⟩ : Fin 64) = e := Fin.ext he.symm
  unfold Moe.stepAt
  rw [w1, w2]
  refine (Rows.step_at _ _ h1 h4 _ _ _ _ _ _ _ _ _ prev p j).trans ?_
  show ite (8 * (T (Table.at1 e)).toNat ≤ p.val ∧ p.val < 8 * (T (Table.at1 e)).toNat + (T (Table.at2 e)).toNat) _ _
    = ite (8 * (T (Table.at1 e)).toNat ≤ p.val ∧ p.val < 8 * (T (Table.at1 e)).toNat + (T (Table.at2 e)).toNat) _ _
  refine ite_congr rfl (fun _ => ?_) (fun _ => rfl)
  refine slot_congr (funext fun r => (blk1_1 V a c t r).trans (congrFun e3 _)) (funext fun r => (blk1_2 V a c t r).trans (congrFun e4 _))
    (funext fun r => (blk1_3 V a c t r).trans (congrFun e5 _)) (funext fun r => (blk1_4 V a c t r).trans (congrFun e6 _))
    (funext fun r => funext fun k => (blk1_0 V a c t r k).trans (congrFun e2 _)) (funext fun row => funext fun j => ?_) rfl p.val j
  unfold net
  rw [← et]
  exact ffn_congr rfl (funext fun k => funext fun f => (blk1_5 V a c t k f).trans (congrFun e7 _)) (funext fun f => (blk1_6 V a c t f).trans (congrFun e8 _))
    (funext fun f => funext fun j => (blk1_7 V a c t f j).trans (congrFun e9 _)) (funext fun j => (blk1_8 V a c t j).trans (congrFun e10 _)) j

include hT eT e2 e3 e4 e5 e6 e7 e8 e9 e10 in
/-- After the loops of the experts up to `n`: their slots hold their rows and the slots of no such expert hold zero. -/
theorem hs_arr (n : ℕ) (h : n < (cfg1 a).N) (p : Fin 4672) (j : Fin 768) :
    (∀ e : Fin 64, e.val ≤ n → lo T e ≤ p.val → p.val < hi T e → Moe.hsAt V a c n h (ix2 p j) = slotRow T X2 D1 D2 G1 G2 E1 B1 E2 B2 e p.val j)
      ∧ ((∀ e : Fin 64, e.val ≤ n → ¬(lo T e ≤ p.val ∧ p.val < hi T e)) → Moe.hsAt V a c n h (ix2 p j) = (0 : EReal)) := by
  have step := step_arr V a c T hT eT X2 D1 D2 G1 G2 E1 B1 E2 B2 e2 e3 e4 e5 e6 e7 e8 e9 e10
  have hN : (cfg1 a).N = 64 := N_1
  induction n with
  | zero =>
    have s := step ⟨0, h⟩ ⟨0, by omega⟩ rfl (k1_pay15 : FVec Ideal S4672x768 .bf16) p j
    have z : (k1_pay15 : FVec Ideal S4672x768 .bf16) (ix2 p j) = (0 : EReal) := by pointwise [k1_pay15]
    have hs : Moe.hsAt V a c 0 h (ix2 p j) = _ := s
    rw [hs, z]
    refine ⟨fun e he ha hb => ?_, fun hn => ?_⟩
    · have : e = ⟨0, by omega⟩ := Fin.ext (by show e.val = 0; omega)
      rw [this] at ha hb ⊢
      rw [if_pos ⟨ha, hb⟩]
    · rw [if_neg (hn _ le_rfl), ite_self]
  | succ n ih =>
    have ih := ih (Nat.lt_of_succ_lt h)
    have s := step ⟨n + 1, h⟩ ⟨n + 1, by omega⟩ rfl (Moe.hsAt V a c n (Nat.lt_of_succ_lt h)) p j
    have hs : Moe.hsAt V a c (n + 1) h (ix2 p j) = _ := s
    rw [hs]
    refine ⟨fun e he ha hb => ?_, fun hn => ?_⟩
    · by_cases hen : e.val = n + 1
      · have : e = ⟨n + 1, by omega⟩ := Fin.ext hen
        rw [this] at ha hb ⊢
        rw [if_pos ⟨ha, hb⟩]
      · have hap := apart T hT e ⟨n + 1, by omega⟩ (by show e.val < n + 1; omega)
        rw [if_neg (by omega), if_neg (by omega)]
        exact ih.1 e (by omega) ha hb
    · rw [if_neg (hn _ le_rfl)]
      split_ifs with hp
      · rfl
      · exact ih.2 fun e he => hn e (Nat.le_succ_of_le he)

include hT eT e2 e3 e4 e5 e6 e7 e8 e9 e10 in
/-- The array of expert rows is filled. -/
theorem filled : Sums.Filled (lo T) (hi T) (fun t => D1 (ix2 t 0)) (fun t => D2 (ix2 t 0)) (fun t => G1 (ix2 t 0)) (fun t => G2 (ix2 t 0)) (fun t k => X2 (ix2 t k))
    (net E1 B1 E2 B2) (fun p j => if h : p < 4672 then (show FVec Ideal S4672x768 .bf16 from Run.res_Moe V a c) (ix2 ⟨p, h⟩ j) else 0) := by
  have hs := hs_arr V a c T hT eT X2 D1 D2 G1 G2 E1 B1 E2 B2 e2 e3 e4 e5 e6 e7 e8 e9 e10 63 (lt63 a)
  rw [moe_last]
  refine ⟨fun e p j ha hb => ?_, fun p j hp hn => ?_⟩
  · have hp : p < 4672 := by
      have := hT.last e
      unfold hi at hb
      omega
    rw [dif_pos hp]
    exact (hs ⟨p, hp⟩ j).1 e (by have := e.isLt; omega) ha hb
  · rw [dif_pos hp]
    exact (hs ⟨p, hp⟩ j).2 fun e _ => hn e
end Rows

end Cert.KernelIdeal.Arr
-- ==== Proof.Value.Ref.lean ====
module
public import proofs.«01_k».proof.Proof.Gen.ReferenceIdeal.Read
public import proofs.«01_k».proof.Proof.Value.MoeArr
public import proofs.«01_k».proof.Proof.Routing
public import Idealize.ShloMosaic.Lib.Pointwise

/-!
What the reference computes at one row and column.
-/

@[expose] public section
set_option maxRecDepth 16384

noncomputable section
namespace Cert.ReferenceIdeal.Net
open Idealize.ShloMosaic
open Cert.ReferenceIdeal Cert.ReferenceIdeal.Read

variable (x0 : IVec S128 32) (x1 : FVec Ideal S2048x768 .f32) (x2 : FVec Ideal S2048x768 .bf16) (x3 x4 x5 x6 : FVec Ideal S2048x1 .f32)
    (x7 : FVec Ideal S64x768x1536 .f32) (x8 : FVec Ideal S64x1536 .f32) (x9 : FVec Ideal S64x1536x768 .f32) (x10 : FVec Ideal S64x768 .f32) (x11 : FVec Ideal S768x1536 .f32)
    (x12 : FVec Ideal S1536 .f32) (x13 : FVec Ideal S1536x768 .f32) (x14 : FVec Ideal S768 .f32)

/-- The gate as the reference spells it. -/
theorem silu_eq (a : EReal) : a * Ideal.div 1 (1 + Ideal.exp (-a)) = Sums.silu a := by
  unfold Sums.silu; rw [sub_eq_add_neg, zero_add]

/-- A choice by two truth values joined. -/
theorem select_and {p q : Prop} [Decidable p] [Decidable q] (a b : EReal) :
    Scalar.select (IntOp.andi (BitVec.ofBool (decide p)) (BitVec.ofBool (decide q))) a b = if p ∧ q then a else b := by
  by_cases h : p <;> by_cases h' : q <;> simp [h, h', Scalar.select, IntOp.andi]

/-- The float constant zero. -/
theorem zero_at : id (constant (F := Ideal) S_ FTy.f32 0#32) ix0 = (0 : EReal) := by
  pointwise [id]

/-- The weight of an expert for a token by the token's first slot: the token's first gate where the slot is one of the
    expert's, nothing elsewhere. -/
theorem v20_at (hT : Table.Fits x0) (e : Fin 64) (t : Fin 2048) : val_main_v20 (F := Ideal) x0 x3 x5 (ix2 e t)
    = if Sums.num (Cert.KernelIdeal.Arr.lo x0 e) ≤ x3 (ix2 t 0) ∧ x3 (ix2 t 0) < Sums.num (Cert.KernelIdeal.Arr.hi x0 e) then (show EReal from x5 (ix2 t 0)) else 0 := by
  pointwise [val_main_v20, val_main_v18, val_main_v14, val_main_v12, val_main_v8, val_main_v4, val_main_v3, val_main_c, val_main_v2, val_main_v1, val_main_v13, val_main_v10,
   val_main_v17, val_main_v15, val_main_v16, val_main_v9, val_main_v7, val_main_v6, val_main_v5, val_main_call0_v1, val_main_v19, val_main_call0_v2, val_main_call0_v0, val_main_cst]
  rw [Routing.lo_num x0 hT e (by omega) _ (Routing.ix_at1 e _), Routing.hi_num x0 hT e _ _ (Routing.ix_at1 e _) (Routing.ix_at2 e _)]
  refine (select_and _ _).trans ?_
  rw [zero_at]; rfl
/-- The same by the token's second slot and gate. -/
theorem v29_at (hT : Table.Fits x0) (e : Fin 64) (t : Fin 2048) : val_main_v29 (F := Ideal) x0 x4 x6 (ix2 e t)
    = if Sums.num (Cert.KernelIdeal.Arr.lo x0 e) ≤ x4 (ix2 t 0) ∧ x4 (ix2 t 0) < Sums.num (Cert.KernelIdeal.Arr.hi x0 e) then (show EReal from x6 (ix2 t 0)) else 0 := by
  pointwise [val_main_v29, val_main_v27, val_main_v23, val_main_v21, val_main_v8, val_main_v4, val_main_v3, val_main_c, val_main_v2, val_main_v1, val_main_v22, val_main_v11,
   val_main_v26, val_main_v24, val_main_v25, val_main_v9, val_main_v7, val_main_v6, val_main_v5, val_main_call1_v1, val_main_v28, val_main_call1_v2, val_main_call1_v0, val_main_cst_0]
  rw [Routing.lo_num x0 hT e (by omega) _ (Routing.ix_at1 e _), Routing.hi_num x0 hT e _ _ (Routing.ix_at1 e _) (Routing.ix_at2 e _)]
  refine (select_and _ _).trans ?_
  rw [zero_at]; rfl

/-- An expert's first layer, -/
theorem v35_at (e : Fin 64) (t : Fin 2048) (f : Fin 1536) : val_main_v35 (F := Ideal) x2 x7 x8 (ix3 e t f)
    = (∑ k, (show EReal from x2 (ix2 t k)) * x7 (ix3 e k f)) + x8 (ix2 e f) := by
  pointwise [val_main_v35, val_main_v32, val_main_v31, val_main_v0, val_main_v34, val_main_v33]
  exact congrArg (· + x8 (ix2 e f)) (Finset.sum_congr rfl fun k _ => mul_comm _ _)
/-- the gate after it, -/
theorem v42_at (e : Fin 64) (t : Fin 2048) (f : Fin 1536) : val_main_v42 (F := Ideal) x2 x7 x8 (ix3 e t f)
    = Sums.silu ((∑ k, (show EReal from x2 (ix2 t k)) * x7 (ix3 e k f)) + x8 (ix2 e f)) := by
  pointwise [val_main_v42, val_main_v41, val_main_v40, val_main_cst_2, val_main_v39, val_main_v38, val_main_cst_1, val_main_v37, val_main_v36]
  exact (silu_eq _).trans (congrArg Sums.silu (v35_at x2 x7 x8 e t f))
/-- and its second layer. -/
theorem v46_at (e : Fin 64) (t : Fin 2048) (j : Fin 768) : val_main_v46 (F := Ideal) x2 x7 x8 x9 x10 (ix3 e t j)
    = Sums.ffn (fun k => x2 (ix2 t k)) (fun k f => x7 (ix3 e k f)) (fun f => x8 (ix2 e f)) (fun f j => x9 (ix3 e f j)) (fun j => x10 (ix2 e j)) j := by
  pointwise [val_main_v46, val_main_v43, val_main_v45, val_main_v44]
  exact congrArg (· + x10 (ix2 e j)) (Finset.sum_congr rfl fun f _ => congrArg (· * x9 (ix3 e f j)) (v42_at x2 x7 x8 e t f))
/-- The experts' rows, weighted and summed. -/
theorem v50_at (hT : Table.Fits x0) (t : Fin 2048) (j : Fin 768) : val_main_v50 (F := Ideal) x0 x2 x3 x4 x5 x6 x7 x8 x9 x10 (ix2 t j)
    = ∑ e, Sums.ffn (fun k => x2 (ix2 t k)) (fun k f => x7 (ix3 e k f)) (fun f => x8 (ix2 e f)) (fun f j => x9 (ix3 e f j)) (fun j => x10 (ix2 e j)) j
        * ((if Sums.num (Cert.KernelIdeal.Arr.lo x0 e) ≤ x3 (ix2 t 0) ∧ x3 (ix2 t 0) < Sums.num (Cert.KernelIdeal.Arr.hi x0 e) then (show EReal from x5 (ix2 t 0)) else 0)
          + (if Sums.num (Cert.KernelIdeal.Arr.lo x0 e) ≤ x4 (ix2 t 0) ∧ x4 (ix2 t 0) < Sums.num (Cert.KernelIdeal.Arr.hi x0 e) then (show EReal from x6 (ix2 t 0)) else 0)) := by
  pointwise [val_main_v50, val_main_v49, val_main_v48, val_main_v47, val_main_v30, val_main_cst_3]
  exact Finset.sum_congr rfl fun e _ => congrArg₂ (fun a b : EReal => a * b) (v46_at x2 x7 x8 x9 x10 e t j)
    (congrArg₂ (fun a b : EReal => a + b) (v20_at x0 x3 x5 hT e t) (v29_at x0 x4 x6 hT e t))
/-- The two layers every token goes through. -/
theorem v65_at (t : Fin 2048) (j : Fin 768) : val_main_v65 (F := Ideal) x2 x11 x12 x13 x14 (ix2 t j)
    = Sums.ffn (fun k => x2 (ix2 t k)) (fun k f => x11 (ix2 k f)) (fun f => x12 (ix1 f)) (fun f j => x13 (ix2 f j)) (fun j => x14 (ix1 j)) j := by
  pointwise [val_main_v65, val_main_v64, val_main_v63, val_main_v62, val_main_v61, val_main_v60, val_main_v59, val_main_cst_5, val_main_v58, val_main_v57, val_main_cst_4, val_main_v56, val_main_v55, val_main_v54, val_main_v53, val_main_v52, val_main_v51, val_main_v0]
  exact congrArg (· + x14 (ix1 j)) (Finset.sum_congr rfl fun f _ => congrArg (· * x13 (ix2 f j)) (silu_eq _))
/-- The reference's result. -/
theorem v67_at (hT : Table.Fits x0) (t : Fin 2048) (j : Fin 768) : val_main_v67 (F := Ideal) x0 x1 x2 x3 x4 x5 x6 x7 x8 x9 x10 x11 x12 x13 x14 (ix2 t j)
    = (show EReal from x1 (ix2 t j)) + ((∑ e, Sums.ffn (fun k => x2 (ix2 t k)) (fun k f => x7 (ix3 e k f)) (fun f => x8 (ix2 e f)) (fun f j => x9 (ix3 e f j)) (fun j => x10 (ix2 e j)) j
        * ((if Sums.num (Cert.KernelIdeal.Arr.lo x0 e) ≤ x3 (ix2 t 0) ∧ x3 (ix2 t 0) < Sums.num (Cert.KernelIdeal.Arr.hi x0 e) then (show EReal from x5 (ix2 t 0)) else 0)
          + (if Sums.num (Cert.KernelIdeal.Arr.lo x0 e) ≤ x4 (ix2 t 0) ∧ x4 (ix2 t 0) < Sums.num (Cert.KernelIdeal.Arr.hi x0 e) then (show EReal from x6 (ix2 t 0)) else 0)))
      + Sums.ffn (fun k => x2 (ix2 t k)) (fun k f => x11 (ix2 k f)) (fun f => x12 (ix1 f)) (fun f j => x13 (ix2 f j)) (fun j => x14 (ix1 j)) j) :=
  congrArg (fun a : EReal => (show EReal from x1 (ix2 t j)) + a)
    (congrArg₂ (fun a b : EReal => a + b) (v50_at x0 x2 x3 x4 x5 x6 x7 x8 x9 x10 hT t j) (v65_at x2 x11 x12 x13 x14 t j))

end Cert.ReferenceIdeal.Net
-- ==== Proof.Value.Final.lean ====
module
public import proofs.«01_k».proof.Proof.Value.Ref
public import Idealize.ShloMosaic.Lib.Claim

/-!
The kernel's result is the reference's: what the regions find in their arrays, and the three regions' results put together.
-/

@[expose] public section
set_option maxRecDepth 16384

noncomputable section
namespace Cert.KernelIdeal.Final
open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## What the regions find -/

/-- An argument is as launched when the first region starts, -/
theorem first_arg (r : Ref sig .tc) (h0 : r ∉ hostOps0_W) : V1 m c (Proc.devRef .tc r) = m ((c : Thread nD τ).loc r) := V1_of m c r h0
/-- when the second does, -/
theorem second_arg (r : Ref sig .tc) (h0 : r ∉ hostOps0_W) (h1 : r ∉ hostOps1_W) (h2 : r ∉ ([main_v4] : List (Ref sig .tc))) :
    Run.W3 m c (Proc.devRef .tc r) = m ((c : Thread nD τ).loc r) := by
  rw [← Run.V3_eq, V3_of m (Run.outs m) c r h1, V2_of m (Run.outs m) c r h2, V1_of m c r h0]
/-- and when the third does. -/
theorem third_arg (r : Ref sig .tc) (h0 : r ∉ hostOps0_W) (h1 : r ∉ hostOps1_W) (h2 : r ∉ ([main_v4] : List (Ref sig .tc)))
    (h3 : r ∉ ([main_v7] : List (Ref sig .tc))) : Run.W4 m c (Proc.devRef .tc r) = m ((c : Thread nD τ).loc r) := by
  rw [← Run.V4_eq, V4_of m (Run.outs m) c r h3, Run.V3_eq, second_arg m c r h0 h1 h2]

/-- The third region finds the second's result, -/
theorem third_rows : Run.W4 m c (Proc.devRef .tc main_v7) = Run.res_Moe (Run.W3 m) (Run.adm1 m) c := by
  unfold Run.W4; rw [Function.update_self]
/-- and the first's. -/
theorem third_base : Run.W4 m c (Proc.devRef .tc main_v4) = Run.res_Shared (V1 m) c := by
  rw [← Run.V4_eq, V4_of m (Run.outs m) c main_v4 (by decide), V3_of m (Run.outs m) c main_v4 (by decide), Run.V2_eq]
  unfold Run.W2; rw [Function.update_self]

/-- The host's copies of the shared layers' arrays, -/
theorem host_v0 (k : Fin 768) (f : Fin 1536) : (show FVec Ideal S768x1536 .bf16 from V1 m c (Proc.devRef .tc main_v0)) (ix2 k f)
    = (show FVec Ideal S768x1536 .f32 from m ((c : Thread nD τ).loc main_arg11)) (ix2 k f) := by
  unfold V1
  entry_read
  pointwise
theorem host_v1 (f : Fin 1536) : (show FVec Ideal S1x1536 .f32 from V1 m c (Proc.devRef .tc main_v1)) (ix2 0 f)
    = (show FVec Ideal S1536 .f32 from m ((c : Thread nD τ).loc main_arg12)) (Idealize.ShloMosaic.ix1 f) := by
  unfold V1
  entry_read
  pointwise
theorem host_v2 (f : Fin 1536) (j : Fin 768) : (show FVec Ideal S1536x768 .bf16 from V1 m c (Proc.devRef .tc main_v2)) (ix2 f j)
    = (show FVec Ideal S1536x768 .f32 from m ((c : Thread nD τ).loc main_arg13)) (ix2 f j) := by
  unfold V1
  entry_read
  pointwise
theorem host_v3 (j : Fin 768) : (show FVec Ideal S1x768 .f32 from V1 m c (Proc.devRef .tc main_v3)) (ix2 0 j)
    = (show FVec Ideal S768 .f32 from m ((c : Thread nD τ).loc main_arg14)) (Idealize.ShloMosaic.ix1 j) := by
  unfold V1
  entry_read
  pointwise
/-- and of the experts' shifts. -/
theorem host_v5 (e : Fin 64) (f : Fin 1536) : (show FVec Ideal S64x1x1536 .f32 from Run.W3 m c (Proc.devRef .tc main_v5)) (ix3 e 0 f)
    = (show FVec Ideal S64x1536 .f32 from m ((c : Thread nD τ).loc main_arg8)) (ix2 e f) := by
  have h : Run.W2 m c (Proc.devRef .tc main_arg8) = m ((c : Thread nD τ).loc main_arg8) := by
    rw [← Run.V2_eq, V2_of m (Run.outs m) c main_arg8 (by decide), V1_of m c main_arg8 (by decide)]
  unfold Run.W3
  entry_read
  rw [h]
  pointwise
theorem host_v6 (e : Fin 64) (j : Fin 768) : (show FVec Ideal S64x1x768 .f32 from Run.W3 m c (Proc.devRef .tc main_v6)) (ix3 e 0 j)
    = (show FVec Ideal S64x768 .f32 from m ((c : Thread nD τ).loc main_arg10)) (ix2 e j) := by
  have h : Run.W2 m c (Proc.devRef .tc main_arg10) = m ((c : Thread nD τ).loc main_arg10) := by
    rw [← Run.V2_eq, V2_of m (Run.outs m) c main_arg10 (by decide), V1_of m c main_arg10 (by decide)]
  unfold Run.W3
  entry_read
  rw [h]
  pointwise

/-! ## The result -/

/-- A row of an array told by its number. -/
theorem row_of (H : FVec Ideal S4672x768 .bf16) (p : Fin 4672) (j : Fin 768) :
    (fun (p : ℕ) (j : Fin 768) => if h : p < 4672 then (H (ix2 ⟨p, h⟩ j) : EReal) else 0) p.val j = H (ix2 p j) := dif_pos p.isLt

section Result
variable (x0 : IVec S128 32) (x1 : FVec Ideal S2048x768 .f32) (x2 : FVec Ideal S2048x768 .bf16) (x3 x4 x5 x6 : FVec Ideal S2048x1 .f32)
    (x7 : FVec Ideal S64x768x1536 .f32) (x8 : FVec Ideal S64x1536 .f32) (x9 : FVec Ideal S64x1536x768 .f32) (x10 : FVec Ideal S64x768 .f32) (x11 : FVec Ideal S768x1536 .f32)
    (x12 : FVec Ideal S1536 .f32) (x13 : FVec Ideal S1536x768 .f32) (x14 : FVec Ideal S768 .f32)
    (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4) (h5 : m ((c : Thread nD τ).loc main_arg5) = x5)
    (h6 : m ((c : Thread nD τ).loc main_arg6) = x6) (h7 : m ((c : Thread nD τ).loc main_arg7) = x7) (h8 : m ((c : Thread nD τ).loc main_arg8) = x8)
    (h9 : m ((c : Thread nD τ).loc main_arg9) = x9) (h10 : m ((c : Thread nD τ).loc main_arg10) = x10) (h11 : m ((c : Thread nD τ).loc main_arg11) = x11)
    (h12 : m ((c : Thread nD τ).loc main_arg12) = x12) (h13 : m ((c : Thread nD τ).loc main_arg13) = x13) (h14 : m ((c : Thread nD τ).loc main_arg14) = x14)
    (hT : Table.Fits x0)
    (w1 : ∀ t : Fin 2048, x3 (ix2 t 0) = Ideal.liftRound Int.floor (x3 (ix2 t 0))) (w2 : ∀ t : Fin 2048, x4 (ix2 t 0) = Ideal.liftRound Int.floor (x4 (ix2 t 0)))
    (inj1 : ∀ t t' : Fin 2048, x3 (ix2 t 0) = x3 (ix2 t' 0) → t = t') (inj2 : ∀ t t' : Fin 2048, x4 (ix2 t 0) = x4 (ix2 t' 0) → t = t')
    (ne : ∀ t t' : Fin 2048, x3 (ix2 t 0) ≠ x4 (ix2 t' 0))
    (once : ∀ (e : Fin 64) (t : Fin 2048), ¬((Sums.num (Arr.lo x0 e) ≤ x3 (ix2 t 0) ∧ x3 (ix2 t 0) < Sums.num (Arr.hi x0 e))
      ∧ (Sums.num (Arr.lo x0 e) ≤ x4 (ix2 t 0) ∧ x4 (ix2 t 0) < Sums.num (Arr.hi x0 e))))

include h1 h2 h11 h12 h13 h14 in
/-- The first region's result at one place. -/
theorem base_at (t : Fin 2048) (j : Fin 768) : (show FVec Ideal S2048x768 .f32 from Run.res_Shared (V1 m) c) (ix2 t j)
    = (show EReal from x1 (ix2 t j)) + Sums.ffn (fun k => x2 (ix2 t k)) (fun k f => x11 (ix2 k f)) (fun f => x12 (Idealize.ShloMosaic.ix1 f))
        (fun f j => x13 (ix2 f j)) (fun j => x14 (Idealize.ShloMosaic.ix1 j)) j := by
  subst h1 h2 h11 h12 h13 h14
  refine (congrFun (Arr.shared_arr (V1 m) c) (ix2 t j)).trans ?_
  exact congrArg₂ (fun a b : EReal => a + b) (congrFun (first_arg m c main_arg1 (by decide)) (ix2 t j))
    (Arr.ffn_congr (funext fun k => congrFun (first_arg m c main_arg2 (by decide)) (ix2 t k)) (funext fun k => funext fun f => host_v0 m c k f)
      (funext fun f => host_v1 m c f) (funext fun f => funext fun j => host_v2 m c f j) (funext fun j => host_v3 m c j) j)

include h0 h2 h3 h4 h5 h6 h7 h8 h9 h10 hT w1 w2 inj1 inj2 ne once in
/-- The second region's rows, taken at a token's two slots and added: its experts' rows, weighted. -/
theorem rows_sum (t : Fin 2048) (j : Fin 768) :
    (∑ p : Fin 4672, (Sums.hot (x3 (ix2 t 0) = Sums.num p.val) + Sums.hot (x4 (ix2 t 0) = Sums.num p.val))
        * (show FVec Ideal S4672x768 .bf16 from Run.res_Moe (Run.W3 m) (Run.adm1 m) c) (ix2 p j))
      = ∑ e, Sums.ffn (fun k => x2 (ix2 t k)) (fun k f => x7 (ix3 e k f)) (fun f => x8 (ix2 e f)) (fun f j => x9 (ix3 e f j)) (fun j => x10 (ix2 e j)) j
        * ((if Sums.num (Arr.lo x0 e) ≤ x3 (ix2 t 0) ∧ x3 (ix2 t 0) < Sums.num (Arr.hi x0 e) then (show EReal from x5 (ix2 t 0)) else 0)
          + (if Sums.num (Arr.lo x0 e) ≤ x4 (ix2 t 0) ∧ x4 (ix2 t 0) < Sums.num (Arr.hi x0 e) then (show EReal from x6 (ix2 t 0)) else 0)) := by
  have hc : c = 0 := Subsingleton.elim _ _
  have eT : (Run.adm1 m).1 0 = x0 := by subst hc; exact h0
  have hf := Arr.filled (Run.W3 m) (Run.adm1 m) c x0 hT eT x2 x3 x4 x5 x6 x7 (Run.W3 m c (Proc.devRef .tc main_v5)) x9 (Run.W3 m c (Proc.devRef .tc main_v6))
    ((second_arg m c main_arg2 (by decide) (by decide) (by decide)).trans h2) ((second_arg m c main_arg3 (by decide) (by decide) (by decide)).trans h3)
    ((second_arg m c main_arg4 (by decide) (by decide) (by decide)).trans h4) ((second_arg m c main_arg5 (by decide) (by decide) (by decide)).trans h5)
    ((second_arg m c main_arg6 (by decide) (by decide) (by decide)).trans h6) ((second_arg m c main_arg7 (by decide) (by decide) (by decide)).trans h7)
    rfl ((second_arg m c main_arg9 (by decide) (by decide) (by decide)).trans h9) rfl
  have hsum := Sums.combine _ _ _ _ _ _ _ _ _ hf t j (Arr.apart x0 hT) (fun e => by have := hT.last e; unfold Arr.hi; omega) w1 w2 inj1 inj2 ne once
  refine Eq.trans (Finset.sum_congr rfl fun p _ => ?_) (hsum.trans (Finset.sum_congr rfl fun e _ => ?_))
  · exact congrArg (fun a : EReal => (Sums.hot (x3 (ix2 t 0) = Sums.num p.val) + Sums.hot (x4 (ix2 t 0) = Sums.num p.val)) * a) (row_of _ p j).symm
  · subst h8 h10
    exact congrArg (fun a : EReal => a * _) (Arr.ffn_congr rfl rfl (funext fun f => host_v5 m c e f) rfl (funext fun j => host_v6 m c e j) j)

include h0 h1 h2 h3 h4 h5 h6 h7 h8 h9 h10 h11 h12 h13 h14 hT w1 w2 inj1 inj2 ne once in
/-- The kernel's result is the reference's. -/
theorem result_eq : (show FVec Ideal S2048x768 .f32 from Run.W5 m c (Proc.devRef .tc main_v8))
    = Cert.ReferenceIdeal.Read.val_main_v67 (F := Ideal) x0 x1 x2 x3 x4 x5 x6 x7 x8 x9 x10 x11 x12 x13 x14 := by
  funext i
  obtain ⟨t, j, rfl⟩ : ∃ (t : Fin 2048) (j : Fin 768), i = ix2 t j := ⟨i 0, i 1, eq_ix2 i⟩
  have hW : Run.W5 m c (Proc.devRef .tc main_v8) = Run.res_Scatter (Run.W4 m) c := by unfold Run.W5; rw [Function.update_self]
  refine (congrFun hW (ix2 t j)).trans ?_
  refine (Arr.scatter_at (Run.W4 m) c x3 x4 (Run.res_Moe (Run.W3 m) (Run.adm1 m) c) (Run.res_Shared (V1 m) c)
    ((third_arg m c main_arg3 (by decide) (by decide) (by decide) (by decide)).trans h3)
    ((third_arg m c main_arg4 (by decide) (by decide) (by decide) (by decide)).trans h4) (third_rows m c) (third_base m c) t j).trans ?_
  refine Eq.trans ?_ (Cert.ReferenceIdeal.Net.v67_at x0 x1 x2 x3 x4 x5 x6 x7 x8 x9 x10 x11 x12 x13 x14 hT t j).symm
  refine (congrArg₂ (fun a b : EReal => a + b) (base_at m c x1 x2 x11 x12 x13 x14 h1 h2 h11 h12 h13 h14 t j)
    (rows_sum m c x0 x2 x3 x4 x5 x6 x7 x8 x9 x10 h0 h2 h3 h4 h5 h6 h7 h8 h9 h10 hT w1 w2 inj1 inj2 ne once t j)).trans ?_
  exact (add_assoc _ _ _).trans (congrArg _ (add_comm _ _))

end Result

end Cert.KernelIdeal.Final
-- ==== Proof.Post.Pick.lean ====
module
public import Idealize.ShloMosaic.Lib.Pointwise
public import Idealize.ShloMosaic.Lib.SortPrefix

/-!
The two greatest of sixty-four values, the earlier where equal: as the kernel finds them, by two rounds of a maximum and the
least lane that reaches it, and as a stable sort of the lanes finds them.
-/

@[expose] public section

noncomputable section
namespace Cert.Pick
open Idealize.ShloMosaic

/-- Some lane reaches the maximum. -/
theorem reached (b : Fin 64 → EReal) : (Finset.univ.filter fun k => ∀ k', b k' ≤ b k).Nonempty := by
  obtain ⟨k, -, hk⟩ := Finset.exists_max_image Finset.univ b ⟨0, Finset.mem_univ 0⟩
  exact ⟨k, Finset.mem_filter.mpr ⟨Finset.mem_univ k, fun k' => hk k' (Finset.mem_univ k')⟩⟩

/-- The first lane that reaches the maximum. -/
def first (b : Fin 64 → EReal) : Fin 64 := (Finset.univ.filter fun k => ∀ k', b k' ≤ b k).min' (reached b)
/-- The values with one lane taken out. -/
def without (b : Fin 64 → EReal) (i : Fin 64) : Fin 64 → EReal := fun k => if k = i then ⊥ else b k
/-- The first lane that reaches the maximum of what is left. -/
def second (b : Fin 64 → EReal) : Fin 64 := first (without b (first b))

/-- No value is above the first lane's, -/
theorem first_ge (b : Fin 64 → EReal) (k : Fin 64) : b k ≤ b (first b) :=
  (Finset.mem_filter.mp (Finset.min'_mem _ (reached b))).2 k
/-- a lane with the same value is not earlier, -/
theorem first_le (b : Fin 64 → EReal) (k : Fin 64) (h : b k = b (first b)) : first b ≤ k :=
  Finset.min'_le _ _ (Finset.mem_filter.mpr ⟨Finset.mem_univ k, fun k' => h ▸ first_ge b k'⟩)
/-- and the maximum is its value. -/
theorem fold_max (b : Fin 64 → EReal) : Finset.univ.fold max (⊥ : EReal) b = b (first b) := by
  apply le_antisymm
  · exact Finset.fold_max_le (b (first b)) |>.mpr ⟨bot_le, fun k _ => first_ge b k⟩
  · exact Finset.le_fold_max (b (first b)) |>.mpr (Or.inr ⟨first b, Finset.mem_univ _, le_rfl⟩)

/-- With every value above minus infinity, the second lane is not the first. -/
theorem second_ne (b : Fin 64 → EReal) (hb : ∀ k, b k ≠ ⊥) : second b ≠ first b := by
  intro h
  have e : without b (first b) (second b) = ⊥ := by rw [h]; exact if_pos rfl
  obtain ⟨k, hk⟩ : ∃ k : Fin 64, k ≠ first b := by
    by_cases h0 : first b = 0
    · exact ⟨1, by rw [h0]; decide⟩
    · exact ⟨0, fun e => h0 e.symm⟩
  have h1 := first_ge (without b (first b)) k
  rw [show first (without b (first b)) = second b from rfl, e, le_bot_iff] at h1
  exact hb k (by simpa [without, hk] using h1)
/-- Beside the first lane's, no value is above the second's, -/
theorem second_ge (b : Fin 64 → EReal) (hb : ∀ k, b k ≠ ⊥) (k : Fin 64) (hk : k ≠ first b) : b k ≤ b (second b) := by
  have h := first_ge (without b (first b)) k
  simpa [without, hk, show first (without b (first b)) = second b from rfl, second_ne b hb] using h
/-- and a lane with the same value is not earlier. -/
theorem second_le (b : Fin 64 → EReal) (hb : ∀ k, b k ≠ ⊥) (k : Fin 64) (hk : k ≠ first b) (h : b k = b (second b)) : second b ≤ k := by
  refine first_le (without b (first b)) k ?_
  simpa [without, hk, show first (without b (first b)) = second b from rfl, second_ne b hb] using h

/-- A minimum over signed words from a start: not above any of them, and one of them or the start. -/
theorem fold_minsi (z : BitVec 32) (s : Finset (Fin 64)) (f : Fin 64 → BitVec 32) :
    (∀ k ∈ s, (s.fold IntOp.minsi z f).toInt ≤ (f k).toInt) ∧ (s.fold IntOp.minsi z f = z ∨ ∃ k ∈ s, s.fold IntOp.minsi z f = f k) := by
  induction s using Finset.induction_on with
  | empty => exact ⟨fun k hk => absurd hk (Finset.notMem_empty k), Or.inl rfl⟩
  | insert a s ha ih =>
    rw [Finset.fold_insert ha]
    generalize s.fold IntOp.minsi z f = r at ih ⊢
    obtain ⟨h1, h2⟩ := ih
    unfold IntOp.minsi
    by_cases h : (f a).slt r = true
    · rw [if_pos h]
      rw [BitVec.slt, decide_eq_true_eq] at h
      refine ⟨fun k hk => ?_, Or.inr ⟨a, Finset.mem_insert_self a s, rfl⟩⟩
      rcases Finset.mem_insert.mp hk with rfl | hk
      · exact le_rfl
      · exact h.le.trans (h1 k hk)
    · rw [if_neg h]
      rw [BitVec.slt, decide_eq_true_eq, not_lt] at h
      refine ⟨fun k hk => ?_, ?_⟩
      · rcases Finset.mem_insert.mp hk with rfl | hk
        · exact h
        · exact h1 k hk
      · rcases h2 with h2 | ⟨k, hk, h2⟩
        · exact Or.inl h2
        · exact Or.inr ⟨k, Finset.mem_insert_of_mem hk, h2⟩

/-- A lane's number as a signed word. -/
theorem lane_toInt (n : ℕ) (h : n ≤ 64) : (BitVec.ofNat 32 n).toInt = n := by
  rw [BitVec.toInt_eq_toNat_of_lt] <;> rw [BitVec.toNat_ofNat] <;> omega

/-- The least lane that reaches the maximum, where the other lanes count as sixty-four. -/
theorem fold_lane (b : Fin 64 → EReal) :
    Finset.univ.fold IntOp.minsi 2147483647#32 (fun k : Fin 64 => if b k = b (first b) then BitVec.ofNat 32 k.val else 64#32)
      = BitVec.ofNat 32 (first b).val := by
  obtain ⟨h1, h2⟩ := fold_minsi 2147483647#32 Finset.univ (fun k : Fin 64 => if b k = b (first b) then BitVec.ofNat 32 k.val else 64#32)
  have h3 := h1 (first b) (Finset.mem_univ _)
  rw [if_pos rfl, lane_toInt _ (by omega)] at h3
  rcases h2 with h2 | ⟨k, -, h2⟩
  · rw [h2] at h3
    have : (2147483647#32).toInt = 2147483647 := by decide
    omega
  · rw [h2] at h3 ⊢
    by_cases hk : b k = b (first b)
    · simp only [if_pos hk] at h3 ⊢
      rw [lane_toInt _ (by omega)] at h3
      have := first_le b k hk
      have e : k = first b := by apply Fin.ext; have : (first b).val ≤ k.val := this; omega
      rw [e]
    · simp only [if_neg hk] at h3
      have : (64#32).toInt = 64 := by decide
      omega

/-- Where the list is in increasing order, a stable sort by a key is the sort by the key and then the position. -/
theorem sort_stable (lt : EReal → EReal → Bool) (key : Fin 64 → EReal) (hirr : ∀ a, lt a a = false)
    (l : List (Fin 64)) (hl : l.Pairwise (· < ·)) :
    stableSort (fun k k' => lt (key k) (key k')) l
      = stableSort (fun k k' => lt (key k) (key k') || (decide (key k = key k') && decide (k < k'))) l := by
  induction l with
  | nil => rfl
  | cons a l ih =>
    rw [List.pairwise_cons] at hl
    unfold stableSort
    rw [ih hl.2]
    refine insertBefore_congr _ _ a _ fun c hc => ?_
    have hc' : a < c := hl.1 c ((perm_stableSort _ l).mem_iff.mp hc)
    rw [decide_eq_false (not_lt.mpr hc'.le), Bool.and_false, Bool.or_false]

/-- The same sorted list gives the same sources. -/
theorem sortedFrom_of_sort {n : ℕ} (R R' : Fin n → Fin n → Bool) (h : stableSort R (List.finRange n) = stableSort R' (List.finRange n)) :
    sortedFrom R = sortedFrom R' := by
  have h' : sortPositions n R = sortPositions n R' := h
  funext k
  unfold sortedFrom
  rw [List.get_of_eq h']
  rfl

/-- Greater comes first. -/
def above (x y : EReal) : Bool := decide (y < x)

/-- The two lanes in order. -/
def lanes (b : Fin 64 → EReal) (s : Fin 2) : Fin 64 := if s = 0 then first b else second b

/-- The first two lanes of the stable sort by decreasing value. -/
theorem sorted_lanes (b : Fin 64 → EReal) (hb : ∀ k, b k ≠ ⊥) (s : Fin 2) :
    sortedFrom (fun k k' => above (b k) (b k')) (s.castLE (by decide)) = lanes b s := by
  have hs : sortedFrom (fun k k' => above (b k) (b k'))
      = sortedFrom (fun k k' => above (b k) (b k') || (decide (b k = b k') && decide (k < k'))) := by
    exact sortedFrom_of_sort _ _ (sort_stable above b (fun a => decide_eq_false (lt_irrefl a)) _ (List.pairwise_lt_finRange 64))
  rw [hs]
  have hB := StrictTotalBefore.of_key_then_position above b (fun a => decide_eq_false (lt_irrefl a))
    (fun x y z h h' => by unfold above at *; rw [decide_eq_true_eq] at *; exact h'.trans h)
    (fun x y => by unfold above; simp only [decide_eq_true_eq]; rcases lt_trichotomy x y with h | h | h; exacts [Or.inr (Or.inr h), Or.inr (Or.inl h), Or.inl h])
  -- not before: neither greater nor equal and earlier
  have nb : ∀ p q : Fin 64, b p ≤ b q → (b p = b q → q ≤ p) →
      (above (b p) (b q) || (decide (b p = b q) && decide (p < q))) = false := by
    intro p q h1 h2
    unfold above
    rw [decide_eq_false (not_lt.mpr h1), Bool.false_or]
    by_cases h : b p = b q
    · rw [decide_eq_false (not_lt.mpr (h2 h)), Bool.and_false]
    · rw [decide_eq_false h, Bool.false_and]
  have e0 : lanes b 0 = first b := if_pos rfl
  have e1 : lanes b 1 = second b := if_neg (by decide)
  refine hB.sortedFrom_eq_of_prefix (by decide) (lanes b) ?_ ?_ ?_ s
  · intro i j h
    fin_cases i <;> fin_cases j
    · rfl
    · exact absurd (e0.symm.trans (h.trans e1)).symm (second_ne b hb)
    · exact absurd (e1.symm.trans (h.trans e0)) (second_ne b hb)
    · rfl
  · intro i j h
    have hi : i = 0 := by omega
    have hj : j = 1 := by omega
    subst hi hj
    rw [e0, e1]
    exact nb _ _ (first_ge b _) (first_le b _)
  · intro i p h
    have n0 : p ≠ first b := fun e => h 0 (e0.trans e.symm)
    fin_cases i
    · exact nb _ _ (first_ge b _) (first_le b _)
    · exact nb _ _ (second_ge b hb p n0) (second_le b hb p n0)

end Cert.Pick
-- ==== Proof.Post.Rows.lean ====
module
public import Idealize.ShloMosaic.PureOps
public import Idealize.ShloMosaic.Lib.Pointwise
public import proofs.«01_k».proof.Proof.Post.Pick

/-!
The routing of one token as functions of its row: the projected residual, its norm, the softmax of the gate, the two experts
of greatest biased score, and the balance loss. With finite arguments every biased score is a real number.
-/

@[expose] public section

noncomputable section
namespace Cert.Rows
open Idealize.ShloMosaic Cert.Pick

/-- The arguments, read at their coordinates. -/
structure Args where
  res : Fin 2048 → Fin 768 → EReal
  heads : Fin 12 → Fin 2048 → Fin 64 → EReal
  proj : Fin 768 → Fin 768 → EReal
  shift : Fin 768 → EReal
  scale : Fin 768 → EReal
  gate : Fin 768 → Fin 64 → EReal
  bias : Fin 64 → EReal

/-- A row over the root of its mean square, times the scale. -/
def rmsNorm (x w : Fin 768 → EReal) (j : Fin 768) : EReal :=
  x j * Ideal.rsqrt (Ideal.div (∑ k, x k * x k) (Ideal.ofBits .f32 1145044992#32) + Ideal.ofBits .f32 925353388#32) * w j

/-- The softmax of a row. -/
def soft (l : Fin 64 → EReal) (e : Fin 64) : EReal :=
  Ideal.div (Ideal.exp (l e - Finset.univ.fold max (Ideal.ofBits .f32 4286578688#32) l))
    (∑ k, Ideal.exp (l k - Finset.univ.fold max (Ideal.ofBits .f32 4286578688#32) l))

variable (a : Args)

/-- The residual and the projection of the heads. -/
def x1 (t : Fin 2048) (j : Fin 768) : EReal :=
  a.res t j + ((∑ k : Fin 768, a.heads ⟨k.val / 64, by omega⟩ t ⟨k.val % 64, by omega⟩ * a.proj k j) + a.shift j)

/-- The normalised row. -/
def x2 (t : Fin 2048) : Fin 768 → EReal := rmsNorm (x1 a t) a.scale

/-- The gate's products. -/
def logit (t : Fin 2048) (e : Fin 64) : EReal := ∑ k, x2 a t k * a.gate k e

/-- The scores. -/
def score (t : Fin 2048) : Fin 64 → EReal := soft (logit a t)

/-- The scores that choose. -/
def biased (t : Fin 2048) (e : Fin 64) : EReal := score a t e + a.bias e

/-- The expert of a choice. -/
def expert (t : Fin 2048) (s : Fin 2) : Fin 64 := lanes (biased a t) s

/-- The gate's weight of a choice. -/
def weight (t : Fin 2048) (s : Fin 2) : EReal := score a t (expert a t s)

/-- How many choices an expert has. -/
def count (e : Fin 64) : EReal := ∑ t : Fin 2048, ∑ s : Fin 2, if expert a t s = e then 1 else 0

/-- The balance loss. -/
def loss : EReal :=
  Ideal.ofBits .f32 1008981770#32 *
    ∑ e : Fin 64, Ideal.div (count a e * Ideal.ofBits .f32 1115684864#32) (Ideal.ofBits .f32 1166016512#32 + Ideal.ofBits .f32 897988541#32)
      * Ideal.div (∑ t : Fin 2048, score a t e) (Ideal.ofBits .f32 1157627904#32)

/-! ## Real numbers -/

/-- A real number. -/
def Real' (x : EReal) : Prop := ∃ r : ℝ, x = (r : EReal)

/-- A sum of two reals is real. -/
theorem real_add {x y : EReal} (h : Real' x) (h' : Real' y) : Real' (x + y) := by
  obtain ⟨r, rfl⟩ := h; obtain ⟨s, rfl⟩ := h'; exact ⟨r + s, (EReal.coe_add r s).symm⟩

/-- A product of two reals is real. -/
theorem real_mul {x y : EReal} (h : Real' x) (h' : Real' y) : Real' (x * y) := by
  obtain ⟨r, rfl⟩ := h; obtain ⟨s, rfl⟩ := h'; exact ⟨r * s, (EReal.coe_mul r s).symm⟩

/-- A sum of reals is real. -/
theorem real_sum {n : ℕ} (f : Fin n → EReal) (h : ∀ k, Real' (f k)) : Real' (∑ k, f k) :=
  Finset.sum_induction f Real' (fun _ _ => real_add) ⟨0, rfl⟩ fun k _ => h k

/-- Not infinite is real. -/
theorem real_of {x : EReal} (h : x ≠ ⊥) (h' : x ≠ ⊤) : Real' x := ⟨x.toReal, (EReal.coe_toReal h' h).symm⟩

/-- A sum of reals, as extended reals. -/
theorem coe_total {n : ℕ} (f : Fin n → ℝ) : ((∑ k, f k : ℝ) : EReal) = ∑ k, (f k : EReal) := by
  have h : ∀ s : Finset (Fin n), ((∑ k ∈ s, f k : ℝ) : EReal) = ∑ k ∈ s, (f k : EReal) := fun s => by
    induction s using Finset.induction_on with
    | empty => rfl
    | insert k s hk ih => rw [Finset.sum_insert hk, Finset.sum_insert hk, EReal.coe_add, ih]
  exact h _

/-- The word of 768. -/
theorem ofBits_768 : Ideal.ofBits .f32 1145044992#32 = ((768 : ℝ) : EReal) := by
  simp [Ideal.ofBits, Ideal.ieee]
  rw [← EReal.coe_mul]
  norm_num

/-- The word of the norm's small number, which is positive. -/
theorem ofBits_eps : ∃ r : ℝ, 0 < r ∧ Ideal.ofBits .f32 925353388#32 = (r : EReal) := by
  refine ⟨_, ?_, by simp [Ideal.ofBits, Ideal.ieee]; rfl⟩
  positivity

/-- The word of minus infinity. -/
theorem ofBits_neg : Ideal.ofBits .f32 4286578688#32 = ⊥ := by
  simp [Ideal.ofBits, Ideal.ieee]

/-- The norm of a real row is real. -/
theorem real_rmsNorm (x w : Fin 768 → EReal) (hx : ∀ k, Real' (x k)) (hw : ∀ k, Real' (w k)) (j : Fin 768) : Real' (rmsNorm x w j) := by
  obtain ⟨r, hr⟩ : ∃ r : Fin 768 → ℝ, ∀ k, x k = (r k : EReal) := ⟨fun k => (hx k).choose, fun k => (hx k).choose_spec⟩
  obtain ⟨ε, hε, eε⟩ := ofBits_eps
  have hs : (∑ k, x k * x k) = ((∑ k, r k * r k : ℝ) : EReal) := by
    rw [coe_total]
    exact Finset.sum_congr rfl fun k _ => by rw [hr k, EReal.coe_mul]
  have hp : 0 ≤ ∑ k, r k * r k := Finset.sum_nonneg fun k _ => mul_self_nonneg (r k)
  unfold rmsNorm
  refine real_mul (real_mul (hx j) ?_) (hw j)
  rw [hs, ofBits_768, eε]
  unfold Ideal.div
  rw [if_neg (by exact_mod_cast (by norm_num : (768 : ℝ) ≠ 0)), ← EReal.coe_inv, ← EReal.coe_mul, ← EReal.coe_add]
  have hq : 0 < (∑ k, r k * r k) * (768 : ℝ)⁻¹ + ε := by positivity
  generalize (∑ k, r k * r k) * (768 : ℝ)⁻¹ + ε = q at hq
  refine ⟨(Real.sqrt q)⁻¹, ?_⟩
  show (if q < 0 then (⊥ : EReal) else if q = 0 then ⊤ else ((Real.sqrt q)⁻¹ : ℝ)) = _
  rw [if_neg (not_lt.mpr hq.le), if_neg hq.ne']

/-- The softmax of a real row is real. -/
theorem real_soft (l : Fin 64 → EReal) (hl : ∀ k, Real' (l k)) (e : Fin 64) : Real' (soft l e) := by
  unfold soft
  rw [ofBits_neg, fold_max]
  obtain ⟨r, hr⟩ : ∃ r : Fin 64 → ℝ, ∀ k, l k = (r k : EReal) := ⟨fun k => (hl k).choose, fun k => (hl k).choose_spec⟩
  have he : ∀ k, Ideal.exp (l k - l (first l)) = (Real.exp (r k - r (first l)) : EReal) := fun k => by
    rw [hr k, hr (first l), ← EReal.coe_sub]
    rfl
  have hs : (∑ k, Ideal.exp (l k - l (first l))) = ((∑ k, Real.exp (r k - r (first l)) : ℝ) : EReal) := by
    rw [coe_total]
    exact Finset.sum_congr rfl fun k _ => he k
  have hp : 0 < ∑ k : Fin 64, Real.exp (r k - r (first l)) := Finset.sum_pos (fun k _ => Real.exp_pos _) ⟨0, Finset.mem_univ _⟩
  rw [hs, he e]
  unfold Ideal.div
  rw [if_neg (by exact_mod_cast hp.ne'), ← EReal.coe_inv, ← EReal.coe_mul]
  exact ⟨_, rfl⟩

/-- All arguments are real. -/
structure AllReal : Prop where
  res : ∀ t j, Real' (a.res t j)
  heads : ∀ h t d, Real' (a.heads h t d)
  proj : ∀ k j, Real' (a.proj k j)
  shift : ∀ j, Real' (a.shift j)
  scale : ∀ j, Real' (a.scale j)
  gate : ∀ k e, Real' (a.gate k e)
  bias : ∀ e, Real' (a.bias e)

/-- Then so is every biased score, -/
theorem real_biased (h : AllReal a) (t : Fin 2048) (e : Fin 64) : Real' (biased a t e) := by
  refine real_add (real_soft _ (fun k => real_sum _ fun j => real_mul (real_rmsNorm _ _ (fun i => ?_) h.scale j) (h.gate j k)) e) (h.bias e)
  exact real_add (h.res t i) (real_add (real_sum _ fun k => real_mul (h.heads _ t _) (h.proj k i)) (h.shift i))

/-- and none is `-∞`. -/
theorem biased_ne (h : AllReal a) (t : Fin 2048) (e : Fin 64) : biased a t e ≠ ⊥ := by
  obtain ⟨r, hr⟩ := real_biased a h t e
  rw [hr]
  exact EReal.coe_ne_bot r

end Cert.Rows
-- ==== Proof.Post.Dense.lean ====
module
public import proofs.«01_k».proof.Proof.Gen.Kernel2Ideal.Value
public import proofs.«01_k».proof.Proof.Post.Rows
public import Idealize.ShloMosaic.Lib.Pointwise
public import Idealize.ShloMosaic.Lib.Pipeline.ValueKit

/-!
The projection, the second norm and the softmax of the gate: what the kernel computes at one token.
-/

@[expose] public section
set_option maxRecDepth 16384

noncomputable section
namespace Cert.Kernel2Ideal.Post
open Idealize.ShloMosaic Idealize.ShloMosaic.TcCoe
open Cert.Kernel2Ideal Cert.Kernel2Ideal.Gen Cert.Rows

variable (z0 : Vec Ideal S2048x768 .f32) (z1 : Vec Ideal S12x2048x64 .bf16) (z2 : Vec Ideal S768x768 .bf16) (z3 z4 : Vec Ideal S1x768 .f32) (z5 : Vec Ideal S768x64 .f32) (z6 : Vec Ideal S1x64 .f32)

/-- The kernel's arguments at their coordinates. -/
def args : Args where
  res t j := z0 (ix2 t j)
  heads h t d := z1 (ix3 h t d)
  proj k j := z2 (ix2 k j)
  shift j := z3 (ix2 0 j)
  scale j := z4 (ix2 0 j)
  gate k e := z5 (ix2 k e)
  bias e := z6 (ix2 0 e)

/-- One head's part of the projection. -/
def part (h : Fin 12) (t : Fin 2048) (j : Fin 768) : EReal :=
  ∑ d : Fin 64, (show EReal from z1 (ix3 h t d)) * z2 (ix2 ⟨h.val * 64 + d.val, by omega⟩ j)

/-- The first head's rows of the projection start at its first row. -/
theorem part_zero (t : Fin 2048) (j : Fin 768) :
    part z1 z2 0 t j = ∑ d : Fin 64, (show EReal from z1 (ix3 0 t d)) * z2 (ix2 ⟨d.val, by omega⟩ j) := by
  unfold part
  refine Finset.sum_congr rfl fun d _ => ?_
  rw [show (⟨(0 : Fin 12).val * 64 + d.val, by omega⟩ : Fin 768) = ⟨d.val, by omega⟩ from Fin.ext (by simp)]

/-- Twelve terms. -/
theorem sum_twelve (p : Fin 12 → EReal) : (∑ h, p h) = p 0 + p 1 + p 2 + p 3 + p 4 + p 5 + p 6 + p 7 + p 8 + p 9 + p 10 + p 11 := by
  simp only [Fin.sum_univ_castSucc, Fin.sum_univ_zero, zero_add]
  rfl

/-- The projection is the sum of the heads' parts. -/
theorem proj_eq (t : Fin 2048) (j : Fin 768) :
    (∑ k : Fin 768, (args z0 z1 z2 z3 z4 z5 z6).heads ⟨k.val / 64, by omega⟩ t ⟨k.val % 64, by omega⟩ * (args z0 z1 z2 z3 z4 z5 z6).proj k j)
      = ∑ h : Fin 12, part z1 z2 h t j := by
  rw [Fin.sum_univ_tiles 12 64 rfl]
  refine Finset.sum_congr rfl fun h _ => Finset.sum_congr rfl fun d _ => ?_
  have e1 : (h.val * 64 + d.val) / 64 = h.val := by omega
  have e2 : (h.val * 64 + d.val) % 64 = d.val := by omega
  have e3 : (⟨(h.val * 64 + d.val) / 64, by omega⟩ : Fin 12) = h := Fin.ext e1
  have e4 : (⟨(h.val * 64 + d.val) % 64, by omega⟩ : Fin 64) = d := Fin.ext e2
  show (show EReal from z1 (ix3 (⟨(h.val * 64 + d.val) / 64, by omega⟩ : Fin 12) t (⟨(h.val * 64 + d.val) % 64, by omega⟩ : Fin 64))) * z2 (ix2 ⟨h.val * 64 + d.val, by omega⟩ j) = _
  rw [e3, e4]

/-- The first nine heads' parts added to the shift. -/
theorem pay23_at (t : Fin 2048) (j : Fin 768) :
    k0_pay23 (F := Ideal) z0 z1 z2 z3 z4 z5 z6 (ix2 t j)
      = (show EReal from z3 (ix2 0 j)) + part z1 z2 0 t j + part z1 z2 1 t j + part z1 z2 2 t j + part z1 z2 3 t j + part z1 z2 4 t j + part z1 z2 5 t j
        + part z1 z2 6 t j + part z1 z2 7 t j + part z1 z2 8 t j := by
  rw [part_zero]
  pointwise [k0_pay23, k0_pay5, k0_pay4]
  rfl

/-- The residual and the projection. -/
theorem pay6_at (t : Fin 2048) (j : Fin 768) :
    k0_pay6 (F := Ideal) (k0_pay23 z0 z1 z2 z3 z4 z5 z6) (View.ld z1 r0_19) (View.ld z2 r0_20) (View.ld z1 r0_21) (View.ld z2 r0_22) (View.ld z1 r0_23) (View.ld z2 r0_24) (View.ld z0 r0_25) (ix2 t j)
      = x1 (args z0 z1 z2 z3 z4 z5 z6) t j := by
  unfold x1
  rw [proj_eq, sum_twelve]
  have h := pay23_at z0 z1 z2 z3 z4 z5 z6 t j
  revert h
  generalize k0_pay23 (F := Ideal) z0 z1 z2 z3 z4 z5 z6 = y
  intro h
  pointwise [k0_pay6]
  show (show EReal from z0 (ix2 t j)) + ((show EReal from y (ix2 t j)) + part z1 z2 9 t j + part z1 z2 10 t j + part z1 z2 11 t j)
    = (show EReal from z0 (ix2 t j)) + (_ + (show EReal from z3 (ix2 0 j)))
  rw [h]
  congr 1
  dsimp only
  ac_rfl

/-- The normalised row. -/
theorem pay24_at (t : Fin 2048) (j : Fin 768) :
    k0_pay24 (F := Ideal) z0 z1 z2 z3 z4 z5 z6 (ix2 t j) = x2 (args z0 z1 z2 z3 z4 z5 z6) t j := by
  have h := pay6_at z0 z1 z2 z3 z4 z5 z6
  unfold k0_pay24 k0_pay7 x2 rmsNorm
  revert h
  generalize k0_pay6 (F := Ideal) (k0_pay23 z0 z1 z2 z3 z4 z5 z6) (View.ld z1 r0_19) (View.ld z2 r0_20) (View.ld z1 r0_21) (View.ld z2 r0_22) (View.ld z1 r0_23) (View.ld z2 r0_24) (View.ld z0 r0_25) = y
  intro h
  pointwise
  simp only [h]
  rfl

/-- The scores. -/
theorem pay26_at (t : Fin 2048) (e : Fin 64) :
    k0_pay26 (F := Ideal) z0 z1 z2 z3 z4 z5 z6 (ix2 t e) = score (args z0 z1 z2 z3 z4 z5 z6) t e := by
  have h := pay24_at z0 z1 z2 z3 z4 z5 z6
  unfold k0_pay26 k0_pay9 score soft logit
  revert h
  generalize k0_pay24 (F := Ideal) z0 z1 z2 z3 z4 z5 z6 = y
  intro h
  pointwise
  simp only [h]
  rfl

/-- The scores that choose. -/
theorem pay10_at (t : Fin 2048) (e : Fin 64) :
    k0_pay10 (F := Ideal) (k0_pay24 z0 z1 z2 z3 z4 z5 z6) (View.ld z5 r0_26) (View.ld z6 r0_27) (ix2 t e) = biased (args z0 z1 z2 z3 z4 z5 z6) t e := by
  have h := pay26_at z0 z1 z2 z3 z4 z5 z6 t e
  unfold k0_pay26 at h
  unfold k0_pay10 biased
  revert h
  generalize k0_pay9 (F := Ideal) (k0_pay24 z0 z1 z2 z3 z4 z5 z6) (View.ld z5 r0_26) = y
  intro h
  pointwise
  rw [h]
  rfl

end Cert.Kernel2Ideal.Post
-- ==== Proof.Post.Choice.lean ====
module
public import proofs.«01_k».proof.Proof.Post.Dense

/-!
The two experts of a token, their weights, the experts' counts and the balance loss: what the kernel computes, where no biased
score is `-∞`.
-/

@[expose] public section
set_option maxRecDepth 16384

noncomputable section
namespace Cert.Kernel2Ideal.Post
open Idealize.ShloMosaic Idealize.ShloMosaic.TcCoe
open Cert.Kernel2Ideal Cert.Kernel2Ideal.Gen Cert.Rows Cert.Pick

/-- Two lanes' words are equal when the lanes are. -/
theorem lane_eq (e k : Fin 64) : IntOp.cmpi .eq (BitVec.ofNat 32 e.val) (BitVec.ofNat 32 k.val) = BitVec.ofBool (decide (e = k)) := by
  show BitVec.ofBool (decide _) = _
  congr 1
  rw [decide_eq_decide]
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- A lane's comparison as a number. -/
theorem onehot (e k : Fin 64) :
    (FloatOps.sitofp .f32 (BitVec.setWidth 32 (IntOp.cmpi .eq (BitVec.ofNat 32 e.val) (BitVec.ofNat 32 k.val))) : Ideal .f32) = (if e = k then 1 else 0 : EReal) := by
  rw [lane_eq]
  by_cases h : e = k
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- A choice by a lane's comparison. -/
theorem select_lane {α : Type} (e k : Fin 64) (x y : α) :
    Scalar.select (IntOp.cmpi .eq (BitVec.ofNat 32 e.val) (BitVec.ofNat 32 k.val)) x y = if e = k then x else y := by
  rw [lane_eq]
  by_cases h : e = k
  · rw [if_pos h, decide_eq_true h]; rfl
  · rw [if_neg h, decide_eq_false h]; rfl

/-- The mask's value is `-∞`. -/
theorem mask_bot : (Named.named (F := Ideal) κ "mask" (φ := .f32) 4048155338#32 : EReal) = ⊥ := by
  rfl

/-- The weighted sum over the lanes picks one. -/
theorem pick_sum (f : Fin 64 → EReal) (k : Fin 64) : (∑ x : Fin 64, (if x = k then 1 else 0 : EReal) * f x) = f k := by
  rw [Finset.sum_eq_single k (fun x _ h => by rw [if_neg h, zero_mul]) (fun h => absurd (Finset.mem_univ k) h), if_pos rfl, one_mul]

variable (z0 : Vec Ideal S2048x768 .f32) (z1 : Vec Ideal S12x2048x64 .bf16) (z2 : Vec Ideal S768x768 .bf16) (z3 z4 : Vec Ideal S1x768 .f32) (z5 : Vec Ideal S768x64 .f32) (z6 : Vec Ideal S1x64 .f32)

/-- The first expert. -/
theorem pay11_at (t : Fin 2048) :
    k0_pay11 (F := Ideal) (k0_pay24 z0 z1 z2 z3 z4 z5 z6) (View.ld z5 r0_26) (View.ld z6 r0_27) (ix2 t 0)
      = BitVec.ofNat 32 (first (biased (args z0 z1 z2 z3 z4 z5 z6) t)).val := by
  have h := pay10_at z0 z1 z2 z3 z4 z5 z6 t
  unfold k0_pay11
  revert h
  generalize k0_pay10 (F := Ideal) (k0_pay24 z0 z1 z2 z3 z4 z5 z6) (View.ld z5 r0_26) (View.ld z6 r0_27) = y
  intro h
  pointwise
  simp only [h, ofBits_neg]
  rw [fold_max]
  exact fold_lane _

/-- Its lane. -/
theorem pay27_at (t : Fin 2048) (e : Fin 64) :
    k0_pay27 (F := Ideal) z0 z1 z2 z3 z4 z5 z6 (ix2 t e) = (if e = first (biased (args z0 z1 z2 z3 z4 z5 z6) t) then 1 else 0 : EReal) := by
  have h := pay11_at z0 z1 z2 z3 z4 z5 z6 t
  unfold k0_pay27 k0_pay12
  revert h
  generalize k0_pay11 (F := Ideal) (k0_pay24 z0 z1 z2 z3 z4 z5 z6) (View.ld z5 r0_26) (View.ld z6 r0_27) = y
  intro h
  pointwise
  rw [h]
  exact onehot _ _

/-- The second expert. -/
theorem pay28_at (t : Fin 2048) (e : Fin 64) :
    k0_pay28 (F := Ideal) z0 z1 z2 z3 z4 z5 z6 (ix2 t e) = BitVec.ofNat 32 (second (biased (args z0 z1 z2 z3 z4 z5 z6) t)).val := by
  have h := pay11_at z0 z1 z2 z3 z4 z5 z6 t
  have h' := pay10_at z0 z1 z2 z3 z4 z5 z6 t
  unfold k0_pay28 k0_pay13
  revert h h'
  generalize k0_pay11 (F := Ideal) (k0_pay24 z0 z1 z2 z3 z4 z5 z6) (View.ld z5 r0_26) (View.ld z6 r0_27) = y
  generalize k0_pay10 (F := Ideal) (k0_pay24 z0 z1 z2 z3 z4 z5 z6) (View.ld z5 r0_26) (View.ld z6 r0_27) = y'
  intro h h'
  pointwise
  simp only [h, h', ofBits_neg, select_lane, mask_bot]
  rw [show Finset.univ.fold max (⊥ : EReal) (fun x : Fin 64 => if x = first (biased (args z0 z1 z2 z3 z4 z5 z6) t) then ⊥ else biased (args z0 z1 z2 z3 z4 z5 z6) t x) = _
    from fold_max (without (biased (args z0 z1 z2 z3 z4 z5 z6) t) (first (biased (args z0 z1 z2 z3 z4 z5 z6) t)))]
  exact fold_lane (without (biased (args z0 z1 z2 z3 z4 z5 z6) t) (first (biased (args z0 z1 z2 z3 z4 z5 z6) t)))

/-- The first weight. -/
theorem pay15_at (t : Fin 2048) :
    k0_pay15 (F := Ideal) (k0_pay26 z0 z1 z2 z3 z4 z5 z6) (k0_pay27 z0 z1 z2 z3 z4 z5 z6) (ix2 t 0) = weight (args z0 z1 z2 z3 z4 z5 z6) t 0 := by
  have h := pay26_at z0 z1 z2 z3 z4 z5 z6 t
  have h' := pay27_at z0 z1 z2 z3 z4 z5 z6 t
  pointwise [k0_pay15]
  simp only [h, h']
  exact pick_sum _ _

/-- The second choice's lane. -/
theorem pay14_at (t : Fin 2048) (e : Fin 64) :
    k0_pay14 (F := Ideal) (k0_pay25 z0 z1 z2 z3 z4 z5 z6) (k0_pay28 z0 z1 z2 z3 z4 z5 z6) (ix2 t e)
      = (if e = second (biased (args z0 z1 z2 z3 z4 z5 z6) t) then 1 else 0 : EReal) := by
  have h := pay28_at z0 z1 z2 z3 z4 z5 z6 t
  pointwise [k0_pay14, k0_pay25]
  rw [h]
  exact onehot _ _

/-- The second weight. -/
theorem pay16_at (t : Fin 2048) :
    k0_pay16 (F := Ideal) (k0_pay26 z0 z1 z2 z3 z4 z5 z6) (k0_pay25 z0 z1 z2 z3 z4 z5 z6) (k0_pay28 z0 z1 z2 z3 z4 z5 z6) (ix2 t 0) = weight (args z0 z1 z2 z3 z4 z5 z6) t 1 := by
  have h := pay26_at z0 z1 z2 z3 z4 z5 z6 t
  have h' := pay14_at z0 z1 z2 z3 z4 z5 z6 t
  unfold k0_pay16
  revert h'
  generalize k0_pay14 (F := Ideal) (k0_pay25 z0 z1 z2 z3 z4 z5 z6) (k0_pay28 z0 z1 z2 z3 z4 z5 z6) = y
  intro h'
  pointwise
  simp only [h, h']
  exact pick_sum _ _

/-- The counts. -/
theorem pay29_at (e : Fin 64) :
    k0_pay29 (F := Ideal) z0 z1 z2 z3 z4 z5 z6 (ix2 0 e) = Rows.count (args z0 z1 z2 z3 z4 z5 z6) e := by
  have h := pay27_at z0 z1 z2 z3 z4 z5 z6
  have h' := pay14_at z0 z1 z2 z3 z4 z5 z6
  unfold k0_pay29 k0_pay18 k0_pay17 Rows.count
  revert h h'
  generalize k0_pay14 (F := Ideal) (k0_pay25 z0 z1 z2 z3 z4 z5 z6) (k0_pay28 z0 z1 z2 z3 z4 z5 z6) = y
  generalize k0_pay27 (F := Ideal) z0 z1 z2 z3 z4 z5 z6 = y'
  intro h h'
  pointwise
  refine Finset.sum_congr rfl fun t _ => ?_
  rw [h, h', Fin.sum_univ_two]
  congr 1
  · exact if_congr eq_comm rfl rfl
  · exact if_congr eq_comm rfl rfl

/-- The loss. -/
theorem pay3_at :
    k0_pay3 (F := Ideal) (k0_pay26 z0 z1 z2 z3 z4 z5 z6) (k0_pay29 z0 z1 z2 z3 z4 z5 z6) (ix2 0 0) = loss (args z0 z1 z2 z3 z4 z5 z6) := by
  have h := pay26_at z0 z1 z2 z3 z4 z5 z6
  have h' := pay29_at z0 z1 z2 z3 z4 z5 z6
  pointwise [k0_pay3]
  simp only [h, h', Fin.sum_univ_one]
  unfold loss
  exact mul_comm _ _

end Cert.Kernel2Ideal.Post
-- ==== Proof.Post.Arrays.lean ====
module
public import proofs.«01_k».proof.Proof.Post.Choice

/-!
What the routing call leaves in its result arrays, from the arrays it is given.
-/

@[expose] public section
set_option maxRecDepth 16384

noncomputable section
namespace Cert.Kernel2Ideal.Post
open Idealize.ShloMosaic Idealize.ShloMosaic.TcCoe Idealize.SL.Sem
open Idealize.ShloMosaic.Pipeline (Dat)
open Cert.Kernel2Ideal Cert.Kernel2Ideal.Gen Cert.Rows

variable (m : (ℓ : Loc nD τ sig) → Buf (Elt Ideal) ℓ) (c : Dev nD)

/-- The arguments of the program at their coordinates. -/
def given : Args where
  res t j := (show FVec Ideal S2048x768 .f32 from m ((c : Thread nD τ).loc main_arg0)) (ix2 t j)
  heads h t d := (show FVec Ideal S12x2048x64 .bf16 from m ((c : Thread nD τ).loc main_arg1)) (ix3 h t d)
  proj k j := (show FVec Ideal S768x768 .f32 from m ((c : Thread nD τ).loc main_arg2)) (ix2 k j)
  shift j := (show FVec Ideal S768 .f32 from m ((c : Thread nD τ).loc main_arg3)) (Idealize.ShloMosaic.ix1 j)
  scale j := (show FVec Ideal S768 .f32 from m ((c : Thread nD τ).loc main_arg4)) (Idealize.ShloMosaic.ix1 j)
  gate k e := (show FVec Ideal S768x64 .f32 from m ((c : Thread nD τ).loc main_arg5)) (ix2 k e)
  bias e := (show FVec Ideal S64 .f32 from m ((c : Thread nD τ).loc main_arg6)) (Idealize.ShloMosaic.ix1 e)

/-- Every argument is one block, -/
theorem idx_in : ∀ t : Fin cfg0.N, (cfg0.win 0).index t = ![0, 0] ∧ (cfg0.win 1).index t = ![0, 0, 0] ∧ (cfg0.win 2).index t = ![0, 0]
    ∧ (cfg0.win 3).index t = ![0, 0] ∧ (cfg0.win 4).index t = ![0, 0] ∧ (cfg0.win 5).index t = ![0, 0] ∧ (cfg0.win 6).index t = ![0, 0] :=
  (by decide +kernel : ∀ t : Fin grid0.N, _)

/-- and so is every result. -/
theorem idx_out : ∀ t : Fin cfg0.N, (cfg0.win 7).index t = ![0, 0] ∧ (cfg0.win 8).index t = ![0, 0]
    ∧ (cfg0.win 11).index t = ![0, 0] ∧ (cfg0.win 12).index t = ![0, 0] ∧ (cfg0.win 14).index t = ![0, 0] ∧ (cfg0.win 15).index t = ![0, 0] :=
  (by decide +kernel : ∀ t : Fin grid0.N, _)

/-- The projection as the call finds it, -/
theorem host_v0 (k j : Fin 768) : (show FVec Ideal S768x768 .bf16 from V m c main_v0) (ix2 k j) = (given m c).proj k j := by
  unfold V
  entry_read
  pointwise
  rfl
/-- the projection's shift, -/
theorem host_v1 (j : Fin 768) : (show FVec Ideal S1x768 .f32 from V m c main_v1) (ix2 0 j) = (given m c).shift j := by
  unfold V
  entry_read
  pointwise
  rfl
/-- the norm's scale -/
theorem host_v2 (j : Fin 768) : (show FVec Ideal S1x768 .f32 from V m c main_v2) (ix2 0 j) = (given m c).scale j := by
  unfold V
  entry_read
  pointwise
  rfl
/-- and the gate's bias. -/
theorem host_v3 (e : Fin 64) : (show FVec Ideal S1x64 .f32 from V m c main_v3) (ix2 0 e) = (given m c).bias e := by
  unfold V
  entry_read
  pointwise
  rfl

/-- The residual's block, -/
theorem blk_0 (t : Fin cfg0.N) (r : Fin 2048) (j : Fin 768) : iblk m c 0 t (ix2 r j) = V m c main_arg0 (ix2 r j) := by
  blk_ext [iblk, idx_in t]
/-- the heads', -/
theorem blk_1 (t : Fin cfg0.N) (h : Fin 12) (r : Fin 2048) (d : Fin 64) : iblk m c 1 t (ix3 h r d) = V m c main_arg1 (ix3 h r d) := by
  blk_ext [iblk, idx_in t]
/-- the projection's, -/
theorem blk_2 (t : Fin cfg0.N) (k j : Fin 768) : iblk m c 2 t (ix2 k j) = V m c main_v0 (ix2 k j) := by
  blk_ext [iblk, idx_in t]
/-- its shift's, -/
theorem blk_3 (t : Fin cfg0.N) (j : Fin 768) : iblk m c 3 t (ix2 0 j) = V m c main_v1 (ix2 0 j) := by
  blk_ext [iblk, idx_in t]
/-- the norm's scale's, -/
theorem blk_4 (t : Fin cfg0.N) (j : Fin 768) : iblk m c 4 t (ix2 0 j) = V m c main_v2 (ix2 0 j) := by
  blk_ext [iblk, idx_in t]
/-- the gate's -/
theorem blk_5 (t : Fin cfg0.N) (k : Fin 768) (e : Fin 64) : iblk m c 5 t (ix2 k e) = V m c main_arg5 (ix2 k e) := by
  blk_ext [iblk, idx_in t]
/-- and the bias's. -/
theorem blk_6 (t : Fin cfg0.N) (e : Fin 64) : iblk m c 6 t (ix2 0 e) = V m c main_v3 (ix2 0 e) := by
  blk_ext [iblk, idx_in t]

/-- The blocks hold the program's arguments. -/
theorem args_blocks (t : Fin cfg0.N) :
    args (iblk m c 0 t) (iblk m c 1 t) (iblk m c 2 t) (iblk m c 3 t) (iblk m c 4 t) (iblk m c 5 t) (iblk m c 6 t) = given m c := by
  unfold args
  have e0 := blk_0 m c t
  have e1 := blk_1 m c t
  have e2 := fun k j => (blk_2 m c t k j).trans (host_v0 m c k j)
  have e3 := fun j => (blk_3 m c t j).trans (host_v1 m c j)
  have e4 := fun j => (blk_4 m c t j).trans (host_v2 m c j)
  have e5 := blk_5 m c t
  have e6 := fun e => (blk_6 m c t e).trans (host_v3 m c e)
  have f0 := fun i => congrFun (V_main_arg0 m c) i
  have f1 := fun i => congrFun (V_main_arg1 m c) i
  have f5 := fun i => congrFun (V_main_arg5 m c) i
  refine (Args.mk.injEq ..).mpr ⟨?_, ?_, ?_, ?_, ?_, ?_, ?_⟩
  · funext r j; exact (e0 r j).trans (f0 _)
  · funext h r d; exact (e1 h r d).trans (f1 _)
  · funext k j; exact e2 k j
  · funext j; exact e3 j
  · funext j; exact e4 j
  · funext k e; exact (e5 k e).trans (f5 _)
  · funext e; exact e6 e

/-- Offsets at zero. -/
theorem off_zero : (![0, 0] : Fin 2 → ℕ) = fun _ => 0 := by
  funext a; fin_cases a <;> rfl

/-- The residual with the projection of the heads added. -/
theorem arr_7 : (dats m 0 c).arrAt 7 cfg0.N = (fun i => x1 (given m c) (i 0) (i 1) : FVec Ideal S2048x768 .f32) := by
  refine (dats m 0 c).arrAt_eq_of_covers 7 _ (by decide +kernel) fun t _ y => ?_
  have hy : ((cfg0.win 7).blk t).view.emb y = (ix2 (y 0) (y 1) : S2048x768.Idx) := by
    blk_ext [idx_out t]
  rw [hy]
  blk_simp
  rw [after0_7]
  have ey : y = (ix2 (y 0) (y 1) : S2048x768.Idx) := eq_ix2 _
  refine (congrArg _ ey).trans ?_
  unfold out0_7
  rw [View.canon_unit_zero off_zero]
  refine (pay6_at _ _ _ _ _ _ _ (y 0) (y 1)).trans ?_
  rw [args_blocks]
  rfl

/-- Its norm. -/
theorem arr_8 : (dats m 0 c).arrAt 8 cfg0.N = (fun i => x2 (given m c) (i 0) (i 1) : FVec Ideal S2048x768 .bf16) := by
  refine (dats m 0 c).arrAt_eq_of_covers 8 _ (by decide +kernel) fun t _ y => ?_
  have hy : ((cfg0.win 8).blk t).view.emb y = (ix2 (y 0) (y 1) : S2048x768.Idx) := by
    blk_ext [idx_out t]
  rw [hy]
  blk_simp
  rw [after0_8]
  have ey : y = (ix2 (y 0) (y 1) : S2048x768.Idx) := eq_ix2 _
  refine (congrArg _ ey).trans ?_
  unfold out0_8
  rw [View.canon_unit_zero off_zero]
  refine (pay24_at _ _ _ _ _ _ _ (y 0) (y 1)).trans ?_
  rw [args_blocks]
  rfl

/-- A token's first weight, -/
theorem arr_11 : (dats m 0 c).arrAt 11 cfg0.N = (fun i => weight (given m c) (i 0) 0 : FVec Ideal S2048x1 .f32) := by
  refine (dats m 0 c).arrAt_eq_of_covers 11 _ (by decide +kernel) fun t _ y => ?_
  have hy : ((cfg0.win 11).blk t).view.emb y = (ix2 (y 0) (y 1) : S2048x1.Idx) := by
    blk_ext [idx_out t]
  rw [hy]
  blk_simp
  rw [after0_11]
  have ey : y = (ix2 (y 0) 0 : S2048x1.Idx) := by
    refine (eq_ix2 _).trans (congrArg _ ?_)
    exact Subsingleton.elim (α := Fin 1) _ _
  refine (congrArg _ ey).trans ?_
  unfold out0_11
  rw [View.canon_unit_zero off_zero]
  refine (pay15_at _ _ _ _ _ _ _ (y 0)).trans ?_
  rw [args_blocks]
  rfl

/-- and its second. -/
theorem arr_12 : (dats m 0 c).arrAt 12 cfg0.N = (fun i => weight (given m c) (i 0) 1 : FVec Ideal S2048x1 .f32) := by
  refine (dats m 0 c).arrAt_eq_of_covers 12 _ (by decide +kernel) fun t _ y => ?_
  have hy : ((cfg0.win 12).blk t).view.emb y = (ix2 (y 0) (y 1) : S2048x1.Idx) := by
    blk_ext [idx_out t]
  rw [hy]
  blk_simp
  rw [after0_12]
  have ey : y = (ix2 (y 0) 0 : S2048x1.Idx) := by
    refine (eq_ix2 _).trans (congrArg _ ?_)
    exact Subsingleton.elim (α := Fin 1) _ _
  refine (congrArg _ ey).trans ?_
  unfold out0_12
  rw [View.canon_unit_zero off_zero]
  refine (pay16_at _ _ _ _ _ _ _ (y 0)).trans ?_
  rw [args_blocks]
  rfl

/-- The experts' counts. -/
theorem arr_14 : (dats m 0 c).arrAt 14 cfg0.N = (fun i => Rows.count (given m c) (i 1) : FVec Ideal S1x64 .f32) := by
  refine (dats m 0 c).arrAt_eq_of_covers 14 _ (by decide +kernel) fun t _ y => ?_
  have hy : ((cfg0.win 14).blk t).view.emb y = (ix2 (y 0) (y 1) : S1x64.Idx) := by
    blk_ext [idx_out t]
  rw [hy]
  blk_simp
  rw [after0_14]
  have ey : y = (ix2 0 (y 1) : S1x64.Idx) := by
    refine (eq_ix2 _).trans (congrArg (fun q => ix2 q _) ?_)
    exact Subsingleton.elim (α := Fin 1) _ _
  refine (congrArg _ ey).trans ?_
  unfold out0_14
  rw [View.canon_unit_zero off_zero]
  refine (pay29_at _ _ _ _ _ _ _ (y 1)).trans ?_
  rw [args_blocks]
  rfl

/-- The loss. -/
theorem arr_15 : (dats m 0 c).arrAt 15 cfg0.N = (fun _ => loss (given m c) : FVec Ideal S1x1 .f32) := by
  refine (dats m 0 c).arrAt_eq_of_covers 15 _ (by decide +kernel) fun t _ y => ?_
  blk_simp
  rw [after0_15]
  have ey : y = (ix2 0 0 : S1x1.Idx) := by
    refine (eq_ix2 _).trans (congrArg₂ ix2 ?_ ?_) <;> exact Subsingleton.elim (α := Fin 1) _ _
  refine (congrArg _ ey).trans ?_
  unfold out0_15
  rw [View.canon_unit_zero off_zero]
  refine (pay3_at _ _ _ _ _ _ _).trans ?_
  rw [args_blocks]

end Cert.Kernel2Ideal.Post
-- ==== Proof.Post.Refer.lean ====
module
public import proofs.«01_k».proof.Proof.Gen.Reference2Ideal.Read
public import proofs.«01_k».proof.Proof.Post.Rows
public import Idealize.ShloMosaic.Lib.Pointwise

/-!
The reference's values at one token.
-/

@[expose] public section
set_option maxRecDepth 16384

noncomputable section
namespace Cert.Reference2Ideal.Post
open Idealize.ShloMosaic Idealize.ShloMosaic.TcCoe
open Cert.Reference2Ideal Cert.Reference2Ideal.Read Cert.Rows Cert.Pick

variable (y0 : (⟨S2048x768, .f32⟩ : BufTy).Contents (Elt Ideal)) (y1 : (⟨S12x2048x64, .bf16⟩ : BufTy).Contents (Elt Ideal)) (y2 : (⟨S768x768, .f32⟩ : BufTy).Contents (Elt Ideal)) (y3 y4 : (⟨S768, .f32⟩ : BufTy).Contents (Elt Ideal)) (y5 : (⟨S768x64, .f32⟩ : BufTy).Contents (Elt Ideal)) (y6 : (⟨S64, .f32⟩ : BufTy).Contents (Elt Ideal))

/-- The reference's arguments at their coordinates. -/
def args : Args where
  res t j := y0 (ix2 t j)
  heads h t d := y1 (ix3 h t d)
  proj k j := y2 (ix2 k j)
  shift j := y3 (ix1 j)
  scale j := y4 (ix1 j)
  gate k e := y5 (ix2 k e)
  bias e := y6 (ix1 e)

/-- The reference's residual. -/
theorem v7_at (t : Fin 2048) (j : Fin 768) : val_main_v7 (F := Ideal) y0 y1 y2 y3 (ix2 t j) = x1 (args y0 y1 y2 y3 y4 y5 y6) t j := by
  pointwise [val_main_v7, val_main_v6, val_main_v5, val_main_v4, val_main_v3, val_main_v2, val_main_v1, val_main_v0]
  rfl

/-- Its norm. -/
theorem v20_at (t : Fin 2048) (j : Fin 768) : val_main_v20 (F := Ideal) y0 y1 y2 y3 y4 (ix2 t j) = x2 (args y0 y1 y2 y3 y4 y5 y6) t j := by
  have h := v7_at y0 y1 y2 y3 y4 y5 y6
  pointwise [val_main_v20, val_main_v19, val_main_v18, val_main_v17, val_main_v16, val_main_v15, val_main_v14, val_main_v13, val_main_cst_1, val_main_v12, val_main_v11, val_main_cst_0, val_main_v10, val_main_v9, val_main_cst, val_main_v8]
  simp only [h]
  rfl

/-- Its scores. -/
theorem v32_at (t : Fin 2048) (e : Fin 64) : val_main_v32 (F := Ideal) y0 y1 y2 y3 y4 y5 (ix2 t e) = score (args y0 y1 y2 y3 y4 y5 y6) t e := by
  have h := v20_at y0 y1 y2 y3 y4 y5 y6
  pointwise [val_main_v32, val_main_v31, val_main_v30, val_main_v29, val_main_cst_4, val_main_v28, val_main_v27, val_main_v26, val_main_v25, val_main_v24, val_main_v23, val_main_cst_3, val_main_v22, val_main_cst_2, val_main_v21]
  simp only [h, ofBits_neg, bot_le, sup_of_le_right, max_eq_right]
  unfold score soft
  rw [ofBits_neg]
  rfl

/-- Its biased scores. -/
theorem v35_at (t : Fin 2048) (e : Fin 64) : val_main_v35 (F := Ideal) y0 y1 y2 y3 y4 y5 y6 (ix2 t e) = biased (args y0 y1 y2 y3 y4 y5 y6) t e := by
  have h := v32_at y0 y1 y2 y3 y4 y5 y6
  pointwise [val_main_v35, val_main_v34, val_main_v33]
  rw [h]
  rfl

/-- A row's coordinate replaced. -/
theorem along_row (t : Fin 2048) (q k : Fin 64) : (ix2 t q : S2048x64.Idx).along 1 k = ix2 t k := by
  funext b
  match b with
  | ⟨0, _⟩ => rfl
  | ⟨1, _⟩ => rfl

/-- The second result of a sort of two arrays along the rows. -/
theorem sort_at {α β : Type} (cmp : α × β → α × β → BitVec 1) (x : S2048x64.Idx → α) (y : S2048x64.Idx → β) (t : Fin 2048) (q : Fin 64) :
    (Host.sort2 S2048x64 1 cmp x y).2 (ix2 t q)
      = y (ix2 t (sortedFrom (fun k k' : Fin 64 => cmp (x (ix2 t k), y (ix2 t k)) (x (ix2 t k'), y (ix2 t k')) == 1#1) q)) := by
  refine (congrArg y (along_row t q _)).trans ?_
  refine congrArg (fun p => y (ix2 t (sortedFrom p q))) (funext fun k => funext fun k' => ?_)
  exact congrArg₂ (fun a b => cmp (x a, y a) (x b, y b) == 1#1) (along_row t q k) (along_row t q k')

/-- The first two entries of a row. -/
theorem slice_at {α : Type} (x : S2048x64.Idx → α) (h : S2048x64.Slices (fun _ => 0) S2048x2) (t : Fin 2048) (s : Fin 2) :
    extractStridedSlice S2048x2 (fun _ => 0) x h (ix2 t s) = x (ix2 t (s.castLE (by decide))) := by
  unfold extractStridedSlice
  congr 1
  funext b
  apply Fin.ext
  match b with
  | ⟨0, _⟩ => exact Nat.zero_add _
  | ⟨1, _⟩ => exact Nat.zero_add _

/-- Greater, as a Boolean. -/
theorem greater_eq (a b : EReal) : (FloatOps.cmpfTotal (F := Ideal) (φ := .f32) .gt a b == 1#1) = above a b := by
  rw [show FloatOps.cmpfTotal (F := Ideal) (φ := .f32) .gt a b = BitVec.ofBool (decide (b < a)) from rfl]
  unfold above
  cases decide (b < a) <;> rfl

/-- The indices of a stable sort's first two lanes. -/
theorem topk_at (y : FVec Ideal S2048x64 .f32) (t : Fin 2048) (s : Fin 2) :
    (Host.topK S2048x2 1 (FloatOps.cmpfTotal .gt) y Gen.sliceFits_S2048x64_S2048x2).2 (ix2 t s)
      = BitVec.ofNat 32 (sortedFrom (fun k k' : Fin 64 => above (y (ix2 t k)) (y (ix2 t k'))) (s.castLE (by decide))).val := by
  unfold Host.topK
  dsimp only
  rw [slice_at, sort_at]
  simp only [greater_eq]
  generalize sortedFrom (fun k k' : Fin 64 => above (y (ix2 t k)) (y (ix2 t k'))) (s.castLE (by decide)) = r
  rfl

/-- The experts. -/
theorem indices_at (h : AllReal (args y0 y1 y2 y3 y4 y5 y6)) (t : Fin 2048) (s : Fin 2) :
    val_main_indices (F := Ideal) y0 y1 y2 y3 y4 y5 y6 (ix2 t s) = BitVec.ofNat 32 (expert (args y0 y1 y2 y3 y4 y5 y6) t s).val := by
  unfold val_main_indices
  rw [topk_at]
  have e : (fun k k' : Fin 64 => above (val_main_v35 (F := Ideal) y0 y1 y2 y3 y4 y5 y6 (ix2 t k)) (val_main_v35 (F := Ideal) y0 y1 y2 y3 y4 y5 y6 (ix2 t k')))
      = fun k k' => above (biased (args y0 y1 y2 y3 y4 y5 y6) t k) (biased (args y0 y1 y2 y3 y4 y5 y6) t k') := by
    funext k k'
    rw [v35_at, v35_at]
  rw [e, sorted_lanes _ (biased_ne _ h t) s]
  rfl

/-- A row's entry at a lane. -/
theorem gather_at (x : (⟨S2048x64, .f32⟩ : BufTy).Contents (Elt Ideal)) (i : IVec S2048x2x1 32) (t : Fin 2048) (s : Fin 2) (e : Fin 64) (hi : i (ix3 t s 0) = BitVec.ofNat 32 e.val) :
    Host.gather gather_S2048x64_S2048x2x1_S2048x2_n_1_0_0_1_2_11 x i (ix2 t s) = x (ix2 t e) := by
  have hv : (BitVec.ofNat 32 e.val).toInt.toNat = e.val := by
    rw [lane_toInt e.val (by omega)]
    exact Int.toNat_natCast _
  unfold Host.gather
  congr 1
  funext a
  apply Fin.ext
  match a with
  | ⟨0, _⟩ =>
    show 0 + t.val + 0 = t.val
    omega
  | ⟨1, _⟩ =>
    show min (i (GatherDims.siIdx gather_S2048x64_S2048x2x1_S2048x2_n_1_0_0_1_2_11 (ix2 t s) ⟨0, _⟩)).toInt.toNat 63 + 0 + 0 = e.val
    rw [show GatherDims.siIdx gather_S2048x64_S2048x2x1_S2048x2_n_1_0_0_1_2_11 (ix2 t s) ⟨0, by decide⟩ = ix3 t s 0 from by
      funext b
      match b with
      | ⟨0, _⟩ => rfl
      | ⟨1, _⟩ => rfl
      | ⟨2, _⟩ => rfl, hi, hv]
    omega

/-- The weights. -/
theorem v37_at (h : AllReal (args y0 y1 y2 y3 y4 y5 y6)) (t : Fin 2048) (s : Fin 2) :
    val_main_v37 (F := Ideal) y0 y1 y2 y3 y4 y5 y6 (ix2 t s) = weight (args y0 y1 y2 y3 y4 y5 y6) t s := by
  have hi := indices_at y0 y1 y2 y3 y4 y5 y6 h t s
  unfold val_main_v37
  rw [gather_at _ _ t s (expert (args y0 y1 y2 y3 y4 y5 y6) t s) (by pointwise [val_main_v36]; exact hi)]
  exact v32_at _ _ _ _ _ _ _ t _

/-- Its first weights. -/
theorem v59_at (h : AllReal (args y0 y1 y2 y3 y4 y5 y6)) (t : Fin 2048) :
    val_main_v59 (F := Ideal) y0 y1 y2 y3 y4 y5 y6 (ix2 t 0) = weight (args y0 y1 y2 y3 y4 y5 y6) t 0 := by
  refine Eq.trans ?_ (v37_at y0 y1 y2 y3 y4 y5 y6 h t 0)
  unfold val_main_v59
  generalize val_main_v37 (F := Ideal) y0 y1 y2 y3 y4 y5 y6 = y
  pointwise

/-- Its second weights. -/
theorem v60_at (h : AllReal (args y0 y1 y2 y3 y4 y5 y6)) (t : Fin 2048) :
    val_main_v60 (F := Ideal) y0 y1 y2 y3 y4 y5 y6 (ix2 t 0) = weight (args y0 y1 y2 y3 y4 y5 y6) t 1 := by
  refine Eq.trans ?_ (v37_at y0 y1 y2 y3 y4 y5 y6 h t 1)
  unfold val_main_v60
  generalize val_main_v37 (F := Ideal) y0 y1 y2 y3 y4 y5 y6 = y
  pointwise

/-- Two lanes' words are equal when the lanes are. -/
theorem lane_eq (e k : Fin 64) : IntOp.cmpi .eq (BitVec.ofNat 32 e.val) (BitVec.ofNat 32 k.val) = BitVec.ofBool (decide (e = k)) := by
  show BitVec.ofBool (decide _) = _
  congr 1
  rw [decide_eq_decide]
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- The counts. -/
theorem v46_at (h : AllReal (args y0 y1 y2 y3 y4 y5 y6)) (e : Fin 64) :
    val_main_v46 (F := Ideal) y0 y1 y2 y3 y4 y5 y6 (ix1 e) = Rows.count (args y0 y1 y2 y3 y4 y5 y6) e := by
  have hi := indices_at y0 y1 y2 y3 y4 y5 y6 h
  pointwise [val_main_v46, val_main_cst_8, val_main_v45, val_main_cst_7, val_main_v44, val_main_v43, val_main_v42, val_main_v41, val_main_v40, val_main_v39, val_main_v38, val_main_call0_v0, val_main_call0_v1, val_main_cst_5, val_main_cst_6]
  simp only [hi]
  refine Finset.sum_congr rfl fun t _ => Finset.sum_congr rfl fun s _ => ?_
  rw [lane_eq]
  by_cases hc : expert (args y0 y1 y2 y3 y4 y5 y6) t s = e
  · rw [if_pos hc, decide_eq_true hc]; rfl
  · rw [if_neg hc, decide_eq_false hc]; rfl

/-- Its counts, as a row. -/
theorem v61_at (h : AllReal (args y0 y1 y2 y3 y4 y5 y6)) (e : Fin 64) :
    val_main_v61 (F := Ideal) y0 y1 y2 y3 y4 y5 y6 (ix2 0 e) = Rows.count (args y0 y1 y2 y3 y4 y5 y6) e := by
  refine Eq.trans ?_ (v46_at y0 y1 y2 y3 y4 y5 y6 h e)
  unfold val_main_v61
  generalize val_main_v46 (F := Ideal) y0 y1 y2 y3 y4 y5 y6 = y
  pointwise

/-- The loss. -/
theorem v62_at (h : AllReal (args y0 y1 y2 y3 y4 y5 y6)) :
    val_main_v62 (F := Ideal) y0 y1 y2 y3 y4 y5 y6 (ix2 0 0) = loss (args y0 y1 y2 y3 y4 y5 y6) := by
  have h1 := v46_at y0 y1 y2 y3 y4 y5 y6 h
  have h2 := v32_at y0 y1 y2 y3 y4 y5 y6
  pointwise [val_main_v62, val_main_v57, val_main_cst_15, val_main_v56, val_main_cst_14, val_main_v55, val_main_v54, val_main_v53, val_main_v52, val_main_cst_13, val_main_cst_12, val_main_v51, val_main_v50, val_main_cst_11, val_main_v49, val_main_v48, val_main_cst_10, val_main_v47, val_main_cst_9]
  simp only [h1, h2]
  rfl

end Cert.Reference2Ideal.Post
-- ==== Proof.Post.Finite.lean ====
module
public import proofs.«01_k».proof.Proof.Gen.Pre_finite
public import proofs.«01_k».proof.Proof.Post.Rows
public import Idealize.ShloMosaic.Lib.Pointwise

/-!
What the precondition `finite` says: every number of every argument is real.
-/

@[expose] public section
set_option maxRecDepth 16384

noncomputable section
namespace Cert.Finite
open Idealize.ShloMosaic
open Cert.Pre_finite Cert.Rows

variable (y0 : FVec Ideal S2048x768 .f32) (y1 : FVec Ideal S12x2048x64 .bf16) (y2 : FVec Ideal S768x768 .f32) (y3 y4 : FVec Ideal S768 .f32) (y5 : FVec Ideal S768x64 .f32) (y6 : FVec Ideal S64 .f32)

/-- A number whose size is below infinity is real. -/
theorem real_of_abs (x : EReal) (h : BitVec.ofBool (decide (max x (-x) < Ideal.ofBits FTy.f32 2139095040#32)) = 1#1) : Real' x := by
  have e : Ideal.ofBits .f32 2139095040#32 = ⊤ := by simp [Ideal.ofBits, Ideal.ieee]
  have h' : max x (-x) < ⊤ := by
    rw [← e]
    by_contra hq
    rw [decide_eq_false hq] at h
    exact absurd h (by decide)
  refine real_of (fun hb => ?_) (fun ht => ?_)
  · subst hb; simp at h'
  · subst ht; simp at h'

/-- The residual is real, -/
theorem res (hp : (fn y0 y1 y2 y3 y4 y5 y6).1 = fun _ => 1#1) (t : Fin 2048) (j : Fin 768) : Real' (y0 (ix2 t j)) := by
  have hp := congrFun hp (ix2 t j)
  pointwise [fn, fn_part1] at hp
  exact real_of_abs _ hp
/-- the heads are, -/
theorem heads (hp : (fn y0 y1 y2 y3 y4 y5 y6).2.1 = fun _ => 1#1) (h : Fin 12) (t : Fin 2048) (d : Fin 64) : Real' (y1 (ix3 h t d)) := by
  have hp := congrFun hp (ix3 h t d)
  pointwise [fn, fn_part1] at hp
  exact real_of_abs _ hp
/-- the projection is, -/
theorem proj (hp : (fn y0 y1 y2 y3 y4 y5 y6).2.2.1 = fun _ => 1#1) (k j : Fin 768) : Real' (y2 (ix2 k j)) := by
  have hp := congrFun hp (ix2 k j)
  pointwise [fn, fn_part1] at hp
  exact real_of_abs _ hp
/-- its shift is, -/
theorem shift (hp : (fn y0 y1 y2 y3 y4 y5 y6).2.2.2.1 = fun _ => 1#1) (j : Fin 768) : Real' (y3 (Idealize.ShloMosaic.ix1 j)) := by
  have hp := congrFun hp (Idealize.ShloMosaic.ix1 j)
  pointwise [fn, fn_part1] at hp
  exact real_of_abs _ hp
/-- the norm's scale is, -/
theorem scale (hp : (fn y0 y1 y2 y3 y4 y5 y6).2.2.2.2.1 = fun _ => 1#1) (j : Fin 768) : Real' (y4 (Idealize.ShloMosaic.ix1 j)) := by
  have hp := congrFun hp (Idealize.ShloMosaic.ix1 j)
  pointwise [fn, fn_part1] at hp
  exact real_of_abs _ hp
/-- the gate is -/
theorem gate (hp : (fn y0 y1 y2 y3 y4 y5 y6).2.2.2.2.2.1 = fun _ => 1#1) (k : Fin 768) (e : Fin 64) : Real' (y5 (ix2 k e)) := by
  have hp := congrFun hp (ix2 k e)
  pointwise [fn, fn_part1] at hp
  exact real_of_abs _ hp
/-- and its bias is. -/
theorem bias (hp : (fn y0 y1 y2 y3 y4 y5 y6).2.2.2.2.2.2 = fun _ => 1#1) (e : Fin 64) : Real' (y6 (Idealize.ShloMosaic.ix1 e)) := by
  have hp := congrFun hp (Idealize.ShloMosaic.ix1 e)
  pointwise [fn, fn_part1] at hp
  exact real_of_abs _ hp

end Cert.Finite
-- ==== Proof.Post.Match.lean ====
module
public import proofs.«01_k».proof.Proof.Post.Arrays
public import proofs.«01_k».proof.Proof.Post.Refer
public import proofs.«01_k».proof.Proof.Post.Finite

/-!
The routing call's result arrays are the reference's.
-/

@[expose] public section
set_option maxRecDepth 16384

noncomputable section
namespace Cert.Match
open Idealize.ShloMosaic Idealize.ShloMosaic.TcCoe
open Cert.Kernel2Ideal Cert.Kernel2Ideal.Gen Cert.Kernel2Ideal.Post Cert.Rows
open Cert.Reference2Ideal.Read

variable (m : (ℓ : Loc nD τ sig) → Buf (Elt Ideal) ℓ) (c : Dev nD)
variable (y0 : (⟨S2048x768, .f32⟩ : BufTy).Contents (Elt Ideal)) (y1 : (⟨S12x2048x64, .bf16⟩ : BufTy).Contents (Elt Ideal)) (y2 : (⟨S768x768, .f32⟩ : BufTy).Contents (Elt Ideal)) (y3 y4 : (⟨S768, .f32⟩ : BufTy).Contents (Elt Ideal)) (y5 : (⟨S768x64, .f32⟩ : BufTy).Contents (Elt Ideal)) (y6 : (⟨S64, .f32⟩ : BufTy).Contents (Elt Ideal))
variable (e0 : y0 = m ((c : Thread nD τ).loc main_arg0)) (e1 : y1 = m ((c : Thread nD τ).loc main_arg1)) (e2 : y2 = m ((c : Thread nD τ).loc main_arg2)) (e3 : y3 = m ((c : Thread nD τ).loc main_arg3)) (e4 : y4 = m ((c : Thread nD τ).loc main_arg4)) (e5 : y5 = m ((c : Thread nD τ).loc main_arg5)) (e6 : y6 = m ((c : Thread nD τ).loc main_arg6))

include e0 e1 e2 e3 e4 e5 e6 in
/-- Both programs are given the same arguments. -/
theorem given_eq : given m c = Cert.Reference2Ideal.Post.args y0 y1 y2 y3 y4 y5 y6 := by
  subst e0 e1 e2 e3 e4 e5 e6
  rfl

include e0 e1 e2 e3 e4 e5 e6 in
/-- Both leave the same residual, -/
theorem v7_eq : (show FVec Ideal S2048x768 .f32 from val_main_v7 (F := Ideal) y0 y1 y2 y3) = (dats m 0 c).arrAt 7 cfg0.N := by
  rw [arr_7, given_eq m c y0 y1 y2 y3 y4 y5 y6 e0 e1 e2 e3 e4 e5 e6]
  funext i
  have ei : i = (ix2 (i 0) (i 1) : S2048x768.Idx) := eq_ix2 i
  exact (congrArg _ ei).trans (Cert.Reference2Ideal.Post.v7_at y0 y1 y2 y3 y4 y5 y6 (i 0) (i 1))

include e0 e1 e2 e3 e4 e5 e6 in
/-- the same norm of it, -/
theorem v58_eq : (show FVec Ideal S2048x768 .bf16 from val_main_v58 (F := Ideal) y0 y1 y2 y3 y4) = (dats m 0 c).arrAt 8 cfg0.N := by
  rw [arr_8, given_eq m c y0 y1 y2 y3 y4 y5 y6 e0 e1 e2 e3 e4 e5 e6]
  funext i
  have ei : i = (ix2 (i 0) (i 1) : S2048x768.Idx) := eq_ix2 i
  exact (congrArg _ ei).trans (Cert.Reference2Ideal.Post.v20_at y0 y1 y2 y3 y4 y5 y6 (i 0) (i 1))

include e0 e1 e2 e3 e4 e5 e6 in
/-- the same first weights, -/
theorem v59_eq (h : AllReal (Cert.Reference2Ideal.Post.args y0 y1 y2 y3 y4 y5 y6)) : (show FVec Ideal S2048x1 .f32 from val_main_v59 (F := Ideal) y0 y1 y2 y3 y4 y5 y6) = (dats m 0 c).arrAt 11 cfg0.N := by
  rw [arr_11, given_eq m c y0 y1 y2 y3 y4 y5 y6 e0 e1 e2 e3 e4 e5 e6]
  funext i
  have ei : i = (ix2 (i 0) 0 : S2048x1.Idx) := (eq_ix2 i).trans (congrArg _ (Subsingleton.elim (α := Fin 1) _ _))
  exact (congrArg _ ei).trans (Cert.Reference2Ideal.Post.v59_at y0 y1 y2 y3 y4 y5 y6 h (i 0))

include e0 e1 e2 e3 e4 e5 e6 in
/-- the same second weights, -/
theorem v60_eq (h : AllReal (Cert.Reference2Ideal.Post.args y0 y1 y2 y3 y4 y5 y6)) : (show FVec Ideal S2048x1 .f32 from val_main_v60 (F := Ideal) y0 y1 y2 y3 y4 y5 y6) = (dats m 0 c).arrAt 12 cfg0.N := by
  rw [arr_12, given_eq m c y0 y1 y2 y3 y4 y5 y6 e0 e1 e2 e3 e4 e5 e6]
  funext i
  have ei : i = (ix2 (i 0) 0 : S2048x1.Idx) := (eq_ix2 i).trans (congrArg _ (Subsingleton.elim (α := Fin 1) _ _))
  exact (congrArg _ ei).trans (Cert.Reference2Ideal.Post.v60_at y0 y1 y2 y3 y4 y5 y6 h (i 0))

include e0 e1 e2 e3 e4 e5 e6 in
/-- the same counts -/
theorem v61_eq (h : AllReal (Cert.Reference2Ideal.Post.args y0 y1 y2 y3 y4 y5 y6)) : (show FVec Ideal S1x64 .f32 from val_main_v61 (F := Ideal) y0 y1 y2 y3 y4 y5 y6) = (dats m 0 c).arrAt 14 cfg0.N := by
  rw [arr_14, given_eq m c y0 y1 y2 y3 y4 y5 y6 e0 e1 e2 e3 e4 e5 e6]
  funext i
  have ei : i = (ix2 0 (i 1) : S1x64.Idx) := (eq_ix2 i).trans (congrArg (fun q => ix2 q _) (Subsingleton.elim (α := Fin 1) _ _))
  exact (congrArg _ ei).trans (Cert.Reference2Ideal.Post.v61_at y0 y1 y2 y3 y4 y5 y6 h (i 1))

include e0 e1 e2 e3 e4 e5 e6 in
/-- and the same loss. -/
theorem v62_eq (h : AllReal (Cert.Reference2Ideal.Post.args y0 y1 y2 y3 y4 y5 y6)) : (show FVec Ideal S1x1 .f32 from val_main_v62 (F := Ideal) y0 y1 y2 y3 y4 y5 y6) = (dats m 0 c).arrAt 15 cfg0.N := by
  rw [arr_15, given_eq m c y0 y1 y2 y3 y4 y5 y6 e0 e1 e2 e3 e4 e5 e6]
  funext i
  have ei : i = (ix2 0 0 : S1x1.Idx) := (eq_ix2 i).trans (congrArg₂ ix2 (Subsingleton.elim (α := Fin 1) _ _) (Subsingleton.elim (α := Fin 1) _ _))
  exact (congrArg _ ei).trans (Cert.Reference2Ideal.Post.v62_at y0 y1 y2 y3 y4 y5 y6 h)

end Cert.Match
-- ==== Proof.Qkv.Wide.lean ====
module
public import proofs.«01_k».proof.Proof.Gen.Kernel3Ideal.Value
public import proofs.«01_k».proof.Proof.Post.Rows
public import Idealize.ShloMosaic.Lib.Pointwise

/-!
What the host makes for the call of queries, keys and values: the projection's columns with the turned columns of the
queries and the keys beside them, the shift likewise, and the cosines and sines of every position.
-/

@[expose] public section
set_option maxRecDepth 200000

noncomputable section
namespace Cert.Kernel3Ideal.Qkv
open Idealize.ShloMosaic Idealize.ShloMosaic.TcCoe Cert.Kernel3Ideal Cert.Kernel3Ideal.Gen

variable (m : (ℓ : Loc nD τ sig) → Buf (Elt Ideal) ℓ) (c : Dev nD)

/-- The columns of a matrix exchanged in pairs, the one that comes first negated. -/
def turn (w : FVec Ideal S768x768 .f32) : FVec Ideal S768x768 .f32 :=
  let r : FVec Ideal S768x384x2 .f32 := shapeCast S768x384x2 w shapeCasts_S768x768_S768x384x2
  let p : FVec Ideal S768x384 .f32 := Host.negf (shapeCast S768x384 (extractStridedSlice S768x384x1 ![0, 0, 1] r slices_S768x384x2_S768x384x1_0_0_1) shapeCasts_S768x384x1_S768x384)
  let q : FVec Ideal S768x384 .f32 := shapeCast S768x384 (extractStridedSlice S768x384x1 ![0, 0, 0] r slices_S768x384x2_S768x384x1_0_0_0) shapeCasts_S768x384x1_S768x384
  shapeCast S768x768 (concatenate S768x384x2 2 [⟨S768x384x1, broadcastInDim S768x384x1 ![0, 1] bcast_S768x384_S768x384x1_0_1 p⟩,
    ⟨S768x384x1, broadcastInDim S768x384x1 ![0, 1] bcast_S768x384_S768x384x1_0_1 q⟩] concatenates_S768x384x1_S768x384x1_S768x384x2_d2) shapeCasts_S768x384x2_S768x768

/-- The matrix with the turned columns of the queries and of the keys beside it. -/
def wide (w : FVec Ideal S768x2304 .f32) : FVec Ideal S768x3840 .f32 :=
  concatenate S768x3840 1 [⟨S768x2304, w⟩, ⟨S768x768, turn (extractStridedSlice S768x768 ![0, 0] w slices_S768x2304_S768x768_0_0)⟩,
    ⟨S768x768, turn (extractStridedSlice S768x768 ![0, 768] w slices_S768x2304_S768x768_0_768)⟩] concatenates_S768x2304_S768x768_S768x768_S768x3840_d1

/-- The entries of a row exchanged in pairs, the one that comes first negated. -/
def turn1 (w : FVec Ideal S768 .f32) : FVec Ideal S768 .f32 :=
  let r : FVec Ideal S384x2 .f32 := shapeCast S384x2 w shapeCasts_S768_S384x2
  let p : FVec Ideal S384 .f32 := Host.negf (shapeCast S384 (extractStridedSlice S384x1 ![0, 1] r slices_S384x2_S384x1_0_1) shapeCasts_S384x1_S384)
  let q : FVec Ideal S384 .f32 := shapeCast S384 (extractStridedSlice S384x1 ![0, 0] r slices_S384x2_S384x1_0_0) shapeCasts_S384x1_S384
  shapeCast S768 (concatenate S384x2 1 [⟨S384x1, broadcastInDim S384x1 ![0] bcast_S384_S384x1_0 p⟩,
    ⟨S384x1, broadcastInDim S384x1 ![0] bcast_S384_S384x1_0 q⟩] concatenates_S384x1_S384x1_S384x2_d1) shapeCasts_S384x2_S768

/-- The shift with its turned entries beside it. -/
def wide1 (b : FVec Ideal S2304 .f32) : FVec Ideal S3840 .f32 :=
  concatenate S3840 0 [⟨S2304, b⟩, ⟨S768, turn1 (extractStridedSlice S768 ![0] b slices_S2304_S768_0)⟩,
    ⟨S768, turn1 (extractStridedSlice S768 ![768] b slices_S2304_S768_768)⟩] concatenates_S2304_S768_S768_S3840_d0

/-- The call finds the wide matrix -/
theorem V_wide : V m c main_v53 = truncf .bf16 (wide (m ((c : Thread nD τ).loc main_arg2))) bitsLt_bf16_f32 := by
  rfl
/-- and the wide shift. -/
theorem V_wide1 : V m c main_v78 = shapeCast S1x3840 (wide1 (m ((c : Thread nD τ).loc main_arg3))) shapeCasts_S3840_S1x3840 := by
  rfl

/-- A turned matrix at an even column, -/
theorem turn_even (w : FVec Ideal S768x768 .f32) (k : Fin 768) (i : Fin 384) :
    turn w (ix2 k ⟨i.val * 2, by omega⟩) = - w (ix2 k ⟨i.val * 2 + 1, by omega⟩) := by
  pointwise [turn]
  rw [dif_pos (by omega)]
/-- and at an odd one. -/
theorem turn_odd (w : FVec Ideal S768x768 .f32) (k : Fin 768) (i : Fin 384) :
    turn w (ix2 k ⟨i.val * 2 + 1, by omega⟩) = w (ix2 k ⟨i.val * 2, by omega⟩) := by
  pointwise [turn]
  rw [dif_neg (by omega)]
/-- A turned row at an even place, -/
theorem turn1_even (w : FVec Ideal S768 .f32) (i : Fin 384) :
    turn1 w (Idealize.ShloMosaic.ix1 ⟨i.val * 2, by omega⟩) = - w (Idealize.ShloMosaic.ix1 ⟨i.val * 2 + 1, by omega⟩) := by
  pointwise [turn1]
  rw [dif_pos (by omega)]
/-- and at an odd one. -/
theorem turn1_odd (w : FVec Ideal S768 .f32) (i : Fin 384) :
    turn1 w (Idealize.ShloMosaic.ix1 ⟨i.val * 2 + 1, by omega⟩) = w (Idealize.ShloMosaic.ix1 ⟨i.val * 2, by omega⟩) := by
  pointwise [turn1]
  rw [dif_neg (by omega)]

/-- The wide matrix keeps the columns of the projection. -/
theorem wide_low (w : FVec Ideal S768x2304 .f32) (k : Fin 768) (j : Fin 2304) : wide w (ix2 k ⟨j.val, by omega⟩) = w (ix2 k j) := by
  pointwise [wide]
/-- Beside them, the turned columns of the queries, -/
theorem wide_q (w : FVec Ideal S768x2304 .f32) (k : Fin 768) (j : Fin 768) : wide w (ix2 k ⟨j.val + 2304, by omega⟩) =
    turn (extractStridedSlice S768x768 ![0, 0] w slices_S768x2304_S768x768_0_0) (ix2 k j) := by
  pointwise [wide]
  rw [dif_neg (by omega), dif_pos (by omega)]
  exact congrArg (turn _) (congrArg (ix2 k) (Fin.ext (by simp; try omega)))
/-- so at an even column, -/
theorem wide_q_even (w : FVec Ideal S768x2304 .f32) (k : Fin 768) (i : Fin 384) :
    wide w (ix2 k ⟨i.val * 2 + 2304, by omega⟩) = - w (ix2 k ⟨i.val * 2 + 1 + 0, by omega⟩) := by
  refine (wide_q w k ⟨i.val * 2, by omega⟩).trans ((turn_even _ k i).trans ?_)
  pointwise
/-- and at an odd one. -/
theorem wide_q_odd (w : FVec Ideal S768x2304 .f32) (k : Fin 768) (i : Fin 384) :
    wide w (ix2 k ⟨i.val * 2 + 1 + 2304, by omega⟩) = w (ix2 k ⟨i.val * 2 + 0, by omega⟩) := by
  refine (wide_q w k ⟨i.val * 2 + 1, by omega⟩).trans ((turn_odd _ k i).trans ?_)
  pointwise
/-- Beside them, the turned columns of the keys, -/
theorem wide_k (w : FVec Ideal S768x2304 .f32) (k : Fin 768) (j : Fin 768) : wide w (ix2 k ⟨j.val + 3072, by omega⟩) =
    turn (extractStridedSlice S768x768 ![0, 768] w slices_S768x2304_S768x768_0_768) (ix2 k j) := by
  pointwise [wide]
  rw [dif_neg (by omega), dif_neg (by omega)]
  exact congrArg (turn _) (congrArg (ix2 k) (Fin.ext (by simp; try omega)))
/-- so at an even column, -/
theorem wide_k_even (w : FVec Ideal S768x2304 .f32) (k : Fin 768) (i : Fin 384) :
    wide w (ix2 k ⟨i.val * 2 + 3072, by omega⟩) = - w (ix2 k ⟨i.val * 2 + 1 + 768, by omega⟩) := by
  refine (wide_k w k ⟨i.val * 2, by omega⟩).trans ((turn_even _ k i).trans ?_)
  pointwise
  refine congrArg (fun x : EReal => -x) (congrArg w (congrArg (ix2 k) (Fin.ext (Nat.add_comm 768 _))))
/-- and at an odd one. -/
theorem wide_k_odd (w : FVec Ideal S768x2304 .f32) (k : Fin 768) (i : Fin 384) :
    wide w (ix2 k ⟨i.val * 2 + 1 + 3072, by omega⟩) = w (ix2 k ⟨i.val * 2 + 768, by omega⟩) := by
  refine (wide_k w k ⟨i.val * 2 + 1, by omega⟩).trans ((turn_odd _ k i).trans ?_)
  pointwise
  refine congrArg w (congrArg (ix2 k) (Fin.ext (Nat.add_comm 768 _)))
/-- The wide shift keeps the shift. -/
theorem wide1_low (w : FVec Ideal S2304 .f32) (j : Fin 2304) : wide1 w (Idealize.ShloMosaic.ix1 ⟨j.val, by omega⟩) = w (Idealize.ShloMosaic.ix1 j) := by
  pointwise [wide1]
/-- Beside it, the turned shift of the queries, -/
theorem wide1_q (w : FVec Ideal S2304 .f32) (j : Fin 768) : wide1 w (Idealize.ShloMosaic.ix1 ⟨j.val + 2304, by omega⟩) =
    turn1 (extractStridedSlice S768 ![0] w slices_S2304_S768_0) (Idealize.ShloMosaic.ix1 j) := by
  pointwise [wide1]
  rw [dif_neg (by omega), dif_pos (by omega)]
  exact congrArg (turn1 _) (congrArg Idealize.ShloMosaic.ix1 (Fin.ext (by simp; try omega)))
/-- so at an even place, -/
theorem wide1_q_even (w : FVec Ideal S2304 .f32) (i : Fin 384) :
    wide1 w (Idealize.ShloMosaic.ix1 ⟨i.val * 2 + 2304, by omega⟩) = - w (Idealize.ShloMosaic.ix1 ⟨i.val * 2 + 1 + 0, by omega⟩) := by
  refine (wide1_q w ⟨i.val * 2, by omega⟩).trans ((turn1_even _ i).trans ?_)
  pointwise
/-- and at an odd one. -/
theorem wide1_q_odd (w : FVec Ideal S2304 .f32) (i : Fin 384) :
    wide1 w (Idealize.ShloMosaic.ix1 ⟨i.val * 2 + 1 + 2304, by omega⟩) = w (Idealize.ShloMosaic.ix1 ⟨i.val * 2 + 0, by omega⟩) := by
  refine (wide1_q w ⟨i.val * 2 + 1, by omega⟩).trans ((turn1_odd _ i).trans ?_)
  pointwise
/-- Beside it, the turned shift of the keys, -/
theorem wide1_k (w : FVec Ideal S2304 .f32) (j : Fin 768) : wide1 w (Idealize.ShloMosaic.ix1 ⟨j.val + 3072, by omega⟩) =
    turn1 (extractStridedSlice S768 ![768] w slices_S2304_S768_768) (Idealize.ShloMosaic.ix1 j) := by
  pointwise [wide1]
  rw [dif_neg (by omega), dif_neg (by omega)]
  exact congrArg (turn1 _) (congrArg Idealize.ShloMosaic.ix1 (Fin.ext (by simp; try omega)))
/-- so at an even place, -/
theorem wide1_k_even (w : FVec Ideal S2304 .f32) (i : Fin 384) :
    wide1 w (Idealize.ShloMosaic.ix1 ⟨i.val * 2 + 3072, by omega⟩) = - w (Idealize.ShloMosaic.ix1 ⟨i.val * 2 + 1 + 768, by omega⟩) := by
  refine (wide1_k w ⟨i.val * 2, by omega⟩).trans ((turn1_even _ i).trans ?_)
  pointwise
  refine congrArg (fun x : EReal => -x) (congrArg w (congrArg Idealize.ShloMosaic.ix1 (Fin.ext (Nat.add_comm 768 _))))
/-- and at an odd one. -/
theorem wide1_k_odd (w : FVec Ideal S2304 .f32) (i : Fin 384) :
    wide1 w (Idealize.ShloMosaic.ix1 ⟨i.val * 2 + 1 + 3072, by omega⟩) = w (Idealize.ShloMosaic.ix1 ⟨i.val * 2 + 768, by omega⟩) := by
  refine (wide1_k w ⟨i.val * 2 + 1, by omega⟩).trans ((turn1_odd _ i).trans ?_)
  pointwise
  refine congrArg w (congrArg Idealize.ShloMosaic.ix1 (Fin.ext (Nat.add_comm 768 _)))

/-- The phase of a position in a pair of coordinates. -/
def phase (t : Fin 2048) (i : Fin 32) : EReal :=
  FloatOps.sitofp (F := Ideal) FTy.f32 (BitVec.ofNat 32 t.val) *
        Ideal.div 1
          (Ideal.pow (Ideal.ofBits FTy.f32 1176256512#32)
            (Ideal.div (FloatOps.sitofp (F := Ideal) FTy.f32 (IntOp.addi (0#32) (IntOp.muli (2#32) (BitVec.ofNat 32 i.val))))
              (Ideal.ofBits FTy.f32 1115684864#32)))

/-- The cosines the call finds, -/
theorem V_cos (t : Fin 2048) (j : Fin 768) : (show FVec Ideal S2048x768 .f32 from V m c main_v26) (ix2 t j) = Ideal.cos (phase t ⟨j.val % 64 / 2, by omega⟩) := by
  unfold V
  entry_read
  pointwise
  rfl
/-- and the sines. -/
theorem V_sin (t : Fin 2048) (j : Fin 768) : (show FVec Ideal S2048x768 .f32 from V m c main_v29) (ix2 t j) = Ideal.sin (phase t ⟨j.val % 64 / 2, by omega⟩) := by
  unfold V
  entry_read
  pointwise
  rfl
/-- The norm's scale as the call finds it. -/
theorem V_scale (j : Fin 768) : (show FVec Ideal S1x768 .f32 from V m c main_v77) (ix2 0 j) = (show FVec Ideal S768 .f32 from m ((c : Thread nD τ).loc main_arg1)) (Idealize.ShloMosaic.ix1 j) := by
  have e : V m c main_v77 = shapeCast S1x768 (m ((c : Thread nD τ).loc main_arg1)) shapeCasts_S768_S1x768 := by rfl
  rw [e]
  pointwise

end Cert.Kernel3Ideal.Qkv
-- ==== Proof.Qkv.Arrays.lean ====
module
public import proofs.«01_k».proof.Proof.Qkv.Wide
public import Idealize.ShloMosaic.Lib.Pipeline.ValueKit

/-!
What the call of queries, keys and values leaves in its three result arrays, from the arguments.
-/

@[expose] public section
set_option maxRecDepth 16384

noncomputable section
namespace Cert.Kernel3Ideal.Qkv
open Idealize.ShloMosaic Idealize.ShloMosaic.TcCoe Cert.Kernel3Ideal Cert.Kernel3Ideal.Gen
open Idealize.ShloMosaic.Pipeline (Dat)

variable (m : (ℓ : Loc nD τ sig) → Buf (Elt Ideal) ℓ) (c : Dev nD)

/-- The wide projection of one row of a block. -/
theorem pay7_at (P0 : Vec Ideal S512x768 .f32) (P1 : Vec Ideal S1x768 .f32) (P2 : Vec Ideal S768x3840 .bf16) (P3 : Vec Ideal S1x3840 .f32)
    (r : Fin 512) (j : Fin 3840) : k0_pay7 P0 P1 P2 P3 (ix2 r j) =
      (∑ k, Cert.Rows.rmsNorm (fun k => P0 (ix2 r k)) (fun k => P1 (ix2 0 k)) k * P2 (ix2 k j)) + P3 (ix2 0 j) := by
  pointwise [k0_pay7]
  rfl

/-- The wide projection of a token, from the arrays. -/
def col (X : FVec Ideal S2048x768 .f32) (W : FVec Ideal S768 .f32) (M : FVec Ideal S768x2304 .f32) (B : FVec Ideal S2304 .f32)
    (t : Fin 2048) (j : Fin 3840) : EReal :=
  (∑ k, Cert.Rows.rmsNorm (fun k => X (ix2 t k)) (fun k => W (Idealize.ShloMosaic.ix1 k)) k * wide M (ix2 k j)) + wide1 B (Idealize.ShloMosaic.ix1 j)

/-- Where the queries' and keys' pieces read. -/
theorem ix6 (h : Fin 12) (r : Fin 512) (d : Fin 64) :
    Value.ix6_0 (ix3 h r d) = ix2 r ⟨h.val * 64 + d.val, by omega⟩ ∧ Value.ix6_1 (ix3 h r d) = ix2 r ⟨h.val * 64 + d.val, by omega⟩
    ∧ Value.ix6_2 (ix3 h r d) = ix2 r ⟨h.val * 64 + d.val + 2304, by omega⟩ ∧ Value.ix6_3 (ix3 h r d) = ix2 r ⟨h.val * 64 + d.val, by omega⟩
    ∧ Value.ix7_0 (ix3 h r d) = ix2 r ⟨h.val * 64 + d.val + 768, by omega⟩ ∧ Value.ix7_1 (ix3 h r d) = ix2 r ⟨h.val * 64 + d.val, by omega⟩
    ∧ Value.ix7_2 (ix3 h r d) = ix2 r ⟨h.val * 64 + d.val + 3072, by omega⟩ ∧ Value.ix7_3 (ix3 h r d) = ix2 r ⟨h.val * 64 + d.val, by omega⟩
    ∧ Value.ix8_0 (ix3 h r d) = ix2 r ⟨h.val * 64 + d.val + 1536, by omega⟩ := by
  refine ⟨?_, ?_, ?_, ?_, ?_, ?_, ?_, ?_, ?_⟩ <;> (funext a; match a with | ⟨0, _⟩ => rfl | ⟨1, _⟩ => rfl)

/-- The windows of the arguments, -/
theorem idx_in : ∀ t : Fin cfg0.N, (cfg0.win 0).index t = ![t.val, 0] ∧ (cfg0.win 1).index t = ![0, 0] ∧ (cfg0.win 2).index t = ![0, 0]
    ∧ (cfg0.win 3).index t = ![0, 0] ∧ (cfg0.win 4).index t = ![t.val, 0] ∧ (cfg0.win 5).index t = ![t.val, 0] :=
  (by decide +kernel : ∀ t : Fin grid0.N, _)

/-- and of the results. -/
theorem idx_out : ∀ t : Fin cfg0.N, (cfg0.win 6).index t = ![0, t.val, 0] ∧ (cfg0.win 7).index t = ![0, t.val, 0] ∧ (cfg0.win 8).index t = ![0, t.val, 0] :=
  (by decide +kernel : ∀ t : Fin grid0.N, _)

/-- A row of a block is a row of the array. -/
theorem lt0 (t : Fin cfg0.N) (r : Fin 512) : t.val * 512 + r.val < 2048 := by
  have := t.isLt; have : cfg0.N = 4 := N_0; omega

/-- The tokens' block, -/
theorem blk_0 (t : Fin cfg0.N) (r : Fin 512) (j : Fin 768) : iblk m c 0 t (ix2 r j) = V m c main_arg0 (ix2 ⟨_, lt0 t r⟩ j) := by
  blk_ext [iblk, idx_in t]
/-- the scale's, -/
theorem blk_1 (t : Fin cfg0.N) (j : Fin 768) : iblk m c 1 t (ix2 0 j) = V m c main_v77 (ix2 0 j) := by
  blk_ext [iblk, idx_in t]
/-- the wide matrix's, -/
theorem blk_2 (t : Fin cfg0.N) (k : Fin 768) (j : Fin 3840) : iblk m c 2 t (ix2 k j) = V m c main_v53 (ix2 k j) := by
  blk_ext [iblk, idx_in t]
/-- the wide shift's, -/
theorem blk_3 (t : Fin cfg0.N) (j : Fin 3840) : iblk m c 3 t (ix2 0 j) = V m c main_v78 (ix2 0 j) := by
  blk_ext [iblk, idx_in t]
/-- the cosines' -/
theorem blk_4 (t : Fin cfg0.N) (r : Fin 512) (j : Fin 768) : iblk m c 4 t (ix2 r j) = V m c main_v26 (ix2 ⟨_, lt0 t r⟩ j) := by
  blk_ext [iblk, idx_in t]
/-- and the sines'. -/
theorem blk_5 (t : Fin cfg0.N) (r : Fin 512) (j : Fin 768) : iblk m c 5 t (ix2 r j) = V m c main_v29 (ix2 ⟨_, lt0 t r⟩ j) := by
  blk_ext [iblk, idx_in t]

/-- The wide shift as the call finds it, at an entry. -/
theorem V_wide1_at (j : Fin 3840) : V m c main_v78 (ix2 0 j) = wide1 (m ((c : Thread nD τ).loc main_arg3)) (Idealize.ShloMosaic.ix1 j) := by
  rw [V_wide1]
  pointwise

/-- The wide projection of a block's row is that of the token. -/
theorem col_at (t : Fin cfg0.N) (r : Fin 512) (j : Fin 3840) :
    k0_pay7 (iblk m c 0 t) (iblk m c 1 t) (iblk m c 2 t) (iblk m c 3 t) (ix2 r j)
      = col (m ((c : Thread nD τ).loc main_arg0)) (m ((c : Thread nD τ).loc main_arg1)) (m ((c : Thread nD τ).loc main_arg2))
          (m ((c : Thread nD τ).loc main_arg3)) ⟨_, lt0 t r⟩ j := by
  refine (pay7_at _ _ _ _ r j).trans ?_
  have e0 : (fun k => iblk m c 0 t (ix2 r k)) = (fun k => (m ((c : Thread nD τ).loc main_arg0)) (ix2 ⟨_, lt0 t r⟩ k)) := funext fun k => (blk_0 m c t r k).trans (congrFun (V_main_arg0 m c) _)
  have e1 : (fun k => iblk m c 1 t (ix2 0 k)) = (fun k => (m ((c : Thread nD τ).loc main_arg1)) (Idealize.ShloMosaic.ix1 k)) := funext fun k => (blk_1 m c t k).trans (V_scale m c k)
  have e2 : ∀ k, iblk m c 2 t (ix2 k j) = wide (m ((c : Thread nD τ).loc main_arg2)) (ix2 k j) := fun k => (blk_2 m c t k j).trans (congrFun (V_wide m c) _)
  have e3 := (blk_3 m c t j).trans (V_wide1_at m c j)
  unfold col
  refine congrArg₂ (fun x y : EReal => x + y) (Finset.sum_congr rfl fun k _ => congrArg₂ (fun x y : EReal => x * y) ?_ (e2 k)) e3
  exact congrArg₂ (fun x y => Cert.Rows.rmsNorm x y k) e0 e1

/-- Queries and keys as one array: a column with its turned column, through the cosine and the sine of the position. -/
def roped (o o' : ℕ) (ho : o + 768 ≤ 3840) (ho' : o' + 768 ≤ 3840) (X : FVec Ideal S2048x768 .f32) (W : FVec Ideal S768 .f32) (M : FVec Ideal S768x2304 .f32)
    (B : FVec Ideal S2304 .f32) : FVec Ideal S12x2048x64 .bf16 := fun i =>
  let h : Fin 12 := i 0
  let t : Fin 2048 := i 1
  let d : Fin 64 := i 2
  (col X W M B t ⟨h.val * 64 + d.val + o, by omega⟩ * Ideal.cos (phase t ⟨d.val / 2, by omega⟩)
    + col X W M B t ⟨h.val * 64 + d.val + o', by omega⟩ * Ideal.sin (phase t ⟨d.val / 2, by omega⟩) : EReal)

/-- Values as one array. -/
def plain (X : FVec Ideal S2048x768 .f32) (W : FVec Ideal S768 .f32) (M : FVec Ideal S768x2304 .f32)
    (B : FVec Ideal S2304 .f32) : FVec Ideal S12x2048x64 .bf16 := fun i =>
  let h : Fin 12 := i 0
  let t : Fin 2048 := i 1
  let d : Fin 64 := i 2
  (col X W M B t ⟨h.val * 64 + d.val + 1536, by omega⟩ : EReal)

/-- The cosine of a block's row, -/
theorem cos_at (t : Fin cfg0.N) (h : Fin 12) (r : Fin 512) (d : Fin 64) :
    iblk m c 4 t (ix2 r ⟨h.val * 64 + d.val, by omega⟩) = Ideal.cos (phase ⟨_, lt0 t r⟩ ⟨d.val / 2, by omega⟩) :=
  (blk_4 m c t r _).trans ((V_cos m c _ _).trans (congrArg (fun e => Ideal.cos (phase _ e)) (Fin.ext (by show (h.val * 64 + d.val) % 64 / 2 = d.val / 2; omega))))
/-- and the sine. -/
theorem sin_at (t : Fin cfg0.N) (h : Fin 12) (r : Fin 512) (d : Fin 64) :
    iblk m c 5 t (ix2 r ⟨h.val * 64 + d.val, by omega⟩) = Ideal.sin (phase ⟨_, lt0 t r⟩ ⟨d.val / 2, by omega⟩) :=
  (blk_5 m c t r _).trans ((V_sin m c _ _).trans (congrArg (fun e => Ideal.sin (phase _ e)) (Fin.ext (by show (h.val * 64 + d.val) % 64 / 2 = d.val / 2; omega))))

/-- Offsets at zero. -/
theorem off_zero : (![0, 0] : Fin 2 → ℕ) = fun _ => 0 := by
  funext a; fin_cases a <;> rfl

/-- A load of a whole block is the block. -/
theorem ld_whole : (∀ x : Vec Ideal S512x768 .f32, View.ld x r0_0 = x) ∧ (∀ x : Vec Ideal S1x768 .f32, View.ld x r0_1 = x)
    ∧ (∀ x : Vec Ideal S768x3840 .bf16, View.ld x r0_2 = x) ∧ (∀ x : Vec Ideal S1x3840 .f32, View.ld x r0_3 = x) :=
  ⟨fun x => View.ld_unit_zero off_zero _ x, fun x => View.ld_unit_zero off_zero _ x, fun x => View.ld_unit_zero off_zero _ x,
    fun x => View.ld_unit_zero off_zero _ x⟩

/-- The queries' array. -/
theorem arr_6 : (dats m 0 c).arrAt 6 cfg0.N = roped 0 2304 (by omega) (by omega) (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t _ y => ?_
  have hy : ((cfg0.win 6).blk t).view.emb y = (ix3 (y 0) ⟨_, lt0 t (y 1)⟩ (y 2) : S12x2048x64.Idx) := by
    blk_ext [idx_out t]
  rw [hy]
  blk_simp
  rw [after0_6]
  have ey : y = (ix3 (y 0) (y 1) (y 2) : S12x512x64.Idx) := eq_ix3 _
  refine (congrArg _ ey).trans ?_
  unfold out0_6 k0_pay48 k0_pay13
  rw [ld_whole.1, ld_whole.2.1, ld_whole.2.2.1, ld_whole.2.2.2, ld_whole.1, ld_whole.1]
  refine (Value.canon6_eq _ _ _ _ _ _ _).trans ?_
  obtain ⟨i0, i1, i2, i3, -⟩ := ix6 (y 0) (y 1) (y 2)
  refine congrArg₂ (fun x y : EReal => x + y) (congrArg₂ (fun x y : EReal => x * y) ((congrArg _ i0).trans (col_at m c t _ _)) ((congrArg _ i1).trans (cos_at m c t _ _ _)))
    (congrArg₂ (fun x y : EReal => x * y) ((congrArg _ i2).trans (col_at m c t _ _)) ((congrArg _ i3).trans (sin_at m c t _ _ _)))

/-- The keys' array. -/
theorem arr_7 : (dats m 0 c).arrAt 7 cfg0.N = roped 768 3072 (by omega) (by omega) (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t _ y => ?_
  have hy : ((cfg0.win 7).blk t).view.emb y = (ix3 (y 0) ⟨_, lt0 t (y 1)⟩ (y 2) : S12x2048x64.Idx) := by
    blk_ext [idx_out t]
  rw [hy]
  blk_simp
  rw [after0_7]
  have ey : y = (ix3 (y 0) (y 1) (y 2) : S12x512x64.Idx) := eq_ix3 _
  refine (congrArg _ ey).trans ?_
  unfold out0_7 k0_pay49
  rw [ld_whole.1, ld_whole.2.1, ld_whole.2.2.1, ld_whole.2.2.2, ld_whole.1, ld_whole.1]
  refine (Value.canon7_eq _ _ _ _ _ _ _).trans ?_
  obtain ⟨-, -, -, -, i0, i1, i2, i3, -⟩ := ix6 (y 0) (y 1) (y 2)
  refine congrArg₂ (fun x y : EReal => x + y) (congrArg₂ (fun x y : EReal => x * y) ((congrArg _ i0).trans (col_at m c t _ _)) ((congrArg _ i1).trans (cos_at m c t _ _ _)))
    (congrArg₂ (fun x y : EReal => x * y) ((congrArg _ i2).trans (col_at m c t _ _)) ((congrArg _ i3).trans (sin_at m c t _ _ _)))

/-- The values' array. -/
theorem arr_8 : (dats m 0 c).arrAt 8 cfg0.N = plain (m ((c : Thread nD τ).loc main_arg0)) (m ((c : Thread nD τ).loc main_arg1))
    (m ((c : Thread nD τ).loc main_arg2)) (m ((c : Thread nD τ).loc main_arg3)) := by
  refine (dats m 0 c).arrAt_eq_of_covers 8 _ (by decide +kernel) fun t _ y => ?_
  have hy : ((cfg0.win 8).blk t).view.emb y = (ix3 (y 0) ⟨_, lt0 t (y 1)⟩ (y 2) : S12x2048x64.Idx) := by
    blk_ext [idx_out t]
  rw [hy]
  blk_simp
  rw [after0_8]
  have ey : y = (ix3 (y 0) (y 1) (y 2) : S12x512x64.Idx) := eq_ix3 _
  refine (congrArg _ ey).trans ?_
  unfold out0_8 k0_pay50
  rw [ld_whole.1, ld_whole.2.1, ld_whole.2.2.1, ld_whole.2.2.2]
  refine (Value.canon8_eq _ _ _ _ _).trans ?_
  obtain ⟨-, -, -, -, -, -, -, -, i0⟩ := ix6 (y 0) (y 1) (y 2)
  exact (congrArg _ i0).trans (col_at m c t _ _)

end Cert.Kernel3Ideal.Qkv
-- ==== Proof.Qkv.Refer.lean ====
module
public import proofs.«01_k».proof.Proof.Gen.Reference3Ideal.Read
public import proofs.«01_k».proof.Proof.Post.Rows
public import Idealize.ShloMosaic.Lib.Pointwise

/-!
What the reference for queries, keys and values computes, entry by entry.
-/

@[expose] public section
set_option maxRecDepth 16384

noncomputable section
namespace Cert.Reference3Ideal.Qkv
open Idealize.ShloMosaic Cert.Reference3Ideal Cert.Reference3Ideal.Read

variable (x0 : FVec Ideal S2048x768 .f32) (x1 : FVec Ideal S768 .f32) (x2 : FVec Ideal S768x2304 .f32) (x3 : FVec Ideal S2304 .f32)

/-- The projection of a token. -/
def proj (t : Fin 2048) (j : Fin 2304) : EReal :=
  (∑ k, Cert.Rows.rmsNorm (fun k => x0 (ix2 t k)) (fun k => x1 (Idealize.ShloMosaic.ix1 k)) k * x2 (ix2 k j)) + x3 (Idealize.ShloMosaic.ix1 j)

/-- The phase of a position in a pair of coordinates. -/
def phase (t : Fin 2048) (i : Fin 32) : EReal :=
  FloatOps.sitofp (F := Ideal) FTy.f32 (BitVec.ofNat 32 t.val) *
        Ideal.div 1
          (Ideal.pow (Ideal.ofBits FTy.f32 1176256512#32)
            (Ideal.div (FloatOps.sitofp (F := Ideal) FTy.f32 (IntOp.addi (0#32) (IntOp.muli (2#32) (BitVec.ofNat 32 i.val))))
              (Ideal.ofBits FTy.f32 1115684864#32)))

/-- The projection as the reference computes it. -/
theorem v38 (t : Fin 2048) (j : Fin 2304) : (show FVec Ideal S2048x2304 .f32 from val_main_v38 (F := Ideal) x0 x1 x2 x3) (ix2 t j) = proj x0 x1 x2 x3 t j := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst_3, val_main_cst_4, val_main_cst_5]
  rfl

/-- The phases as the reference computes them. -/
theorem v17 (t : Fin 2048) (i : Fin 32) : (show FVec Ideal S2048x32 .f32 from val_main_v17 (F := Ideal)) (ix2 t i) = phase t i := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_cst, val_main_cst_1, val_main_cst_2]
  rfl

/-- The values. -/
theorem v86 (h : Fin 12) (t : Fin 2048) (d : Fin 64) : (show FVec Ideal S12x2048x64 .bf16 from val_main_v86 (F := Ideal) x0 x1 x2 x3) (ix3 h t d)
    = proj x0 x1 x2 x3 t ⟨h.val * 64 + d.val + 1536, by omega⟩ := by
  refine Eq.trans ?_ (v38 x0 x1 x2 x3 t _)
  pointwise [val_main_v86, val_main_v85, val_main_v84, val_main_v41]
  exact congrArg (fun j => val_main_v38 (F := Ideal) x0 x1 x2 x3 (ix2 t j)) (Fin.ext (Nat.add_comm 1536 (h.val * 64 + d.val)))

/-- A query at an even coordinate. -/
theorem v62_even (h : Fin 12) (t : Fin 2048) (i : Fin 32) : (show FVec Ideal S12x2048x64 .bf16 from val_main_v62 (F := Ideal) x0 x1 x2 x3) (ix3 h t ⟨i.val * 2, by omega⟩)
    = proj x0 x1 x2 x3 t ⟨h.val * 64 + i.val * 2 + 0, by omega⟩ * Ideal.cos (phase t i)
      - proj x0 x1 x2 x3 t ⟨h.val * 64 + i.val * 2 + 1 + 0, by omega⟩ * Ideal.sin (phase t i) := by
  rw [← v38, ← v38, ← v17]
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v39, val_main_v21, val_main_v20, val_main_v19, val_main_v18]
  rw [dif_pos (by omega)]

/-- A query at an odd coordinate. -/
theorem v62_odd (h : Fin 12) (t : Fin 2048) (i : Fin 32) : (show FVec Ideal S12x2048x64 .bf16 from val_main_v62 (F := Ideal) x0 x1 x2 x3) (ix3 h t ⟨i.val * 2 + 1, by omega⟩)
    = proj x0 x1 x2 x3 t ⟨h.val * 64 + i.val * 2 + 0, by omega⟩ * Ideal.sin (phase t i)
      + proj x0 x1 x2 x3 t ⟨h.val * 64 + i.val * 2 + 1 + 0, by omega⟩ * Ideal.cos (phase t i) := by
  rw [← v38, ← v38, ← v17]
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v39, val_main_v21, val_main_v20, val_main_v19, val_main_v18]
  rw [dif_neg (by omega)]

/-- A key at an even coordinate. -/
theorem v83_even (h : Fin 12) (t : Fin 2048) (i : Fin 32) : (show FVec Ideal S12x2048x64 .bf16 from val_main_v83 (F := Ideal) x0 x1 x2 x3) (ix3 h t ⟨i.val * 2, by omega⟩)
    = proj x0 x1 x2 x3 t ⟨h.val * 64 + i.val * 2 + 768, by omega⟩ * Ideal.cos (phase t i)
      - proj x0 x1 x2 x3 t ⟨h.val * 64 + i.val * 2 + 1 + 768, by omega⟩ * Ideal.sin (phase t i) := by
  rw [← v38, ← v38, ← v17]
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v40, val_main_v21, val_main_v20, val_main_v19, val_main_v18]
  rw [dif_pos (by omega)]
  have e (a : ℕ) (h1 : 768 + a < 2304) (h2 : a + 768 < 2304) : val_main_v38 (F := Ideal) x0 x1 x2 x3 (ix2 t ⟨768 + a, h1⟩) = val_main_v38 (F := Ideal) x0 x1 x2 x3 (ix2 t ⟨a + 768, h2⟩) :=
    congrArg (fun j => val_main_v38 (F := Ideal) x0 x1 x2 x3 (ix2 t j)) (Fin.ext (Nat.add_comm 768 a))
  exact congrArg₂ (fun x y : EReal => x - y) (congrArg (fun x : EReal => x * _) (e _ _ _)) (congrArg (fun x : EReal => x * _) (e _ _ _))

/-- A key at an odd coordinate. -/
theorem v83_odd (h : Fin 12) (t : Fin 2048) (i : Fin 32) : (show FVec Ideal S12x2048x64 .bf16 from val_main_v83 (F := Ideal) x0 x1 x2 x3) (ix3 h t ⟨i.val * 2 + 1, by omega⟩)
    = proj x0 x1 x2 x3 t ⟨h.val * 64 + i.val * 2 + 768, by omega⟩ * Ideal.sin (phase t i)
      + proj x0 x1 x2 x3 t ⟨h.val * 64 + i.val * 2 + 1 + 768, by omega⟩ * Ideal.cos (phase t i) := by
  rw [← v38, ← v38, ← v17]
  pointwise [val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v40, val_main_v21, val_main_v20, val_main_v19, val_main_v18]
  rw [dif_neg (by omega)]
  have e (a : ℕ) (h1 : 768 + a < 2304) (h2 : a + 768 < 2304) : val_main_v38 (F := Ideal) x0 x1 x2 x3 (ix2 t ⟨768 + a, h1⟩) = val_main_v38 (F := Ideal) x0 x1 x2 x3 (ix2 t ⟨a + 768, h2⟩) :=
    congrArg (fun j => val_main_v38 (F := Ideal) x0 x1 x2 x3 (ix2 t j)) (Fin.ext (Nat.add_comm 768 a))
  exact congrArg₂ (fun x y : EReal => x + y) (congrArg (fun x : EReal => x * _) (e _ _ _)) (congrArg (fun x : EReal => x * _) (e _ _ _))

end Cert.Reference3Ideal.Qkv
-- ==== Proof.Qkv.Match.lean ====
module
public import proofs.«01_k».proof.Proof.Qkv.Arrays
public import proofs.«01_k».proof.Proof.Qkv.Refer
public import proofs.«01_k».proof.Proof.Gen.Pre_finite3
public import proofs.«01_k».proof.Proof.Post.Finite

/-!
The call's queries, keys and values are the reference's. With finite arguments a column projected with its sign changed is
the projection with its sign changed, so a turned column stands for the other coordinate of its pair.
-/

@[expose] public section
set_option maxRecDepth 16384

noncomputable section
namespace Cert.Finite3
open Idealize.ShloMosaic Cert.Pre_finite3 Cert.Rows

variable (y0 : FVec Ideal S2048x768 .f32) (y1 : FVec Ideal S768 .f32) (y2 : FVec Ideal S768x2304 .f32) (y3 : FVec Ideal S2304 .f32)

/-- The tokens are real, -/
theorem tokens (hp : (fn y0 y1 y2 y3).1 = fun _ => 1#1) (t : Fin 2048) (j : Fin 768) : Real' (y0 (ix2 t j)) := by
  have hp := congrFun hp (ix2 t j)
  pointwise [fn] at hp
  exact Cert.Finite.real_of_abs _ hp
/-- the scale is, -/
theorem scale (hp : (fn y0 y1 y2 y3).2.1 = fun _ => 1#1) (j : Fin 768) : Real' (y1 (Idealize.ShloMosaic.ix1 j)) := by
  have hp := congrFun hp (Idealize.ShloMosaic.ix1 j)
  pointwise [fn] at hp
  exact Cert.Finite.real_of_abs _ hp
/-- the projection is -/
theorem proj (hp : (fn y0 y1 y2 y3).2.2.1 = fun _ => 1#1) (k : Fin 768) (j : Fin 2304) : Real' (y2 (ix2 k j)) := by
  have hp := congrFun hp (ix2 k j)
  pointwise [fn] at hp
  exact Cert.Finite.real_of_abs _ hp
/-- and its shift is. -/
theorem shift (hp : (fn y0 y1 y2 y3).2.2.2 = fun _ => 1#1) (j : Fin 2304) : Real' (y3 (Idealize.ShloMosaic.ix1 j)) := by
  have hp := congrFun hp (Idealize.ShloMosaic.ix1 j)
  pointwise [fn] at hp
  exact Cert.Finite.real_of_abs _ hp

end Cert.Finite3

namespace Cert.Match3
open Idealize.ShloMosaic Cert.Rows
open Cert.Kernel3Ideal.Qkv (col wide_low wide_q_even wide_q_odd wide_k_even wide_k_odd wide1_low wide1_q_even wide1_q_odd wide1_k_even wide1_k_odd roped plain)
open Cert.Reference3Ideal.Qkv (proj phase)

/-- A product of real rows with one sign changed, with the shift's sign changed, is the whole with its sign changed. -/
theorem neg_dot (n w : Fin 768 → EReal) (b : EReal) (hn : ∀ k, Real' (n k)) (hw : ∀ k, Real' (w k)) (hb : Real' b) :
    (∑ k, n k * -w k) + -b = -((∑ k, n k * w k) + b) := by
  obtain ⟨r, hr⟩ : ∃ r : Fin 768 → ℝ, ∀ k, n k = (r k : EReal) := ⟨fun k => (hn k).choose, fun k => (hn k).choose_spec⟩
  obtain ⟨s, hs⟩ : ∃ s : Fin 768 → ℝ, ∀ k, w k = (s k : EReal) := ⟨fun k => (hw k).choose, fun k => (hw k).choose_spec⟩
  obtain ⟨β, rfl⟩ := hb
  have e1 : (∑ k, n k * -w k) = ((∑ k, r k * -s k : ℝ) : EReal) := by
    rw [coe_total]
    exact Finset.sum_congr rfl fun k _ => by rw [hr k, hs k, EReal.coe_mul, EReal.coe_neg]
  have e2 : (∑ k, n k * w k) = ((∑ k, r k * s k : ℝ) : EReal) := by
    rw [coe_total]
    exact Finset.sum_congr rfl fun k _ => by rw [hr k, hs k, EReal.coe_mul]
  rw [e1, e2, ← EReal.coe_neg, ← EReal.coe_add, ← EReal.coe_add, ← EReal.coe_neg]
  congr 1
  simp only [mul_neg, Finset.sum_neg_distrib]
  ring

variable (y0 : FVec Ideal Kernel3Ideal.S2048x768 .f32) (y1 : FVec Ideal Kernel3Ideal.S768 .f32) (y2 : FVec Ideal Kernel3Ideal.S768x2304 .f32) (y3 : FVec Ideal Kernel3Ideal.S2304 .f32)

/-- All arguments are real. -/
structure AllReal3 : Prop where
  tokens : ∀ t j, Real' (y0 (ix2 t j))
  scale : ∀ j, Real' (y1 (Idealize.ShloMosaic.ix1 j))
  proj : ∀ k j, Real' (y2 (ix2 k j))
  shift : ∀ j, Real' (y3 (Idealize.ShloMosaic.ix1 j))

/-- A column from its parts. -/
theorem col_of (t : Fin 2048) (j : Fin 3840) (w : Fin 768 → EReal) (b : EReal) (hw : ∀ k, Cert.Kernel3Ideal.Qkv.wide y2 (ix2 k j) = w k)
    (hb : Cert.Kernel3Ideal.Qkv.wide1 y3 (Idealize.ShloMosaic.ix1 j) = b) :
    col y0 y1 y2 y3 t j = (∑ k, rmsNorm (fun k => y0 (ix2 t k)) (fun k => y1 (Idealize.ShloMosaic.ix1 k)) k * w k) + b := by
  unfold col
  rw [hb]
  congr 1
  exact Finset.sum_congr rfl fun k _ => by rw [hw k]

/-- A kept column is the projection's. -/
theorem col_low (t : Fin 2048) (j : Fin 2304) : col y0 y1 y2 y3 t ⟨j.val, by omega⟩ = proj y0 y1 y2 y3 t j := by
  unfold proj
  exact col_of y0 y1 y2 y3 t _ (fun k => y2 (ix2 k j)) _ (fun k => wide_low y2 k j) (wide1_low y3 j)

/-- A turned query column at an even place is its neighbour with the sign changed, -/
theorem col_q_even (hr : AllReal3 y0 y1 y2 y3) (t : Fin 2048) (i : Fin 384) :
    col y0 y1 y2 y3 t ⟨i.val * 2 + 2304, by omega⟩ = -proj y0 y1 y2 y3 t ⟨i.val * 2 + 1 + 0, by omega⟩ := by
  unfold proj
  refine (col_of y0 y1 y2 y3 t _ (fun k => -y2 (ix2 k ⟨i.val * 2 + 1 + 0, by omega⟩)) _ (fun k => wide_q_even y2 k i) (wide1_q_even y3 i)).trans ?_
  exact neg_dot _ (fun k => y2 (ix2 k ⟨i.val * 2 + 1 + 0, by omega⟩)) _ (fun k => real_rmsNorm _ _ (hr.tokens t) hr.scale k) (fun k => hr.proj k _) (hr.shift _)
/-- and at an odd place its neighbour. -/
theorem col_q_odd (t : Fin 2048) (i : Fin 384) :
    col y0 y1 y2 y3 t ⟨i.val * 2 + 1 + 2304, by omega⟩ = proj y0 y1 y2 y3 t ⟨i.val * 2 + 0, by omega⟩ := by
  unfold proj
  exact col_of y0 y1 y2 y3 t _ (fun k => y2 (ix2 k ⟨i.val * 2 + 0, by omega⟩)) _ (fun k => wide_q_odd y2 k i) (wide1_q_odd y3 i)

/-- A turned key column at an even place is its neighbour with the sign changed, -/
theorem col_k_even (hr : AllReal3 y0 y1 y2 y3) (t : Fin 2048) (i : Fin 384) :
    col y0 y1 y2 y3 t ⟨i.val * 2 + 3072, by omega⟩ = -proj y0 y1 y2 y3 t ⟨i.val * 2 + 1 + 768, by omega⟩ := by
  unfold proj
  refine (col_of y0 y1 y2 y3 t _ (fun k => -y2 (ix2 k ⟨i.val * 2 + 1 + 768, by omega⟩)) _ (fun k => wide_k_even y2 k i) (wide1_k_even y3 i)).trans ?_
  exact neg_dot _ (fun k => y2 (ix2 k ⟨i.val * 2 + 1 + 768, by omega⟩)) _ (fun k => real_rmsNorm _ _ (hr.tokens t) hr.scale k) (fun k => hr.proj k _) (hr.shift _)
/-- and at an odd place its neighbour. -/
theorem col_k_odd (t : Fin 2048) (i : Fin 384) :
    col y0 y1 y2 y3 t ⟨i.val * 2 + 1 + 3072, by omega⟩ = proj y0 y1 y2 y3 t ⟨i.val * 2 + 768, by omega⟩ := by
  unfold proj
  exact col_of y0 y1 y2 y3 t _ (fun k => y2 (ix2 k ⟨i.val * 2 + 768, by omega⟩)) _ (fun k => wide_k_odd y2 k i) (wide1_k_odd y3 i)

/-- A column at an equal place. -/
theorem col_congr (t : Fin 2048) {a b : ℕ} (ha : a < 3840) (hb : b < 3840) (e : a = b) : col y0 y1 y2 y3 t ⟨a, ha⟩ = col y0 y1 y2 y3 t ⟨b, hb⟩ := by subst e; rfl
/-- A projection at an equal place. -/
theorem proj_congr (t : Fin 2048) {a b : ℕ} (ha : a < 2304) (hb : b < 2304) (e : a = b) : proj y0 y1 y2 y3 t ⟨a, ha⟩ = proj y0 y1 y2 y3 t ⟨b, hb⟩ := by subst e; rfl
/-- A phase at an equal pair. -/
theorem phase_congr (t : Fin 2048) {a b : ℕ} (ha : a < 32) (hb : b < 32) (e : a = b) : Cert.Kernel3Ideal.Qkv.phase t ⟨a, ha⟩ = phase t ⟨b, hb⟩ := by subst e; rfl

/-- A coordinate is the first or the second of a pair. -/
theorem pair (d : Fin 64) : ∃ i : Fin 32, d = ⟨i.val * 2, by omega⟩ ∨ d = ⟨i.val * 2 + 1, by omega⟩ := by
  refine ⟨⟨d.val / 2, by omega⟩, ?_⟩
  rcases Nat.mod_two_eq_zero_or_one d.val with h | h
  · left; apply Fin.ext; show d.val = d.val / 2 * 2; omega
  · right; apply Fin.ext; show d.val = d.val / 2 * 2 + 1; omega

/-- The queries. -/
theorem v62_eq (hr : AllReal3 y0 y1 y2 y3) : Cert.Reference3Ideal.Read.val_main_v62 (F := Ideal) y0 y1 y2 y3 = roped 0 2304 (by omega) (by omega) y0 y1 y2 y3 := by
  funext y
  obtain ⟨h, t, d, rfl⟩ : ∃ (h : Fin 12) (t : Fin 2048) (d : Fin 64), y = ix3 h t d := ⟨y 0, y 1, y 2, eq_ix3 y⟩
  show _ = (col y0 y1 y2 y3 t ⟨h.val * 64 + d.val + 0, by omega⟩ * Ideal.cos (Cert.Kernel3Ideal.Qkv.phase t ⟨d.val / 2, by omega⟩)
    + col y0 y1 y2 y3 t ⟨h.val * 64 + d.val + 2304, by omega⟩ * Ideal.sin (Cert.Kernel3Ideal.Qkv.phase t ⟨d.val / 2, by omega⟩) : EReal)
  obtain ⟨i, rfl | rfl⟩ := pair d
  · refine (Cert.Reference3Ideal.Qkv.v62_even y0 y1 y2 y3 h t i).trans ?_
    have e1 := (col_congr y0 y1 y2 y3 t (by omega) (by omega) (by simp; omega : h.val * 64 + i.val * 2 + 2304 = (h.val * 32 + i.val) * 2 + 2304)).trans (col_q_even y0 y1 y2 y3 hr t ⟨h.val * 32 + i.val, by omega⟩)
    have e2 := col_low y0 y1 y2 y3 t ⟨h.val * 64 + i.val * 2 + 0, by omega⟩
    have e3 := phase_congr t (by omega) i.isLt (by omega : i.val * 2 / 2 = i.val)
    have e4 := proj_congr y0 y1 y2 y3 t (by omega) (by omega) (by omega : (h.val * 32 + i.val) * 2 + 1 + 0 = h.val * 64 + i.val * 2 + 1 + 0)
    rw [e3, e1, e2, e4, neg_mul, sub_eq_add_neg]
  · refine (Cert.Reference3Ideal.Qkv.v62_odd y0 y1 y2 y3 h t i).trans ?_
    have e1 := (col_congr y0 y1 y2 y3 t (by omega) (by omega) (by simp; omega : h.val * 64 + (i.val * 2 + 1) + 2304 = (h.val * 32 + i.val) * 2 + 1 + 2304)).trans (col_q_odd y0 y1 y2 y3 t ⟨h.val * 32 + i.val, by omega⟩)
    have e2 := col_low y0 y1 y2 y3 t ⟨h.val * 64 + (i.val * 2 + 1) + 0, by omega⟩
    have e3 := phase_congr t (by omega) i.isLt (by omega : (i.val * 2 + 1) / 2 = i.val)
    have e4 := proj_congr y0 y1 y2 y3 t (by omega) (by omega) (by omega : (h.val * 32 + i.val) * 2 + 0 = h.val * 64 + i.val * 2 + 0)
    have e5 := proj_congr y0 y1 y2 y3 t (by omega) (by omega) (by omega : h.val * 64 + (i.val * 2 + 1) + 0 = h.val * 64 + i.val * 2 + 1 + 0)
    rw [e3, e1, e2, e4, e5, add_comm]

/-- The keys. -/
theorem v83_eq (hr : AllReal3 y0 y1 y2 y3) : Cert.Reference3Ideal.Read.val_main_v83 (F := Ideal) y0 y1 y2 y3 = roped 768 3072 (by omega) (by omega) y0 y1 y2 y3 := by
  funext y
  obtain ⟨h, t, d, rfl⟩ : ∃ (h : Fin 12) (t : Fin 2048) (d : Fin 64), y = ix3 h t d := ⟨y 0, y 1, y 2, eq_ix3 y⟩
  show _ = (col y0 y1 y2 y3 t ⟨h.val * 64 + d.val + 768, by omega⟩ * Ideal.cos (Cert.Kernel3Ideal.Qkv.phase t ⟨d.val / 2, by omega⟩)
    + col y0 y1 y2 y3 t ⟨h.val * 64 + d.val + 3072, by omega⟩ * Ideal.sin (Cert.Kernel3Ideal.Qkv.phase t ⟨d.val / 2, by omega⟩) : EReal)
  obtain ⟨i, rfl | rfl⟩ := pair d
  · refine (Cert.Reference3Ideal.Qkv.v83_even y0 y1 y2 y3 h t i).trans ?_
    have e1 := (col_congr y0 y1 y2 y3 t (by omega) (by omega) (by simp; omega : h.val * 64 + i.val * 2 + 3072 = (h.val * 32 + i.val) * 2 + 3072)).trans (col_k_even y0 y1 y2 y3 hr t ⟨h.val * 32 + i.val, by omega⟩)
    have e2 := col_low y0 y1 y2 y3 t ⟨h.val * 64 + i.val * 2 + 768, by omega⟩
    have e3 := phase_congr t (by omega) i.isLt (by omega : i.val * 2 / 2 = i.val)
    have e4 := proj_congr y0 y1 y2 y3 t (by omega) (by omega) (by omega : (h.val * 32 + i.val) * 2 + 1 + 768 = h.val * 64 + i.val * 2 + 1 + 768)
    rw [e3, e1, e2, e4, neg_mul, sub_eq_add_neg]
  · refine (Cert.Reference3Ideal.Qkv.v83_odd y0 y1 y2 y3 h t i).trans ?_
    have e1 := (col_congr y0 y1 y2 y3 t (by omega) (by omega) (by simp; omega : h.val * 64 + (i.val * 2 + 1) + 3072 = (h.val * 32 + i.val) * 2 + 1 + 3072)).trans (col_k_odd y0 y1 y2 y3 t ⟨h.val * 32 + i.val, by omega⟩)
    have e2 := col_low y0 y1 y2 y3 t ⟨h.val * 64 + (i.val * 2 + 1) + 768, by omega⟩
    have e3 := phase_congr t (by omega) i.isLt (by omega : (i.val * 2 + 1) / 2 = i.val)
    have e4 := proj_congr y0 y1 y2 y3 t (by omega) (by omega) (by omega : (h.val * 32 + i.val) * 2 + 768 = h.val * 64 + i.val * 2 + 768)
    have e5 := proj_congr y0 y1 y2 y3 t (by omega) (by omega) (by omega : h.val * 64 + (i.val * 2 + 1) + 768 = h.val * 64 + i.val * 2 + 1 + 768)
    rw [e3, e1, e2, e4, e5, add_comm]

/-- The values. -/
theorem v86_eq : Cert.Reference3Ideal.Read.val_main_v86 (F := Ideal) y0 y1 y2 y3 = plain y0 y1 y2 y3 := by
  funext y
  obtain ⟨h, t, d, rfl⟩ : ∃ (h : Fin 12) (t : Fin 2048) (d : Fin 64), y = ix3 h t d := ⟨y 0, y 1, y 2, eq_ix3 y⟩
  exact (Cert.Reference3Ideal.Qkv.v86 y0 y1 y2 y3 h t d).trans (col_low y0 y1 y2 y3 t ⟨h.val * 64 + d.val + 1536, by omega⟩).symm

/-- The values of equal arguments. -/
theorem v86_of {z0 z1 z2 z3} (e0 : z0 = y0) (e1 : z1 = y1) (e2 : z2 = y2) (e3 : z3 = y3) :
    Cert.Reference3Ideal.Read.val_main_v86 (F := Ideal) z0 z1 z2 z3 = plain y0 y1 y2 y3 := by
  subst e0 e1 e2 e3; exact v86_eq _ _ _ _

end Cert.Match3
-- ==== Proof.Att.Body.lean ====
/-
  The attention region's body: what it leaves in the result's block and in its three scratch buffers, at the points where
  the keys lie past the queries, where the first block of keys is met, and where a later one is.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Equal arguments, equal values: 2 arguments. -/
theorem cong2 {A B Z : Sort*} (f : A → B → Z) {a a2 : A} {b b2 : B} (ha : a = a2) (hb : b = b2) :
    f a b = f a2 b2 := by subst ha; subst hb; rfl

/-- Equal arguments, equal values: 3 arguments. -/
theorem cong3 {A B C Z : Sort*} (f : A → B → C → Z) {a a2 : A} {b b2 : B} {c c2 : C} (ha : a = a2) (hb : b = b2) (hc : c = c2) :
    f a b c = f a2 b2 c2 := by subst ha; subst hb; subst hc; rfl

/-- Equal arguments, equal values: 4 arguments. -/
theorem cong4 {A B C D Z : Sort*} (f : A → B → C → D → Z) {a a2 : A} {b b2 : B} {c c2 : C} {d d2 : D} (ha : a = a2) (hb : b = b2) (hc : c = c2) (hd : d = d2) :
    f a b c d = f a2 b2 c2 d2 := by subst ha; subst hb; subst hc; subst hd; rfl

/-- Equal arguments, equal values: 5 arguments. -/
theorem cong5 {A B C D E Z : Sort*} (f : A → B → C → D → E → Z) {a a2 : A} {b b2 : B} {c c2 : C} {d d2 : D} {e e2 : E} (ha : a = a2) (hb : b = b2) (hc : c = c2) (hd : d = d2) (he : e = e2) :
    f a b c d e = f a2 b2 c2 d2 e2 := by subst ha; subst hb; subst hc; subst hd; subst he; rfl

/-- The point's block of keys is the first, -/
abbrev first (i : grid0.Coords) : Prop := (Scalar.cmpi .ne (Scalar.extui (Scalar.cmpi .eq (BitVec.ofNat 32 (i 2).val) 0#32)) 0#32) = 1#1
/-- or a later one. -/
abbrev later (i : grid0.Coords) : Prop := (Scalar.cmpi .ne (Scalar.extui (Scalar.cmpi .sgt (BitVec.ofNat 32 (i 2).val) 0#32)) 0#32) = 1#1

set_option maxHeartbeats 2000000 in
/-- Past the diagonal the body does nothing. -/
theorem sound_idle (c : Dev nD) (E : Set ℕ) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (h1 : ¬ k0_cond1 i = 1#1) (x0 x1 x2 y : Vec F S1x512x64 .bf16) (xm xl : Vec F S512x1 .f32) (xa : Vec F S512x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare xm ∗ owns (c : Thread nD τ) arg8 fullShare xl ∗ owns (c : Thread nD τ) arg9 fullShare xa) -∗ K ⟨⟩))
      ⊢ wp frame (wpE (defs₀ (F := F)) Variants.none c none) E (cc0__att_kernel i arg3 harg3 arg4 harg4 arg5 harg5 arg6 harg6 arg7 harg7 arg8 harg8 arg9 harg9) K := by
  simp only [cc0__att_kernel_eq_skeleton]; unfold cc0__att_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact h1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  iexists _; isplitr; · ipureintro; exact harg9.read_unread _
  iexact H6

set_option maxHeartbeats 2000000 in
/-- At the first block of keys, off the diagonal, the scratch starts afresh. -/
theorem sound_first (c : Dev nD) (E : Set ℕ) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (h1 : k0_cond1 i = 1#1) (h2 : first i) (h3 : ¬ later i) (h4 : ¬ k0_cond4 i = 1#1) (x0 x1 x2 y : Vec F S1x512x64 .bf16) (xm xl : Vec F S512x1 .f32) (xa : Vec F S512x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare (k0_pay4 i x0 x1) ∗ owns (c : Thread nD τ) arg8 fullShare (k0_pay5 i x0 x1) ∗ owns (c : Thread nD τ) arg9 fullShare (k0_pay6 i x0 x1 x2)) -∗ K ⟨⟩))
      ⊢ wp frame (wpE (defs₀ (F := F)) Variants.none c none) E (cc0__att_kernel i arg3 harg3 arg4 harg4 arg5 harg5 arg6 harg6 arg7 harg7 arg8 harg8 arg9 harg9) K := by
  simp only [cc0__att_kernel_eq_skeleton]; unfold cc0__att_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact (View.read_writes_full _ _ _ _ _).trans (cong2 (k0_pay4 i) ((View.readAt_full _ _ _).trans hf0) ((View.readAt_full _ _ _).trans hf1))
  isplitl [H5]
  · iexists _; isplitr
    swap; · iexact H5
    ipureintro
    exact (View.read_writes_full _ _ _ _ _).trans (cong2 (k0_pay5 i) ((View.readAt_full _ _ _).trans hf0) ((View.readAt_full _ _ _).trans hf1))
  iexists _; isplitr
  swap; · iexact H6
  ipureintro
  exact (View.read_writes_full _ _ _ _ _).trans (cong3 (k0_pay6 i) ((View.readAt_full _ _ _).trans hf0) ((View.readAt_full _ _ _).trans hf1) ((View.readAt_full _ _ _).trans hf2))

set_option maxHeartbeats 2000000 in
/-- At the first block of keys, on the diagonal, it starts afresh and the result is stored. -/
theorem sound_only (c : Dev nD) (E : Set ℕ) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (h1 : k0_cond1 i = 1#1) (h2 : first i) (h3 : ¬ later i) (h4 : k0_cond4 i = 1#1) (x0 x1 x2 y : Vec F S1x512x64 .bf16) (xm xl : Vec F S512x1 .f32) (xa : Vec F S512x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2 ∗ owns (c : Thread nD τ) arg6 fullShare (k0_pay13 (k0_pay6 i x0 x1 x2) (k0_pay5 i x0 x1)) ∗ owns (c : Thread nD τ) arg7 fullShare (k0_pay4 i x0 x1) ∗ owns (c : Thread nD τ) arg8 fullShare (k0_pay5 i x0 x1) ∗ owns (c : Thread nD τ) arg9 fullShare (k0_pay6 i x0 x1 x2)) -∗ K ⟨⟩))
      ⊢ wp frame (wpE (defs₀ (F := F)) Variants.none c none) E (cc0__att_kernel i arg3 harg3 arg4 harg4 arg5 harg5 arg6 harg6 arg7 harg7 arg8 harg8 arg9 harg9) K := by
  simp only [cc0__att_kernel_eq_skeleton]; unfold cc0__att_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    exact (View.read_writes_full _ _ _ _ _).trans (cong2 k0_pay13 ((View.readAt_writes_full _ _ _ _ _ _).trans (cong3 (k0_pay6 i) ((View.readAt_full _ _ _).trans hf0) ((View.readAt_full _ _ _).trans hf1) ((View.readAt_full _ _ _).trans hf2))) ((View.readAt_writes_full _ _ _ _ _ _).trans (cong2 (k0_pay5 i) ((View.readAt_full _ _ _).trans hf0) ((View.readAt_full _ _ _).trans hf1))))
  isplitl [H4]
  · iexists _; isplitr
    swap; · iexact H4
    ipureintro
    exact (View.read_writes_full _ _ _ _ _).trans (cong2 (k0_pay4 i) ((View.readAt_full _ _ _).trans hf0) ((View.readAt_full _ _ _).trans hf1))
  isplitl [H5]
  · iexists _; isplitr
    swap; · iexact H5
    ipureintro
    exact (View.read_writes_full _ _ _ _ _).trans (cong2 (k0_pay5 i) ((View.readAt_full _ _ _).trans hf0) ((View.readAt_full _ _ _).trans hf1))
  iexists _; isplitr
  swap; · iexact H6
  ipureintro
  exact (View.read_writes_full _ _ _ _ _).trans (cong3 (k0_pay6 i) ((View.readAt_full _ _ _).trans hf0) ((View.readAt_full _ _ _).trans hf1) ((View.readAt_full _ _ _).trans hf2))

set_option maxHeartbeats 2000000 in
/-- At a later block of keys, off the diagonal, the scratch takes the block in. -/
theorem sound_more (c : Dev nD) (E : Set ℕ) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (h1 : k0_cond1 i = 1#1) (h2 : ¬ first i) (h3 : later i) (h4 : ¬ k0_cond4 i = 1#1) (x0 x1 x2 y : Vec F S1x512x64 .bf16) (xm xl : Vec F S512x1 .f32) (xa : Vec F S512x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare (k0_pay10 i x0 x1 xm) ∗ owns (c : Thread nD τ) arg8 fullShare (k0_pay11 i x0 x1 xm xl) ∗ owns (c : Thread nD τ) arg9 fullShare (k0_pay12 i x0 x1 xm xa x2)) -∗ K ⟨⟩))
      ⊢ wp frame (wpE (defs₀ (F := F)) Variants.none c none) E (cc0__att_kernel i arg3 harg3 arg4 harg4 arg5 harg5 arg6 harg6 arg7 harg7 arg8 harg8 arg9 harg9) K := by
  simp only [cc0__att_kernel_eq_skeleton]; unfold cc0__att_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact (View.read_writes_full _ _ _ _ _).trans (cong3 (k0_pay10 i) ((View.readAt_full _ _ _).trans hf0) ((View.readAt_full _ _ _).trans hf1) ((View.readAt_full _ _ _).trans hf4))
  isplitl [H5]
  · iexists _; isplitr
    swap; · iexact H5
    ipureintro
    exact (View.read_writes_full _ _ _ _ _).trans (cong4 (k0_pay11 i) ((View.readAt_full _ _ _).trans hf0) ((View.readAt_full _ _ _).trans hf1) ((View.readAt_full _ _ _).trans hf4) ((View.readAt_full _ _ _).trans hf5))
  iexists _; isplitr
  swap; · iexact H6
  ipureintro
  exact (View.read_writes_full _ _ _ _ _).trans (cong5 (k0_pay12 i) ((View.readAt_full _ _ _).trans hf0) ((View.readAt_full _ _ _).trans hf1) ((View.readAt_full _ _ _).trans hf4) ((View.readAt_full _ _ _).trans hf6) ((View.readAt_full _ _ _).trans hf2))

set_option maxHeartbeats 2000000 in
/-- At a later block of keys, on the diagonal, it takes the block in and the result is stored. -/
theorem sound_last (c : Dev nD) (E : Set ℕ) (i : grid0.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (h1 : k0_cond1 i = 1#1) (h2 : ¬ first i) (h3 : later i) (h4 : k0_cond4 i = 1#1) (x0 x1 x2 y : Vec F S1x512x64 .bf16) (xm xl : Vec F S512x1 .f32) (xa : Vec F S512x64 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare xm ∗ owns (c : Thread nD τ) arg8 fullShare xl ∗ owns (c : Thread nD τ) arg9 fullShare xa
        ∗ (iprop(owns (c : Thread nD τ) arg3 fullShare x0 ∗ owns (c : Thread nD τ) arg4 fullShare x1 ∗ owns (c : Thread nD τ) arg5 fullShare x2 ∗ owns (c : Thread nD τ) arg6 fullShare (k0_pay13 (k0_pay12 i x0 x1 xm xa x2) (k0_pay11 i x0 x1 xm xl)) ∗ owns (c : Thread nD τ) arg7 fullShare (k0_pay10 i x0 x1 xm) ∗ owns (c : Thread nD τ) arg8 fullShare (k0_pay11 i x0 x1 xm xl) ∗ owns (c : Thread nD τ) arg9 fullShare (k0_pay12 i x0 x1 xm xa x2)) -∗ K ⟨⟩))
      ⊢ wp frame (wpE (defs₀ (F := F)) Variants.none c none) E (cc0__att_kernel i arg3 harg3 arg4 harg4 arg5 harg5 arg6 harg6 arg7 harg7 arg8 harg8 arg9 harg9) K := by
  simp only [cc0__att_kernel_eq_skeleton]; unfold cc0__att_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
  sl_exec (disch := first | sl_exact h1 | sl_exact h2 | sl_exact h3 | sl_exact h4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    exact (View.read_writes_full _ _ _ _ _).trans (cong2 k0_pay13 ((View.readAt_writes_full _ _ _ _ _ _).trans (cong5 (k0_pay12 i) ((View.readAt_full _ _ _).trans hf0) ((View.readAt_full _ _ _).trans hf1) ((View.readAt_full _ _ _).trans hf4) ((View.readAt_full _ _ _).trans hf6) ((View.readAt_full _ _ _).trans hf2))) ((View.readAt_writes_full _ _ _ _ _ _).trans (cong4 (k0_pay11 i) ((View.readAt_full _ _ _).trans hf0) ((View.readAt_full _ _ _).trans hf1) ((View.readAt_full _ _ _).trans hf4) ((View.readAt_full _ _ _).trans hf5))))
  isplitl [H4]
  · iexists _; isplitr
    swap; · iexact H4
    ipureintro
    exact (View.read_writes_full _ _ _ _ _).trans (cong3 (k0_pay10 i) ((View.readAt_full _ _ _).trans hf0) ((View.readAt_full _ _ _).trans hf1) ((View.readAt_full _ _ _).trans hf4))
  isplitl [H5]
  · iexists _; isplitr
    swap; · iexact H5
    ipureintro
    exact (View.read_writes_full _ _ _ _ _).trans (cong4 (k0_pay11 i) ((View.readAt_full _ _ _).trans hf0) ((View.readAt_full _ _ _).trans hf1) ((View.readAt_full _ _ _).trans hf4) ((View.readAt_full _ _ _).trans hf5))
  iexists _; isplitr
  swap; · iexact H6
  ipureintro
  exact (View.read_writes_full _ _ _ _ _).trans (cong5 (k0_pay12 i) ((View.readAt_full _ _ _).trans hf0) ((View.readAt_full _ _ _).trans hf1) ((View.readAt_full _ _ _).trans hf4) ((View.readAt_full _ _ _).trans hf6) ((View.readAt_full _ _ _).trans hf2))

end Cert.Kernel4Ideal.Att

end
-- ==== Proof.Att.Frame.lean ====
/-
  The attention region point by point: what its three scratch buffers hold before each point, the result's block of each
  row of points, the body's obligation, and the run: every argument as it was launched, the result as the points write it.
-/
module

public import proofs.«01_k».proof.Proof.Att.Body
public import Idealize.ShloMosaic.Lib.Pipeline.TableIdle

@[expose] public section

set_option maxRecDepth 16384

noncomputable section

namespace Cert.Kernel4Ideal.Att

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the three scratch buffers hold: the running maximum, the running sum, the running rows. -/
abbrev St (F : FTy → Type) := Vec F S512x1 .f32 × Vec F S512x1 .f32 × Vec F S512x64 .f32

/-- One point's work on them, -/
def step (i : grid0.Coords) (x0 x1 x2 : Vec F S1x512x64 .bf16) (s : St F) : St F :=
  if k0_cond1 i = 1#1 then
    if first i then (k0_pay4 i x0 x1, k0_pay5 i x0 x1, k0_pay6 i x0 x1 x2)
    else (k0_pay10 i x0 x1 s.1, k0_pay11 i x0 x1 s.1 s.2.1, k0_pay12 i x0 x1 s.1 s.2.2 x2)
  else s

/-- and on the result's block. -/
def res (i : grid0.Coords) (x0 x1 x2 y : Vec F S1x512x64 .bf16) (s : St F) : Vec F S1x512x64 .bf16 :=
  if k0_cond1 i = 1#1 then
    if k0_cond4 i = 1#1 then k0_pay13 (step i x0 x1 x2 s).2.2 (step i x0 x1 x2 s).2.1 else y
  else y

/-- The body at any point: the scratch steps, the result's block is stored on the diagonal. -/
theorem sound_step (c : Dev nD) (E : Set ℕ) (i : grid0.Coords) (hx : later i ↔ ¬ first i) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole)
    (x0 x1 x2 y : Vec F S1x512x64 .bf16) (s : St F) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare y ∗ owns (c : Thread nD τ) arg7 fullShare s.1 ∗ owns (c : Thread nD τ) arg8 fullShare s.2.1 ∗ owns (c : Thread nD τ) arg9 fullShare s.2.2
        ∗ (iprop(owns (c : Thread nD τ) arg3 fullShare x0 ∗ owns (c : Thread nD τ) arg4 fullShare x1 ∗ owns (c : Thread nD τ) arg5 fullShare x2 ∗ owns (c : Thread nD τ) arg6 fullShare (res i x0 x1 x2 y s) ∗ owns (c : Thread nD τ) arg7 fullShare (step i x0 x1 x2 s).1 ∗ owns (c : Thread nD τ) arg8 fullShare (step i x0 x1 x2 s).2.1 ∗ owns (c : Thread nD τ) arg9 fullShare (step i x0 x1 x2 s).2.2) -∗ K ⟨⟩))
      ⊢ wp frame (wpE (defs₀ (F := F)) Variants.none c none) E (cc0__att_kernel i arg3 harg3 arg4 harg4 arg5 harg5 arg6 harg6 arg7 harg7 arg8 harg8 arg9 harg9) K := by
  by_cases h1 : k0_cond1 i = 1#1
  · by_cases h2 : first i
    · have e : step i x0 x1 x2 s = (k0_pay4 i x0 x1, k0_pay5 i x0 x1, k0_pay6 i x0 x1 x2) := by
        unfold step; rw [if_pos h1, if_pos h2]
      have h3 : ¬ later i := fun h => hx.mp h h2
      by_cases h4 : k0_cond4 i = 1#1
      · rw [show res i x0 x1 x2 y s = k0_pay13 (step i x0 x1 x2 s).2.2 (step i x0 x1 x2 s).2.1 by unfold res; rw [if_pos h1, if_pos h4], e]
        dsimp only
        exact sound_only c E i arg3 harg3 arg4 harg4 arg5 harg5 arg6 harg6 arg7 harg7 arg8 harg8 arg9 harg9 h1 h2 h3 h4 x0 x1 x2 y s.1 s.2.1 s.2.2 K
      · rw [show res i x0 x1 x2 y s = y by unfold res; rw [if_pos h1, if_neg h4], e]
        dsimp only
        exact sound_first c E i arg3 harg3 arg4 harg4 arg5 harg5 arg6 harg6 arg7 harg7 arg8 harg8 arg9 harg9 h1 h2 h3 h4 x0 x1 x2 y s.1 s.2.1 s.2.2 K
    · have e : step i x0 x1 x2 s = (k0_pay10 i x0 x1 s.1, k0_pay11 i x0 x1 s.1 s.2.1, k0_pay12 i x0 x1 s.1 s.2.2 x2) := by
        unfold step; rw [if_pos h1, if_neg h2]
      have h3 : later i := hx.mpr h2
      by_cases h4 : k0_cond4 i = 1#1
      · rw [show res i x0 x1 x2 y s = k0_pay13 (step i x0 x1 x2 s).2.2 (step i x0 x1 x2 s).2.1 by unfold res; rw [if_pos h1, if_pos h4], e]
        dsimp only
        exact sound_last c E i arg3 harg3 arg4 harg4 arg5 harg5 arg6 harg6 arg7 harg7 arg8 harg8 arg9 harg9 h1 h2 h3 h4 x0 x1 x2 y s.1 s.2.1 s.2.2 K
      · rw [show res i x0 x1 x2 y s = y by unfold res; rw [if_pos h1, if_neg h4], e]
        dsimp only
        exact sound_more c E i arg3 harg3 arg4 harg4 arg5 harg5 arg6 harg6 arg7 harg7 arg8 harg8 arg9 harg9 h1 h2 h3 h4 x0 x1 x2 y s.1 s.2.1 s.2.2 K
  · rw [show res i x0 x1 x2 y s = y by unfold res; rw [if_neg h1], show step i x0 x1 x2 s = s by unfold step; rw [if_neg h1]]
    exact sound_idle c E i arg3 harg3 arg4 harg4 arg5 harg5 arg6 harg6 arg7 harg7 arg8 harg8 arg9 harg9 h1 x0 x1 x2 y s.1 s.2.1 s.2.2 K

/-! ## The points -/

theorem coord1 (t : Fin grid0.N) : (grid0.coords t (1 : Fin 3)).val = t.val / 4 % 4 := Pipeline.Grid.coords_val t (1 : Fin 3) (by decide) rfl
theorem coord2 (t : Fin grid0.N) : (grid0.coords t (2 : Fin 3)).val = t.val / 1 % 4 := Pipeline.Grid.coords_val t (2 : Fin 3) (by decide) rfl

/-- The block of keys is not past the block of queries. -/
theorem hc1 : ∀ t : Fin grid0.N, k0_cond1 (grid0.coords t) = 1#1 ↔ t.val % 4 ≤ t.val / 4 % 4 :=
  fun t => by
    have ht : t.val < 192 := Nat.lt_of_lt_of_eq t.isLt N_0
    have e1 := coord1 t
    have e2 := coord2 t
    simp only [k0_cond1, e1, e2]
    word_cmp
/-- It is the block of queries itself. -/
theorem hc4 : ∀ t : Fin grid0.N, k0_cond4 (grid0.coords t) = 1#1 ↔ t.val % 4 = t.val / 4 % 4 :=
  fun t => by
    have ht : t.val < 192 := Nat.lt_of_lt_of_eq t.isLt N_0
    have e1 := coord1 t
    have e2 := coord2 t
    simp only [k0_cond4, e1, e2]
    word_cmp
/-- It is the first. -/
theorem hfirst : ∀ t : Fin grid0.N, first (grid0.coords t) ↔ t.val % 4 = 0 :=
  fun t => by
    have ht : t.val < 192 := Nat.lt_of_lt_of_eq t.isLt N_0
    have e2 := coord2 t
    simp only [first, e2]
    word_cmp
/-- It is a later one. -/
theorem hlater : ∀ t : Fin grid0.N, later (grid0.coords t) ↔ t.val % 4 ≠ 0 :=
  fun t => by
    have ht : t.val < 192 := Nat.lt_of_lt_of_eq t.isLt N_0
    have e2 := coord2 t
    simp only [later, e2]
    word_cmp
theorem hx (t : Fin grid0.N) : later (grid0.coords t) ↔ ¬ first (grid0.coords t) := by rw [hlater, hfirst]

/-- Off the diagonal the result's block is left alone. -/
theorem hidle (t : Fin cfg0.N) : cfg0.idle 3 (cfg0.grid.coords t) = true ↔ t.val % 4 ≠ t.val / 4 % 4 := by
  have h1 := hc1 t
  have h4 := hc4 t
  show (!(k0_cond1 (grid0.coords t) == 1#1 && k0_cond4 (grid0.coords t) == 1#1)) = true ↔ _
  simp only [Bool.not_eq_true', Bool.and_eq_false_iff, beq_eq_false_iff_ne, ne_eq, h1, h4]
  omega

/-- Where the result's block holds nothing the body stored. -/
theorem hfresh (n : ℕ) (hn : n ≤ cfg0.N) : cfg0.fresh 3 n = decide (n % 4 ≤ n / 4 % 4) := by
  refine cfg0.fresh_tab 3 (fun n => decide (n % 4 ≤ n / 4 % 4)) rfl (fun t => ?_) n hn
  have hi := hidle t
  have hf := flush0_3 t
  rw [Bool.eq_iff_iff]
  simp only [Bool.or_eq_true, Bool.and_eq_true, decide_eq_true_eq, hf, hi]
  by_cases h3 : t.val % 4 = 3
  · have e : (t.val + 1) % 4 = 0 := by omega
    rw [e]
    exact ⟨fun _ => Or.inl h3, fun _ => Nat.zero_le _⟩
  · have e1 : (t.val + 1) % 4 = t.val % 4 + 1 := by omega
    have e2 : (t.val + 1) / 4 = t.val / 4 := by omega
    rw [e1, e2]
    omega

variable (m : (ℓ : Loc nD τ sig) → Buf (Elt F) ℓ) (ρ : Dev nD → PrngReg)

/-- The buffers as launched: no host operation comes before the region. -/
abbrev V (c : Dev nD) (b : Ref sig .tc) : Buf (Elt F) ((c : Thread nD τ).loc b) := m ((c : Thread nD τ).loc b)

/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main main_chain

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point. -/
abbrev p0 : Fin cfg0.N := ⟨0, by decide⟩

/-- What the scratch buffers hold before point `n`, from the second point on. -/
def SC (c : Dev nD) : ℕ → St F
  | 0 => (k0_pay4 (grid0.coords p0) (iblk m c 0 p0) (iblk m c 1 p0), k0_pay5 (grid0.coords p0) (iblk m c 0 p0) (iblk m c 1 p0),
      k0_pay6 (grid0.coords p0) (iblk m c 0 p0) (iblk m c 1 p0) (iblk m c 2 p0))
  | n + 1 => if h : n < cfg0.N then step (grid0.coords ⟨n, h⟩) (iblk m c 0 ⟨n, h⟩) (iblk m c 1 ⟨n, h⟩) (iblk m c 2 ⟨n, h⟩) (SC c n) else SC c n

theorem SC_succ (c : Dev nD) (t : Fin cfg0.N) :
    SC m c (t.val + 1) = step (grid0.coords t) (iblk m c 0 t) (iblk m c 1 t) (iblk m c 2 t) (SC m c t.val) := by
  rw [SC, dif_pos t.isLt]

/-- At the first block of keys what the scratch held does not matter. -/
theorem SC_step (c : Dev nD) (t : Fin cfg0.N) (s : St F) (h : t.val ≠ 0 → s = SC m c t.val) :
    step (grid0.coords t) (iblk m c 0 t) (iblk m c 1 t) (iblk m c 2 t) s = SC m c (t.val + 1) := by
  rw [SC_succ]
  by_cases h0 : t.val = 0
  · have f := (hfirst t).mpr (by rw [h0])
    unfold step
    have f1 := (hc1 t).mpr (by rw [h0])
    simp only [if_pos f1, if_pos f]
  · rw [h h0]

/-- The result's block of a row of four points: what the point on the diagonal stores. -/
def OUT (c : Dev nD) (r : ℕ) : Vec F S1x512x64 .bf16 :=
  k0_pay13 (SC m c (4 * r + r % 4 + 1)).2.2 (SC m c (4 * r + r % 4 + 1)).2.1

/-- The scratch before point `n`: at the region's entry at anything. -/
def PhiS (c : Dev nD) : (n : ℕ) → n ≤ cfg0.N → sProp 𝕄
  | 0, _ => Pipeline.ΦA spec0 c
  | n + 1, _ => iprop((owns (c : Thread nD τ) (Memref.whole cc0_scratch0) fullShare (SC m c (n + 1)).1 ∗ owns (c : Thread nD τ) (Memref.whole cc0_scratch1) fullShare (SC m c (n + 1)).2.1 ∗ owns (c : Thread nD τ) (Memref.whole cc0_scratch2) fullShare (SC m c (n + 1)).2.2) ∗ ∃ r, prngReg c r)

/-- The proof data of the region. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT m c (t.val / 4)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = OUT m c (t.val / 4) := by dsimp only [dats]
theorem Phi_castSucc (c : Dev nD) (t : Fin cfg0.N) : (dats m 0 c).Φ t.castSucc = PhiS m c t.val (Nat.le_of_lt t.isLt) := by
  dsimp only [dats]; exact Pipeline.Dat.Φ_castSucc (PhiS m c) t
theorem Phi_succ (c : Dev nD) (t : Fin cfg0.N) :
    (dats m 0 c).Φ t.succ = iprop((owns (c : Thread nD τ) (Memref.whole cc0_scratch0) fullShare (SC m c (t.val + 1)).1 ∗ owns (c : Thread nD τ) (Memref.whole cc0_scratch1) fullShare (SC m c (t.val + 1)).2.1 ∗ owns (c : Thread nD τ) (Memref.whole cc0_scratch2) fullShare (SC m c (t.val + 1)).2.2) ∗ ∃ r, prngReg c r) := by
  dsimp only [dats]; rfl

/-- Input 0's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input 1's staging buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input 2's staging buffer holds its block at every point. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The result's staging buffer holds the row's block once the diagonal is past. -/
theorem before_3 (c : Dev nD) (t : Fin cfg0.N) (h : ¬ t.val % 4 ≤ t.val / 4 % 4) (d) : (dats m 0 c).before 3 t d = OUT m c (t.val / 4) := by
  rw [(dats m 0 c).before_out_traj 3 rfl (fun _ _ => rfl) (fun t ht _ hf => ?_) t.val t rfl d, hfresh _ (Nat.le_of_lt t.isLt),
    if_neg (by simpa using h), after_3]
  · congr 1
    show (t.val - 1) / 4 = t.val / 4
    omega
  · rw [hfresh _ (Nat.le_of_lt t.isLt), decide_eq_false_iff_not] at hf
    rw [after_3, after_3]
    congr 1
    show t.val / 4 = (t.val - 1) / 4
    omega

/-- The scratch at a point's start, opened. -/
theorem open_Phi (c : Dev nD) (t : Fin cfg0.N) :
    PhiS m c t.val (Nat.le_of_lt t.isLt) ⊢ iprop(∃ s : St F, ⌜t.val ≠ 0 → s = SC m c t.val⌝ ∗ (owns (c : Thread nD τ) (Memref.whole cc0_scratch0) fullShare s.1 ∗ owns (c : Thread nD τ) (Memref.whole cc0_scratch1) fullShare s.2.1 ∗ owns (c : Thread nD τ) (Memref.whole cc0_scratch2) fullShare s.2.2) ∗ ∃ r, prngReg c r) := by
  obtain ⟨n, hn⟩ := t
  cases n with
  | zero =>
    show Pipeline.ΦA spec0 c ⊢ _
    unfold Pipeline.ΦA
    rw [scopedRest0_eq]
    iintro ⟨⟨⟨%f0, H0⟩, ⟨%f1, H1⟩, ⟨%f2, H2⟩⟩, HR⟩
    iexists ((f0, f1, f2) : St F)
    rw [owns_whole, owns_whole, owns_whole]
    isplitr
    · ipureintro; exact fun h => absurd rfl h
    isplitr [HR]
    · isplitl [H0]; · iexact H0
      isplitl [H1]; · iexact H1
      iexact H2
    iexact HR
  | succ n =>
    show iprop((owns (c : Thread nD τ) (Memref.whole cc0_scratch0) fullShare (SC m c (n + 1)).1 ∗ owns (c : Thread nD τ) (Memref.whole cc0_scratch1) fullShare (SC m c (n + 1)).2.1 ∗ owns (c : Thread nD τ) (Memref.whole cc0_scratch2) fullShare (SC m c (n + 1)).2.2) ∗ ∃ r, prngReg c r) ⊢ _
    iintro H
    iexists (SC m c (n + 1))
    isplitr
    · ipureintro; exact fun _ => rfl
    iexact H

/-- The scratch after a point, forgotten. -/
theorem close_Phi (c : Dev nD) (s : St F) :
    iprop((owns (c : Thread nD τ) (Memref.whole cc0_scratch0) fullShare s.1 ∗ owns (c : Thread nD τ) (Memref.whole cc0_scratch1) fullShare s.2.1 ∗ owns (c : Thread nD τ) (Memref.whole cc0_scratch2) fullShare s.2.2) ∗ ∃ r, prngReg c r) ⊢ (Pipeline.ΦA spec0 c : sProp 𝕄) := by
  unfold Pipeline.ΦA
  rw [scopedRest0_eq, owns_whole, owns_whole, owns_whole]
  iintro ⟨⟨H0, H1, H2⟩, HR⟩
  isplitr [HR]
  · isplitl [H0]; · iexists _; iexact H0
    isplitl [H1]; · iexists _; iexact H1
    iexists _; iexact H2
  iexact HR

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- the result's buffer as it returns it, -/
def outPost (c : Dev nD) (t : Fin cfg0.N) : sProp 𝕄 :=
  match cfg0.idle 3 (cfg0.grid.coords t) with
  | true => match (cfg0.win 3).flush t with
    | false => iprop(∃ d, owns (c : Thread nD τ) (st0_3 t) fullShare ((dats m 0 c).before 3 t d))
    | true => owns (c : Thread nD τ) (st0_3 t) fullShare ((dats m 0 c).after 3 t)
  | false => owns (c : Thread nD τ) (st0_3 t) fullShare ((dats m 0 c).after 3 t)

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ outPost m c t)

/-- The result's buffer after the body is as the obligation has it. -/
theorem out_post (c : Dev nD) (t : Fin cfg0.N) (s : St F) (h : t.val ≠ 0 → s = SC m c t.val) (d) :
    owns (c : Thread nD τ) (st0_3 t) fullShare (res (grid0.coords t) (iblk m c 0 t) (iblk m c 1 t) (iblk m c 2 t) ((dats m 0 c).before 3 t d) s)
      ⊢ outPost m c t := by
  unfold outPost
  by_cases hd : t.val % 4 = t.val / 4 % 4
  · have hi : cfg0.idle 3 (cfg0.grid.coords t) = false := by
      rw [← Bool.not_eq_true, hidle]; exact fun h => h hd
    have e : res (grid0.coords t) (iblk m c 0 t) (iblk m c 1 t) (iblk m c 2 t) ((dats m 0 c).before 3 t d) s = OUT m c (t.val / 4) := by
      unfold res
      rw [if_pos ((hc1 t).mpr hd.le), if_pos ((hc4 t).mpr hd), SC_step m c t s h]
      unfold OUT
      rw [show 4 * (t.val / 4) + t.val / 4 % 4 + 1 = t.val + 1 by omega]
    rw [e, hi, after_3]
  · have hi : cfg0.idle 3 (cfg0.grid.coords t) = true := (hidle t).mpr hd
    have e : res (grid0.coords t) (iblk m c 0 t) (iblk m c 1 t) (iblk m c 2 t) ((dats m 0 c).before 3 t d) s = (dats m 0 c).before 3 t d := by
      unfold res
      rw [if_neg (fun h => hd ((hc4 t).mp h)), ite_self]
    rw [e, hi]
    cases hf : (cfg0.win 3).flush t
    · iintro H; iexists d; iexact H
    · have := (flush0_3 t).mp hf
      rw [before_3 m c t (by omega), after_3]

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [Phi_castSucc, Phi_succ, show (dats m 0 c).owesAt () t.succ = (dats m 0 c).owesAt () t.castSucc from rfl,
    after_0, after_1, after_2]
  iintro ⟨HΦ, Ho, ⟨%d0, H0⟩, ⟨%d1, H1⟩, ⟨%d2, H2⟩, ⟨%d3, H3⟩⟩
  icases (open_Phi m c t) $$ HΦ with ⟨%s, %hs, ⟨HA, HB, HC⟩, HR⟩
  iapply (sound_step c Set.univ (grid0.coords t) (hx t) _ _ _ _ _ _ _ _ _ _ _ _ _ _ (iblk m c 0 t) (iblk m c 1 t) (iblk m c 2 t) ((dats m 0 c).before 3 t d3) s _)
  rw [SC_step m c t s hs]
  isplitl [H0]; · iexact H0
  isplitl [H1]; · iexact H1
  isplitl [H2]; · iexact H2
  isplitl [H3]; · iexact H3
  isplitl [HA]; · iexact HA
  isplitl [HB]; · iexact HB
  isplitl [HC]; · iexact HC
  iintro ⟨H0, H1, H2, H3, HA, HB, HC⟩
  isplitl [HA HB HC HR]
  · isplitl [HA HB HC]
    · isplitl [HA]; · iexact HA
      isplitl [HB]; · iexact HB
      iexact HC
    iexact HR
  isplitl [Ho]; · iexact Ho
  isplitl [H0]; · iexact H0
  isplitl [H1]; · iexact H1
  isplitl [H2]; · iexact H2
  iapply (out_post m c t s hs d3)
  iexact H3

theorem defs₀_row (t : Fin cfg0.N) :
    defs₀ (F := F) .tc cfg0.body (cfg0.bodyArgs t (cfg0.slots t)) = bodyAt0 t := by
  unfold defs₀; rw [Defs.onTc_tc]

/-- The obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair run ends, with the arrays at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by dsimp only [dats]; exact .rfl)
    (hout := fun c => by
      rw [show Fin.last (cfgs 0).N = Fin.succ ⟨191, by decide⟩ from by decide]
      exact (Entails.of_eq (Phi_succ m c ⟨191, by decide⟩)).trans (close_Phi c _))

/-- The arguments end as launched and every counter is zero. -/
theorem frame4 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩, h.2⟩) (run_main m ρ)

end Cert.Kernel4Ideal.Att

end
-- ==== Proof.Att.Soft.lean ====
module
public import proofs.«01_k».proof.Proof.Post.Rows

@[expose] public section

noncomputable section
namespace Cert.Soft
open Idealize.ShloMosaic Finset

/-- A sum of real numbers, as extended ones. -/
theorem coe_total {ι : Type} [Fintype ι] (f : ι → ℝ) : ((∑ k, f k : ℝ) : EReal) = ∑ k, (f k : EReal) := by
  classical
  have h : ∀ A : Finset ι, ((∑ k ∈ A, f k : ℝ) : EReal) = ∑ k ∈ A, (f k : EReal) := fun A => by
    induction A using Finset.induction_on with
    | empty => rfl
    | insert k A hk ih => rw [Finset.sum_insert hk, Finset.sum_insert hk, EReal.coe_add, ih]
  exact h _

/-- A score and the weight it stands for: a real score weighs its exponential, a masked one nothing. -/
def Weighs (s : EReal) (w : ℝ) : Prop :=
  (∃ x : ℝ, s = (x : EReal) ∧ w = Real.exp x) ∨ (s = ⊥ ∧ w = 0)

/-- The exponential of a score taken off a real number is its weight, scaled. -/
theorem exp_off {s : EReal} {w : ℝ} (hs : Weighs s w) (M : ℝ) :
    Ideal.exp (s - (M : EReal)) = ((w * Real.exp (-M) : ℝ) : EReal) := by
  rcases hs with ⟨x, rfl, rfl⟩ | ⟨rfl, rfl⟩
  · rw [← EReal.coe_sub, ← Real.exp_add, ← sub_eq_add_neg]
    rfl
  · rw [EReal.bot_sub, zero_mul]
    rfl

/-- The greatest of some scores is a real number or minus infinity. -/
theorem top_cases {ι : Type} (A : Finset ι) (s : ι → EReal) (w : ι → ℝ) (h : ∀ q, Weighs (s q) (w q)) :
    A.fold max ⊥ s = ⊥ ∨ ∃ x : ℝ, A.fold max ⊥ s = (x : EReal) := by
  classical
  induction A using Finset.induction_on with
  | empty => exact Or.inl rfl
  | insert a A ha ih =>
    rw [Finset.fold_insert ha]
    rcases h a with ⟨x, hx, -⟩ | ⟨hx, -⟩ <;> rcases ih with ih | ⟨y, ih⟩ <;> rw [hx, ih]
    · exact Or.inr ⟨x, max_eq_left bot_le⟩
    · exact Or.inr ⟨max x y, (EReal.coe_strictMono.monotone.map_max).symm⟩
    · exact Or.inl (max_self _)
    · exact Or.inr ⟨y, max_eq_right bot_le⟩

/-- The greatest of some scores is real as soon as one of them is. -/
theorem top_real {ι : Type} (A : Finset ι) (s : ι → EReal) (w : ι → ℝ) (h : ∀ q, Weighs (s q) (w q))
    (a : ι) (ha : a ∈ A) (hs : s a ≠ ⊥) : ∃ x : ℝ, A.fold max ⊥ s = (x : EReal) := by
  rcases top_cases A s w h with e | e
  · have : s a ≤ A.fold max ⊥ s := (Finset.le_fold_max _).mpr (Or.inr ⟨a, ha, le_rfl⟩)
    exact absurd (le_bot_iff.mp (e ▸ this)) hs
  · exact e

/-- The greater of a real number and the greatest of some scores is real. -/
theorem max_real {ι : Type} (A : Finset ι) (s : ι → EReal) (w : ι → ℝ) (h : ∀ q, Weighs (s q) (w q))
    (M : ℝ) : ∃ x : ℝ, max (M : EReal) (A.fold max ⊥ s) = (x : EReal) := by
  rcases top_cases A s w h with e | ⟨y, e⟩ <;> rw [e]
  · exact ⟨M, max_eq_left bot_le⟩
  · exact ⟨max M y, (EReal.coe_strictMono.monotone.map_max).symm⟩

/-- The sum of the scaled weights of some scores. -/
theorem sum_off {ι : Type} [Fintype ι] (s : ι → EReal) (w : ι → ℝ) (h : ∀ q, Weighs (s q) (w q)) (M : ℝ) :
    ∑ q, Ideal.exp (s q - (M : EReal)) = (((∑ q, w q) * Real.exp (-M) : ℝ) : EReal) := by
  rw [Finset.sum_mul, coe_total]
  exact Finset.sum_congr rfl fun q _ => exp_off (h q) M

/-- A scale that is real and not negative goes through a sum. -/
theorem scale_sum {ι : Type} (A : Finset ι) (f : ι → EReal) (x : ℝ) (hx : 0 ≤ x) :
    ∑ q ∈ A, f q * (x : EReal) = (∑ q ∈ A, f q) * (x : EReal) := by
  classical
  induction A using Finset.induction_on with
  | empty => rw [Finset.sum_empty, Finset.sum_empty, zero_mul]
  | insert a A ha ih =>
    rw [Finset.sum_insert ha, Finset.sum_insert ha, ih,
      EReal.right_distrib_of_nonneg_of_ne_top (EReal.coe_nonneg.mpr hx) (EReal.coe_ne_top x)]

/-- The sum of some numbers under the scaled weights of the scores. -/
theorem dot_off {ι : Type} [Fintype ι] (s : ι → EReal) (w : ι → ℝ) (v : ι → EReal) (h : ∀ q, Weighs (s q) (w q)) (M : ℝ) :
    ∑ q, Ideal.exp (s q - (M : EReal)) * v q = (∑ q, (w q : EReal) * v q) * ((Real.exp (-M) : ℝ) : EReal) := by
  rw [← scale_sum _ _ _ (Real.exp_pos _).le]
  refine Finset.sum_congr rfl fun q _ => ?_
  rw [exp_off (h q) M, EReal.coe_mul, mul_right_comm]

/-- Moving a scaled sum from one running maximum to the next, and adding the sum of the next block. -/
theorem carry (a b : EReal) (M N : ℝ) :
    a * ((Real.exp (-M) : ℝ) : EReal) * Ideal.exp ((M : EReal) - (N : EReal)) + b * ((Real.exp (-N) : ℝ) : EReal) =
      (a + b) * ((Real.exp (-N) : ℝ) : EReal) := by
  have e : Ideal.exp ((M : EReal) - (N : EReal)) = ((Real.exp (M - N) : ℝ) : EReal) := by
    rw [← EReal.coe_sub]
    rfl
  have e' : Real.exp (-M) * Real.exp (M - N) = Real.exp (-N) := by rw [← Real.exp_add]; congr 1; ring
  rw [e, mul_assoc, ← EReal.coe_mul, e',
    EReal.right_distrib_of_nonneg_of_ne_top (EReal.coe_nonneg.mpr (Real.exp_pos _).le) (EReal.coe_ne_top _)]

/-- The quotient of two real numbers, the lower one not zero. -/
theorem div_real (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- A common scale falls out of a quotient. -/
theorem div_scaled (a : EReal) (b M : ℝ) (hb : 0 < b) :
    Ideal.div (a * ((Real.exp (-M) : ℝ) : EReal)) ((b * Real.exp (-M) : ℝ) : EReal) = a * ((b⁻¹ : ℝ) : EReal) := by
  have hM := Real.exp_pos (-M)
  unfold Ideal.div
  rw [if_neg (by exact_mod_cast (mul_pos hb hM).ne'), ← EReal.coe_inv, mul_assoc, ← EReal.coe_mul]
  congr 2
  field_simp

/-- The weighted mean in one pass: weights first divided by their sum, then applied. -/
theorem mean_whole {ι : Type} [Fintype ι] (s : ι → EReal) (w : ι → ℝ) (v : ι → EReal) (h : ∀ q, Weighs (s q) (w q)) (M : ℝ)
    (hw : 0 < ∑ q, w q) :
    ∑ q, Ideal.div (Ideal.exp (s q - (M : EReal))) (∑ p, Ideal.exp (s p - (M : EReal))) * v q =
      (∑ q, (w q : EReal) * v q) * (((∑ q, w q)⁻¹ : ℝ) : EReal) := by
  rw [sum_off s w h M, ← scale_sum _ _ _ (inv_nonneg.mpr hw.le)]
  refine Finset.sum_congr rfl fun q _ => ?_
  rw [exp_off (h q) M, EReal.coe_mul, div_scaled _ _ _ hw, mul_right_comm]

/-- The running sums of one query row after `n` columns: the maximum so far is real, and both sums
stand scaled by it. -/
def Sums (w : ℕ → ℝ) (v : ℕ → Fin 64 → EReal) (n : ℕ) (m l : EReal) (a : Fin 64 → EReal) : Prop :=
  ∃ M : ℝ, m = (M : EReal) ∧ l = (((∑ c ∈ range n, w c) * Real.exp (-M) : ℝ) : EReal) ∧
    ∀ d, a d = (∑ c ∈ range n, (w c : EReal) * v c d) * ((Real.exp (-M) : ℝ) : EReal)

/-- The first block starts the running sums. -/
theorem sums_first (w : ℕ → ℝ) (v : ℕ → Fin 64 → EReal) (s : Fin 512 → EReal)
    (h : ∀ q : Fin 512, Weighs (s q) (w q.val)) (h0 : s 0 ≠ ⊥) (m : EReal) (hm : m = univ.fold max ⊥ s) :
    Sums w v 512 m (∑ q, Ideal.exp (s q - m)) (fun d => ∑ q, Ideal.exp (s q - m) * v q.val d) := by
  obtain ⟨M, e⟩ := top_real univ s _ h 0 (mem_univ _) h0
  obtain rfl := hm.trans e
  refine ⟨M, rfl, ?_, fun d => ?_⟩
  · rw [sum_off s _ h M, Finset.sum_range]
  · beta_reduce
    rw [dot_off s _ (fun q => v q.val d) h M, Finset.sum_range]

/-- Each later block carries the running sums on. -/
theorem sums_later (w : ℕ → ℝ) (v : ℕ → Fin 64 → EReal) (n : ℕ) (s : Fin 512 → EReal)
    (h : ∀ q : Fin 512, Weighs (s q) (w (n + q.val))) (m l m' : EReal) (a : Fin 64 → EReal)
    (hs : Sums w v n m l a) (hm : m' = max m (univ.fold max ⊥ s)) :
    Sums w v (n + 512) m' (l * Ideal.exp (m - m') + ∑ q, Ideal.exp (s q - m'))
      (fun d => a d * Ideal.exp (m - m') + ∑ q, Ideal.exp (s q - m') * v (n + q.val) d) := by
  obtain ⟨M, rfl, rfl, ha⟩ := hs
  obtain ⟨N, e⟩ := max_real univ s _ h M
  obtain rfl := hm.trans e
  refine ⟨N, rfl, ?_, fun d => ?_⟩
  · rw [sum_off s _ h N, EReal.coe_mul, EReal.coe_mul, carry, ← EReal.coe_add, ← EReal.coe_mul, Finset.sum_range_add,
      Finset.sum_range (fun x => w (n + x))]
  · beta_reduce
    rw [ha d, dot_off s _ (fun q => v (n + q.val) d) h N, carry, Finset.sum_range_add,
      Finset.sum_range (fun x => (w (n + x) : EReal) * v (n + x) d)]

/-- The quotient of the running sums is the weighted mean. -/
theorem sums_mean (w : ℕ → ℝ) (v : ℕ → Fin 64 → EReal) (n k : ℕ) (hn : n ≤ k) (hz : ∀ c, n ≤ c → w c = 0)
    (hw : 0 < ∑ c ∈ range k, w c) (m l : EReal) (a : Fin 64 → EReal) (hs : Sums w v n m l a) (d : Fin 64) :
    Ideal.div (a d) l = (∑ c ∈ range k, (w c : EReal) * v c d) * (((∑ c ∈ range k, w c)⁻¹ : ℝ) : EReal) := by
  obtain ⟨M, -, rfl, ha⟩ := hs
  have e1 : ∑ c ∈ range n, w c = ∑ c ∈ range k, w c :=
    Finset.sum_subset (Finset.range_mono hn) fun c _ hc => hz c (by simpa using hc)
  have e2 : ∑ c ∈ range n, (w c : EReal) * v c d = ∑ c ∈ range k, (w c : EReal) * v c d :=
    Finset.sum_subset (Finset.range_mono hn) fun c _ hc => by rw [hz c (by simpa using hc), EReal.coe_zero, zero_mul]
  rw [ha d, e1, e2, div_scaled _ _ _ hw]

/-! ## One head -/

variable (Q K W : Fin 2048 → Fin 64 → EReal)

/-- The score of a query and a column. -/
def sc (r : Fin 2048) (c : ℕ) : ℝ := (∑ d, (Q r d).toReal * (K (Fin.ofNat 2048 c) d).toReal) / 8

/-- The weight of a column for a query: none after the query's own place. -/
def wt (r : Fin 2048) (c : ℕ) : ℝ := if c ≤ r.val then Real.exp (sc Q K r c) else 0

/-- A coordinate of a column's value. -/
def vl (c : ℕ) (d : Fin 64) : EReal := W (Fin.ofNat 2048 c) d

/-- Causal attention: the mean of the values under the weights. -/
def mean (r : Fin 2048) (d : Fin 64) : EReal :=
  (∑ c ∈ range 2048, (wt Q K r c : EReal) * vl W c d) * (((∑ c ∈ range 2048, wt Q K r c)⁻¹ : ℝ) : EReal)

/-- A column by its place. -/
theorem of_place (c : Fin 2048) : Fin.ofNat 2048 c.val = c := Fin.ext (Nat.mod_eq_of_lt c.isLt)

/-- A real number is its own reading. -/
theorem real_self {x : EReal} (h : Cert.Rows.Real' x) : x = (x.toReal : EReal) := by
  obtain ⟨r, rfl⟩ := h
  rfl

/-- The product of a query and a key is eight times their score. -/
theorem dot_real (hQ : ∀ r d, Cert.Rows.Real' (Q r d)) (hK : ∀ r d, Cert.Rows.Real' (K r d)) (r c : Fin 2048) :
    ∑ d, Q r d * K c d = ((8 * sc Q K r c.val : ℝ) : EReal) := by
  unfold sc
  rw [of_place, mul_div_cancel₀ _ (by norm_num : (8 : ℝ) ≠ 0), coe_total]
  refine Finset.sum_congr rfl fun d _ => ?_
  rw [EReal.coe_mul, ← real_self (hQ r d), ← real_self (hK c d)]

/-- The word of an eighth. -/
theorem ofBits_eighth : Ideal.ofBits .f32 1040187392#32 = ((1 / 8 : ℝ) : EReal) := by
  simp [Ideal.ofBits, Ideal.ieee]
  rw [← EReal.coe_mul]
  norm_num

/-- The word of eight. -/
theorem ofBits_eight : Ideal.ofBits .f32 1090519040#32 = ((8 : ℝ) : EReal) := by
  simp [Ideal.ofBits, Ideal.ieee]
  rw [← EReal.coe_mul]
  norm_num

/-- A masked score weighs what the column weighs. -/
theorem weighs (r c : Fin 2048) : Weighs (if c.val ≤ r.val then ((sc Q K r c.val : ℝ) : EReal) else ⊥) (wt Q K r c.val) := by
  unfold wt
  by_cases h : c.val ≤ r.val
  · rw [if_pos h, if_pos h]
    exact Or.inl ⟨_, rfl, rfl⟩
  · rw [if_neg h, if_neg h]
    exact Or.inr ⟨rfl, rfl⟩

/-- The weights of a query have a positive sum. -/
theorem wt_pos (r : Fin 2048) : 0 < ∑ c ∈ range 2048, wt Q K r c := by
  refine Finset.sum_pos' (fun c _ => ?_) ⟨0, Finset.mem_range.mpr (by norm_num), ?_⟩
  · unfold wt
    split
    · exact (Real.exp_pos _).le
    · exact le_rfl
  · unfold wt
    rw [if_pos (Nat.zero_le _)]
    exact Real.exp_pos _

/-! ## Places as words -/

/-- The place of a lane of a block. -/
theorem place_word (a i : ℕ) :
    IntOp.addi (BitVec.ofNat 32 a) (Scalar.muli (BitVec.ofNat 32 i) 512#32) = BitVec.ofNat 32 (i * 512 + a) := by
  show BitVec.ofNat 32 a + BitVec.ofNat 32 i * BitVec.ofNat 32 512 = _
  rw [← BitVec.ofNat_mul, ← BitVec.ofNat_add, Nat.add_comm]

/-- Places compare as numbers. -/
theorem place_le (a b : ℕ) (ha : a < 2048) (hb : b < 2048) :
    IntOp.cmpi .sge (BitVec.ofNat 32 a) (BitVec.ofNat 32 b) = if b ≤ a then 1#1 else 0#1 := by
  have e : ∀ n : ℕ, n < 2048 → (BitVec.ofNat 32 n).toInt = n := fun n hn => by
    rw [BitVec.toInt_eq_toNat_of_lt] <;> rw [BitVec.toNat_ofNat] <;> omega
  have s : IntOp.cmpi .sge (BitVec.ofNat 32 a) (BitVec.ofNat 32 b) = BitVec.ofBool (decide ((BitVec.ofNat 32 b).toInt ≤ (BitVec.ofNat 32 a).toInt)) := rfl
  rw [s, e a ha, e b hb]
  by_cases h : b ≤ a
  · rw [if_pos h, decide_eq_true (by exact_mod_cast h)]
    rfl
  · rw [if_neg h, decide_eq_false (by exact_mod_cast h)]
    rfl

end Cert.Soft
end
-- ==== Proof.Att.Arrays.lean ====
module
public import proofs.«01_k».proof.Proof.Att.Frame
public import proofs.«01_k».proof.Proof.Att.Soft
public import Idealize.ShloMosaic.Lib.Pointwise
public import Idealize.ShloMosaic.Lib.Pipeline.ValueKit

/-!
What the attention call leaves in its result array, from the arguments: causal attention.
-/

@[expose] public section
set_option maxRecDepth 16384

noncomputable section
namespace Cert.Kernel4Ideal.Att
open Idealize.ShloMosaic Idealize.ShloMosaic.TcCoe Cert.Kernel4Ideal Cert.Kernel4Ideal.Gen Cert.Soft
open Idealize.SL Idealize.SL.Sem Idealize.SL.ProofMode
open Idealize.ShloMosaic.Pipeline (Dat)

section
variable (i : grid0.Coords) (x0 x1 x2 : Vec Ideal S1x512x64 .bf16) (xm xl : Vec Ideal S512x1 .f32) (xa : Vec Ideal S512x64 .f32)

/-- The scores of a block: masked after the query's own place. -/
theorem pay1_at (r q : Fin 512) : k0_pay1 (F := Ideal) i x0 x1 (ix2 r q) =
    if (i 2).val * 512 + q.val ≤ (i 1).val * 512 + r.val
      then (∑ x, x0 (ix3 0 r x) * x1 (ix3 0 q x) : EReal) * Ideal.ofBits FTy.f32 1040187392#32 else ⊥ := by
  have b1 : (i 1).val < 4 := (i 1).isLt
  have b2 : (i 2).val < 4 := (i 2).isLt
  pointwise [k0_pay1]
  rw [place_word, place_word, place_le _ _ (by omega) (by omega)]
  split <;> rfl

/-- The greatest score of a row of a block. -/
theorem pay2_at (r : Fin 512) : k0_pay2 (F := Ideal) i x0 x1 (ix2 r 0) = Finset.univ.fold max ⊥ (fun q => k0_pay1 (F := Ideal) i x0 x1 (ix2 r q)) := by
  pointwise [k0_pay2]
  rw [Cert.Rows.ofBits_neg]

/-- The running sums of a row after the first block. -/
theorem first_at (w : ℕ → ℝ) (v : ℕ → Fin 64 → EReal) (r : Fin 512)
    (h : ∀ q : Fin 512, Weighs (k0_pay1 (F := Ideal) i x0 x1 (ix2 r q)) (w q.val)) (h0 : k0_pay1 (F := Ideal) i x0 x1 (ix2 r 0) ≠ (⊥ : EReal))
    (hv : ∀ (q : Fin 512) (d : Fin 64), x2 (ix3 0 q d) = v q.val d) :
    Sums w v 512 (k0_pay4 (F := Ideal) i x0 x1 (ix2 r 0)) (k0_pay5 (F := Ideal) i x0 x1 (ix2 r 0)) (fun d => k0_pay6 (F := Ideal) i x0 x1 x2 (ix2 r d)) := by
  have e3 : ∀ q : Fin 512, k0_pay3 (F := Ideal) i x0 x1 (ix2 r q) = Ideal.exp (k0_pay1 (F := Ideal) i x0 x1 (ix2 r q) - k0_pay4 (F := Ideal) i x0 x1 (ix2 r 0) : EReal) := fun q => by
    pointwise [k0_pay3, k0_pay4]
  have e5 : k0_pay5 (F := Ideal) i x0 x1 (ix2 r 0) = ∑ q, Ideal.exp (k0_pay1 (F := Ideal) i x0 x1 (ix2 r q) - k0_pay4 (F := Ideal) i x0 x1 (ix2 r 0) : EReal) := by
    refine Eq.trans ?_ (Finset.sum_congr rfl fun q _ => e3 q)
    pointwise [k0_pay5]
  have e6 : (fun d => k0_pay6 (F := Ideal) i x0 x1 x2 (ix2 r d)) = fun d => ∑ q : Fin 512, Ideal.exp (k0_pay1 (F := Ideal) i x0 x1 (ix2 r q) - k0_pay4 (F := Ideal) i x0 x1 (ix2 r 0) : EReal) * v q.val d := funext fun d => by
    refine Eq.trans ?_ (Finset.sum_congr rfl fun q _ => congrArg₂ (fun x y : EReal => x * y) (e3 q) (hv q d))
    pointwise [k0_pay6]
  rw [e5, e6]
  refine sums_first w v _ h h0 _ (Eq.trans ?_ (pay2_at i x0 x1 r))
  pointwise [k0_pay4]

/-- The running sums of a row after a later block. -/
theorem later_at (w : ℕ → ℝ) (v : ℕ → Fin 64 → EReal) (n : ℕ) (r : Fin 512)
    (h : ∀ q : Fin 512, Weighs (k0_pay1 (F := Ideal) i x0 x1 (ix2 r q)) (w (n + q.val)))
    (hv : ∀ (q : Fin 512) (d : Fin 64), x2 (ix3 0 q d) = v (n + q.val) d)
    (hs : Sums w v n (xm (ix2 r 0)) (xl (ix2 r 0)) (fun d => xa (ix2 r d))) :
    Sums w v (n + 512) (k0_pay10 (F := Ideal) i x0 x1 xm (ix2 r 0)) (k0_pay11 (F := Ideal) i x0 x1 xm xl (ix2 r 0))
      (fun d => k0_pay12 (F := Ideal) i x0 x1 xm xa x2 (ix2 r d)) := by
  have e8 : k0_pay8 (F := Ideal) i x0 x1 xm (ix2 r 0) = Ideal.exp (xm (ix2 r 0) - k0_pay10 (F := Ideal) i x0 x1 xm (ix2 r 0) : EReal) := by
    pointwise [k0_pay8, k0_pay10]
  have e9 : ∀ q : Fin 512, k0_pay9 (F := Ideal) i x0 x1 xm (ix2 r q) = Ideal.exp (k0_pay1 (F := Ideal) i x0 x1 (ix2 r q) - k0_pay10 (F := Ideal) i x0 x1 xm (ix2 r 0) : EReal) := fun q => by
    pointwise [k0_pay9, k0_pay10]
  have e11 : k0_pay11 (F := Ideal) i x0 x1 xm xl (ix2 r 0) = xl (ix2 r 0) * Ideal.exp (xm (ix2 r 0) - k0_pay10 (F := Ideal) i x0 x1 xm (ix2 r 0) : EReal)
      + ∑ q, Ideal.exp (k0_pay1 (F := Ideal) i x0 x1 (ix2 r q) - k0_pay10 (F := Ideal) i x0 x1 xm (ix2 r 0) : EReal) := by
    refine Eq.trans ?_ (congrArg₂ (fun x y : EReal => x + y) (congrArg (fun x : EReal => xl (ix2 r 0) * x) e8) (Finset.sum_congr rfl fun q _ => e9 q))
    pointwise [k0_pay11]
  have e12 : (fun d => k0_pay12 (F := Ideal) i x0 x1 xm xa x2 (ix2 r d)) = fun d => xa (ix2 r d) * Ideal.exp (xm (ix2 r 0) - k0_pay10 (F := Ideal) i x0 x1 xm (ix2 r 0) : EReal)
      + ∑ q : Fin 512, Ideal.exp (k0_pay1 (F := Ideal) i x0 x1 (ix2 r q) - k0_pay10 (F := Ideal) i x0 x1 xm (ix2 r 0) : EReal) * v (n + q.val) d := funext fun d => by
    refine Eq.trans ?_ (congrArg₂ (fun x y : EReal => x + y) (congrArg (fun x : EReal => xa (ix2 r d) * x) e8)
      (Finset.sum_congr rfl fun q _ => congrArg₂ (fun x y : EReal => x * y) (e9 q) (hv q d)))
    pointwise [k0_pay12]
  rw [e11, e12]
  refine sums_later w v n _ h _ _ _ _ hs (Eq.trans ?_ (congrArg (fun x : EReal => max (xm (ix2 r 0)) x) (pay2_at i x0 x1 r)))
  pointwise [k0_pay10, k0_pay7]

/-- What a row stores. -/
theorem pay13_at (r : Fin 512) (d : Fin 64) : k0_pay13 (F := Ideal) xa xl (ix3 0 r d) = Ideal.div (xa (ix2 r d)) (xl (ix2 r 0)) := by
  pointwise [k0_pay13]

/-- A score of a block weighs what its column weighs. -/
theorem pay1_weighs (Q K : Fin 2048 → Fin 64 → EReal) (hQ : ∀ r d, Cert.Rows.Real' (Q r d)) (hK : ∀ r d, Cert.Rows.Real' (K r d))
    (r q : Fin 512) (R C : Fin 2048) (hR : R.val = (i 1).val * 512 + r.val) (hC : C.val = (i 2).val * 512 + q.val)
    (e0 : ∀ d, x0 (ix3 0 r d) = Q R d) (e1 : ∀ d, x1 (ix3 0 q d) = K C d) :
    k0_pay1 (F := Ideal) i x0 x1 (ix2 r q) = if C.val ≤ R.val then ((sc Q K R C.val : ℝ) : EReal) else ⊥ := by
  rw [pay1_at, ← hR, ← hC]
  have e : (∑ x, x0 (ix3 0 r x) * x1 (ix3 0 q x) : EReal) * Ideal.ofBits FTy.f32 1040187392#32 = ((sc Q K R C.val : ℝ) : EReal) := by
    have e' : (∑ x, x0 (ix3 0 r x) * x1 (ix3 0 q x) : EReal) = ((8 * sc Q K R C.val : ℝ) : EReal) :=
      (Finset.sum_congr rfl fun d _ => congrArg₂ (fun x y : EReal => x * y) (e0 d) (e1 d)).trans (dot_real Q K hQ hK R C)
    rw [e', ofBits_eighth, ← EReal.coe_mul]
    congr 1
    ring
  split
  · exact e
  · rfl
end

variable (m : (ℓ : Loc nD τ sig) → Buf (Elt Ideal) ℓ) (c : Dev nD)

/-- The windows of the arguments and of the result. -/
theorem idx_win : ∀ t : Fin cfg0.N, (cfg0.win 0).index t = ![t.val / 16, t.val / 4 % 4, 0] ∧ (cfg0.win 1).index t = ![t.val / 16, t.val % 4, 0]
    ∧ (cfg0.win 2).index t = ![t.val / 16, t.val % 4, 0] ∧ (cfg0.win 3).index t = ![t.val / 16, t.val / 4 % 4, 0] :=
  (by decide +kernel : ∀ t : Fin grid0.N, _)

/-- A point's head is a head. -/
theorem lt_head (t : Fin cfg0.N) : t.val / 16 < 12 := by
  have := t.isLt; have : cfg0.N = 192 := N_0; omega
/-- A row of a point's block of queries is a place. -/
theorem lt_row (t : Fin cfg0.N) (r : Fin 512) : t.val / 4 % 4 * 512 + r.val < 2048 := by omega
/-- A row of a point's block of keys is a place. -/
theorem lt_col (t : Fin cfg0.N) (q : Fin 512) : t.val % 4 * 512 + q.val < 2048 := by omega

/-- The queries' block, -/
theorem blk_0 (t : Fin cfg0.N) (r : Fin 512) (d : Fin 64) : iblk m c 0 t (ix3 0 r d) = V m c main_arg0 (ix3 ⟨_, lt_head t⟩ ⟨_, lt_row t r⟩ d) := by
  blk_ext [iblk, idx_win t]
/-- the keys' -/
theorem blk_1 (t : Fin cfg0.N) (q : Fin 512) (d : Fin 64) : iblk m c 1 t (ix3 0 q d) = V m c main_arg1 (ix3 ⟨_, lt_head t⟩ ⟨_, lt_col t q⟩ d) := by
  blk_ext [iblk, idx_win t]
/-- and the values'. -/
theorem blk_2 (t : Fin cfg0.N) (q : Fin 512) (d : Fin 64) : iblk m c 2 t (ix3 0 q d) = V m c main_arg2 (ix3 ⟨_, lt_head t⟩ ⟨_, lt_col t q⟩ d) := by
  blk_ext [iblk, idx_win t]

/-- One head of an array. -/
abbrev headOf (X : FVec Ideal S12x2048x64 .bf16) (h : Fin 12) : Fin 2048 → Fin 64 → EReal := fun r d => X (ix3 h r d)

/-- Causal attention as one array. -/
def attend (Q K W : FVec Ideal S12x2048x64 .bf16) : FVec Ideal S12x2048x64 .bf16 := fun y =>
  let h : Fin 12 := y 0
  let r : Fin 2048 := y 1
  let d : Fin 64 := y 2
  (mean (headOf Q h) (headOf K h) (headOf W h) r d : EReal)

/-- An array of real numbers. -/
def RealArr (X : FVec Ideal S12x2048x64 .bf16) : Prop := ∀ (h : Fin 12) (r : Fin 2048) (d : Fin 64), Cert.Rows.Real' (X (ix3 h r d))

variable (hQ : RealArr (V m c main_arg0)) (hK : RealArr (V m c main_arg1))
include hQ hK

/-- The queries of a point's head, -/
abbrev qs (t : Fin cfg0.N) := headOf (V m c main_arg0) ⟨_, lt_head t⟩
/-- its keys -/
abbrev ks (t : Fin cfg0.N) := headOf (V m c main_arg1) ⟨_, lt_head t⟩
/-- and its values. -/
abbrev vs (t : Fin cfg0.N) := headOf (V m c main_arg2) ⟨_, lt_head t⟩

/-- The scores of a point's row. -/
theorem score_at (t : Fin cfg0.N) (r q : Fin 512) :
    k0_pay1 (F := Ideal) (grid0.coords t) (iblk m c 0 t) (iblk m c 1 t) (ix2 r q) =
      if t.val % 4 * 512 + q.val ≤ t.val / 4 % 4 * 512 + r.val
        then ((sc (qs m c t) (ks m c t) ⟨_, lt_row t r⟩ (t.val % 4 * 512 + q.val) : ℝ) : EReal) else ⊥ :=
  pay1_weighs (grid0.coords t) _ _ (qs m c t) (ks m c t) (hQ _) (hK _) r q ⟨_, lt_row t r⟩ ⟨_, lt_col t q⟩
    (by rw [coord1 t]) (by rw [coord2 t, Nat.div_one]) (fun d => blk_0 m c t r d) (fun d => blk_1 m c t q d)

/-- A value of a point's block. -/
theorem value_at (t : Fin cfg0.N) (q : Fin 512) (d : Fin 64) :
    iblk m c 2 t (ix3 0 q d) = vl (vs m c t) (t.val % 4 * 512 + q.val) d := by
  refine (blk_2 m c t q d).trans ?_
  unfold vl
  rw [of_place ⟨_, lt_col t q⟩]

/-- The scores of a point's row weigh what their columns weigh. -/
theorem score_weighs (t : Fin cfg0.N) (r q : Fin 512) :
    Weighs (k0_pay1 (F := Ideal) (grid0.coords t) (iblk m c 0 t) (iblk m c 1 t) (ix2 r q))
      (wt (qs m c t) (ks m c t) ⟨_, lt_row t r⟩ (t.val % 4 * 512 + q.val)) := by
  rw [score_at m c hQ hK t r q]
  exact weighs (qs m c t) (ks m c t) ⟨_, lt_row t r⟩ ⟨_, lt_col t q⟩

/-- The running sums of a row after the first point of its row of points. -/
theorem sums_start (t : Fin cfg0.N) (h0 : t.val % 4 = 0) (r : Fin 512) :
    Sums (wt (qs m c t) (ks m c t) ⟨_, lt_row t r⟩) (vl (vs m c t)) 512
      ((SC m c (t.val + 1)).1 (ix2 r 0)) ((SC m c (t.val + 1)).2.1 (ix2 r 0)) (fun d => (SC m c (t.val + 1)).2.2 (ix2 r d)) := by
  rw [SC_succ]
  unfold step
  rw [if_pos ((hc1 t).mpr (by omega)), if_pos ((hfirst t).mpr h0)]
  dsimp only
  refine first_at (grid0.coords t) (iblk m c 0 t) (iblk m c 1 t) (iblk m c 2 t) (wt (qs m c t) (ks m c t) ⟨_, lt_row t r⟩) (vl (vs m c t)) r (fun q => ?_) ?_ fun q d => ?_
  · have e := score_weighs m c hQ hK t r q
    rwa [h0, zero_mul, zero_add] at e
  · rw [score_at m c hQ hK t r 0, if_pos (by show t.val % 4 * 512 + 0 ≤ _; omega)]
    exact EReal.coe_ne_bot _
  · have e := value_at m c hQ hK t q d
    rwa [h0, zero_mul, zero_add] at e

/-- A later point on or before the diagonal carries the running sums of a row on. -/
theorem sums_go (t : Fin cfg0.N) (h0 : t.val % 4 ≠ 0) (hd : t.val % 4 ≤ t.val / 4 % 4) (r : Fin 512)
    (hs : Sums (wt (qs m c t) (ks m c t) ⟨_, lt_row t r⟩) (vl (vs m c t)) (t.val % 4 * 512)
      ((SC m c t.val).1 (ix2 r 0)) ((SC m c t.val).2.1 (ix2 r 0)) (fun d => (SC m c t.val).2.2 (ix2 r d))) :
    Sums (wt (qs m c t) (ks m c t) ⟨_, lt_row t r⟩) (vl (vs m c t)) (t.val % 4 * 512 + 512)
      ((SC m c (t.val + 1)).1 (ix2 r 0)) ((SC m c (t.val + 1)).2.1 (ix2 r 0)) (fun d => (SC m c (t.val + 1)).2.2 (ix2 r d)) := by
  rw [SC_succ]
  unfold step
  rw [if_pos ((hc1 t).mpr hd), if_neg (mt (hfirst t).mp h0)]
  exact later_at _ _ _ _ _ _ _ _ _ _ r (fun q => score_weighs m c hQ hK t r q) (fun q d => value_at m c hQ hK t q d) hs

/-- The running sums of a row after the first point of a row of points, by the point's number. -/
theorem row_start (n : ℕ) (hn : n < cfg0.N) (h0 : n % 4 = 0) (r : Fin 512) (h : Fin 12) (hh : h.val = n / 16)
    (R : Fin 2048) (hR : R.val = n / 4 % 4 * 512 + r.val) :
    Sums (wt (headOf (V m c main_arg0) h) (headOf (V m c main_arg1) h) R) (vl (headOf (V m c main_arg2) h)) (n % 4 * 512 + 512)
      ((SC m c (n + 1)).1 (ix2 r 0)) ((SC m c (n + 1)).2.1 (ix2 r 0)) (fun d => (SC m c (n + 1)).2.2 (ix2 r d)) := by
  obtain rfl : h = ⟨_, lt_head ⟨n, hn⟩⟩ := Fin.ext hh
  obtain rfl : R = ⟨_, lt_row ⟨n, hn⟩ r⟩ := Fin.ext hR
  rw [h0, zero_mul, zero_add]
  exact sums_start m c hQ hK ⟨n, hn⟩ h0 r

/-- The running sums of a row after a point on or before the diagonal. -/
theorem row_sums (n : ℕ) (hn : n < cfg0.N) (hd : n % 4 ≤ n / 4 % 4) (r : Fin 512) (h : Fin 12) (hh : h.val = n / 16)
    (R : Fin 2048) (hR : R.val = n / 4 % 4 * 512 + r.val) :
    Sums (wt (headOf (V m c main_arg0) h) (headOf (V m c main_arg1) h) R) (vl (headOf (V m c main_arg2) h)) (n % 4 * 512 + 512)
      ((SC m c (n + 1)).1 (ix2 r 0)) ((SC m c (n + 1)).2.1 (ix2 r 0)) (fun d => (SC m c (n + 1)).2.2 (ix2 r d)) := by
  induction n with
  | zero => exact row_start m c hQ hK 0 hn (Nat.zero_mod 4) r h hh R hR
  | succ n ih =>
    by_cases h0 : (n + 1) % 4 = 0
    · exact row_start m c hQ hK (n + 1) hn h0 r h hh R hR
    · have e := ih (by omega) (by omega) (by omega) (by omega)
      rw [show n % 4 * 512 + 512 = (n + 1) % 4 * 512 by omega] at e
      obtain rfl : h = ⟨_, lt_head ⟨n + 1, hn⟩⟩ := Fin.ext hh
      obtain rfl : R = ⟨_, lt_row ⟨n + 1, hn⟩ r⟩ := Fin.ext hR
      exact sums_go m c hQ hK ⟨n + 1, hn⟩ h0 hd r e

/-- The result's array. -/
theorem arr_3 : (dats m 0 c).arrAt 3 cfg0.N = attend (V m c main_arg0) (V m c main_arg1) (V m c main_arg2) := by
  refine (dats m 0 c).arrAt_eq_of_covers 3 _ (by decide +kernel) fun t _ y => ?_
  have hy : ((cfg0.win 3).blk t).view.emb y = (ix3 ⟨_, lt_head t⟩ ⟨_, lt_row t (y 1)⟩ (y 2) : S12x2048x64.Idx) := by
    blk_ext [idx_win t]
  rw [hy]
  blk_simp
  rw [after_3]
  have ey : y = (ix3 0 (y 1) (y 2) : S1x512x64.Idx) := (eq_ix3 y).trans (congrArg (fun a : Fin 1 => (ix3 a (y 1) (y 2) : S1x512x64.Idx)) (Subsingleton.elim (α := Fin 1) (y 0) (0 : Fin 1)))
  refine (congrArg _ ey).trans ?_
  unfold OUT
  refine (pay13_at _ _ _ _).trans ?_
  have hN : cfg0.N = 192 := N_0
  have ht : t.val < 192 := lt_of_lt_of_eq t.isLt hN
  have q1 : (4 * (t.val / 4) + t.val / 4 % 4) / 4 = t.val / 4 := by omega
  have q2 : (4 * (t.val / 4) + t.val / 4 % 4) % 4 = t.val / 4 % 4 := by omega
  have q3 : (4 * (t.val / 4) + t.val / 4 % 4) / 16 = t.val / 16 := by omega
  have e := row_sums m c hQ hK (4 * (t.val / 4) + t.val / 4 % 4) (by rw [hN]; omega) (by rw [q1, q2]) (y 1) ⟨_, lt_head t⟩
    q3.symm ⟨_, lt_row t (y 1)⟩ (by rw [q1])
  rw [q2] at e
  refine sums_mean _ _ _ 2048 (by omega) (fun k hk => ?_) (wt_pos _ _ _) _ _ _ e (y 2)
  unfold wt
  exact if_neg (by have : (y 1 : Fin 512).val < 512 := (y 1 : Fin 512).isLt; show ¬ k ≤ t.val / 4 % 4 * 512 + (y 1 : Fin 512).val; omega)

omit hQ hK in
/-- Every fair run ends with the result's array at what its blocks make, and the arguments as launched. -/
theorem run_result (ρ : Dev nD → PrngReg) : θ_run defs (onTc (τ := τ) (main (F := Ideal))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 3, ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2))⟩) (run_main m ρ)

end Cert.Kernel4Ideal.Att
end
-- ==== Proof.Att.Refer.lean ====
module
public import proofs.«01_k».proof.Proof.Gen.Reference4Ideal.Read
public import proofs.«01_k».proof.Proof.Att.Soft
public import Idealize.ShloMosaic.Lib.Pointwise

/-!
What the reference for attention computes, entry by entry: with real queries and keys, causal attention.
-/

@[expose] public section
set_option maxRecDepth 16384

noncomputable section
namespace Cert.Reference4Ideal.Att
open Idealize.ShloMosaic Cert.Reference4Ideal Cert.Reference4Ideal.Gen Cert.Reference4Ideal.Read Cert.Soft

variable (y0 y1 y2 : FVec Ideal S12x2048x64 .bf16)

/-- The scaled scores. -/
theorem v6_at (h : Fin 12) (r q : Fin 2048) : (show FVec Ideal S12x2048x2048 .f32 from val_main_v6 (F := Ideal) y0 y1) (ix3 h r q)
    = Ideal.div (∑ x : Fin 64, (y0 (ix3 h r x) * y1 (ix3 h q x) : EReal)) (Ideal.ofBits FTy.f32 1090519040#32) := by
  pointwise [val_main_v0, val_main_v1, val_main_v3, val_main_v4, val_main_v5, val_main_v6, val_main_cst]

/-- The mask: one on and before the query's own place. -/
theorem v8_at (r q : Fin 2048) : (show IVec S2048x2048 1 from val_main_v8 (F := Ideal)) (ix2 r q) = if q.val ≤ r.val then 1#1 else 0#1 := by
  have e : IntOp.addi (BitVec.ofNat 32 r.val) 0#32 = BitVec.ofNat 32 r.val := BitVec.add_zero _
  pointwise [val_main_v8, val_main_v7, val_main_c, val_main_call0_v0, val_main_call0_c, val_main_call0_v1, val_main_call0_v2, val_main_call0_v3,
    val_main_call0_v4, val_main_call0_c_0, val_main_call0_v5]
  rw [e, place_le _ _ r.isLt q.isLt]
  split <;> rfl

/-- The masked scores. -/
theorem v10_at (h : Fin 12) (r q : Fin 2048) : (show FVec Ideal S12x2048x2048 .f32 from val_main_v10 (F := Ideal) y0 y1) (ix3 h r q)
    = if q.val ≤ r.val then (Ideal.div (∑ x : Fin 64, (y0 (ix3 h r x) * y1 (ix3 h q x) : EReal)) (Ideal.ofBits FTy.f32 1090519040#32)) else (⊥ : EReal) := by
  have e : (show FVec Ideal S12x2048x2048 .f32 from val_main_v10 (F := Ideal) y0 y1) (ix3 h r q)
      = Scalar.select ((show IVec S2048x2048 1 from val_main_v8 (F := Ideal)) (ix2 r q))
        ((show FVec Ideal S12x2048x2048 .f32 from val_main_v6 (F := Ideal) y0 y1) (ix3 h r q)) (Ideal.ofBits FTy.f32 4286578688#32) := by
    pointwise [val_main_v10, val_main_v9, val_main_call1_v0, val_main_call1_v1, val_main_cst_0]
  rw [e, v8_at, v6_at, Cert.Rows.ofBits_neg]
  split <;> rfl

/-- The greatest entry along the last axis. -/
theorem top_at (y : FVec Ideal S12x2048x2048 .f32) (h : Fin 12) (r : Fin 2048) :
    Host.reduce (FloatOps.maximumf (F := Ideal) (φ := .f32)) y (val_main_cst_1 (F := Ideal)) reducesTo_S12x2048x2048_S12x2048_d2 h_S_ (ix2 h r)
      = Finset.univ.fold max (Ideal.ofBits FTy.f32 4286578688#32) (fun x => y (ix3 h r x)) := by
  pointwise [val_main_cst_1]

/-- The greater of minus infinity and an array. -/
theorem raised_at (w : FVec Ideal S12x2048 .f32) (h : Fin 12) (r : Fin 2048) :
    maximumf (val_main_v12 (F := Ideal)) w (ix2 h r) = max (Ideal.ofBits FTy.f32 4286578688#32) (w (ix2 h r)) := by
  pointwise [val_main_v12, val_main_cst_2]

/-- The greatest score of a row. -/
theorem v13_at (h : Fin 12) (r : Fin 2048) : (show FVec Ideal S12x2048 .f32 from val_main_v13 (F := Ideal) y0 y1) (ix2 h r)
    = Finset.univ.fold max ⊥ (fun q => (show FVec Ideal S12x2048x2048 .f32 from val_main_v10 (F := Ideal) y0 y1) (ix3 h r q)) := by
  unfold val_main_v13 val_main_v11
  generalize val_main_v10 (F := Ideal) y0 y1 = w
  refine (raised_at _ h r).trans ?_
  refine (congrArg (fun x : EReal => max (Ideal.ofBits FTy.f32 4286578688#32) x) (top_at w h r)).trans ?_
  rw [Cert.Rows.ofBits_neg]
  exact max_eq_right bot_le

/-- The exponentials. -/
theorem v17_at (h : Fin 12) (r q : Fin 2048) : (show FVec Ideal S12x2048x2048 .f32 from val_main_v17 (F := Ideal) y0 y1) (ix3 h r q)
    = Ideal.exp ((show FVec Ideal S12x2048x2048 .f32 from val_main_v10 (F := Ideal) y0 y1) (ix3 h r q)
        - (show FVec Ideal S12x2048 .f32 from val_main_v13 (F := Ideal) y0 y1) (ix2 h r) : EReal) := by
  rw [val_main_v17, val_main_v16, val_main_v15, val_main_v14]
  generalize val_main_v10 (F := Ideal) y0 y1 = w
  generalize val_main_v13 (F := Ideal) y0 y1 = z
  pointwise

/-- Their sum. -/
theorem v18_at (h : Fin 12) (r : Fin 2048) : (show FVec Ideal S12x2048 .f32 from val_main_v18 (F := Ideal) y0 y1) (ix2 h r)
    = ∑ q : Fin 2048, ((show FVec Ideal S12x2048x2048 .f32 from val_main_v17 (F := Ideal) y0 y1) (ix3 h r q) : EReal) := by
  rw [val_main_v18]
  generalize val_main_v17 (F := Ideal) y0 y1 = w
  pointwise [val_main_cst_3]

/-- The result. -/
theorem v23_at (h : Fin 12) (r : Fin 2048) (d : Fin 64) : (show FVec Ideal S12x2048x64 .bf16 from val_main_v23 (F := Ideal) y0 y1 y2) (ix3 h r d)
    = ∑ q : Fin 2048, (Ideal.div ((show FVec Ideal S12x2048x2048 .f32 from val_main_v17 (F := Ideal) y0 y1) (ix3 h r q))
        ((show FVec Ideal S12x2048 .f32 from val_main_v18 (F := Ideal) y0 y1) (ix2 h r)) * y2 (ix3 h q d) : EReal) := by
  rw [val_main_v23, val_main_v22, val_main_v21, val_main_v20, val_main_v19, val_main_v2]
  generalize val_main_v17 (F := Ideal) y0 y1 = w
  generalize val_main_v18 (F := Ideal) y0 y1 = z
  pointwise

/-- With real queries and keys the reference is causal attention. -/
theorem v23_mean (h0 : ∀ (h : Fin 12) (r : Fin 2048) (d : Fin 64), Cert.Rows.Real' (y0 (ix3 h r d)))
    (h1 : ∀ (h : Fin 12) (r : Fin 2048) (d : Fin 64), Cert.Rows.Real' (y1 (ix3 h r d)))
    (h : Fin 12) (r : Fin 2048) (d : Fin 64) :
    (show FVec Ideal S12x2048x64 .bf16 from val_main_v23 (F := Ideal) y0 y1 y2) (ix3 h r d)
      = mean (fun r d => y0 (ix3 h r d)) (fun r d => y1 (ix3 h r d)) (fun r d => y2 (ix3 h r d)) r d := by
  let Q : Fin 2048 → Fin 64 → EReal := fun r d => y0 (ix3 h r d)
  let K : Fin 2048 → Fin 64 → EReal := fun r d => y1 (ix3 h r d)
  let W : Fin 2048 → Fin 64 → EReal := fun r d => y2 (ix3 h r d)
  let s : Fin 2048 → EReal := fun q => if q.val ≤ r.val then ((sc Q K r q.val : ℝ) : EReal) else ⊥
  have hs : ∀ q, (show FVec Ideal S12x2048x2048 .f32 from val_main_v10 (F := Ideal) y0 y1) (ix3 h r q) = s q := fun q => by
    rw [v10_at]
    have e : (∑ x : Fin 64, (y0 (ix3 h r x) * y1 (ix3 h q x) : EReal)) = ((8 * sc Q K r q.val : ℝ) : EReal) := dot_real Q K (h0 h) (h1 h) r q
    rw [e, ofBits_eight, div_real _ _ (by norm_num), mul_div_cancel_left₀ _ (by norm_num : (8 : ℝ) ≠ 0)]
  have hw : ∀ q, Weighs (s q) (wt Q K r q.val) := fun q => weighs Q K r q
  obtain ⟨M, hM⟩ := top_real Finset.univ s (fun q => wt Q K r q.val) hw 0 (Finset.mem_univ _) (by
    show (if (0 : ℕ) ≤ r.val then ((sc Q K r 0 : ℝ) : EReal) else ⊥) ≠ ⊥
    rw [if_pos (Nat.zero_le _)]
    exact EReal.coe_ne_bot _)
  have h13 : (show FVec Ideal S12x2048 .f32 from val_main_v13 (F := Ideal) y0 y1) (ix2 h r) = (M : EReal) := by
    rw [v13_at, funext hs, hM]
  have h17 : ∀ q, (show FVec Ideal S12x2048x2048 .f32 from val_main_v17 (F := Ideal) y0 y1) (ix3 h r q) = Ideal.exp (s q - (M : EReal)) := fun q => by
    rw [v17_at, hs, h13]
  have h18 : (show FVec Ideal S12x2048 .f32 from val_main_v18 (F := Ideal) y0 y1) (ix2 h r) = ∑ q, Ideal.exp (s q - (M : EReal)) := by
    rw [v18_at]
    exact Finset.sum_congr rfl fun q _ => h17 q
  have hv : ∀ q : Fin 2048, y2 (ix3 h q d) = vl W q.val d := fun q => by
    unfold vl
    rw [of_place]
  have hp := wt_pos Q K r
  rw [Finset.sum_range] at hp
  rw [v23_at, h18]
  refine (Finset.sum_congr rfl fun q _ => congrArg₂ (fun x y : EReal => x * y) (congrArg (fun x : EReal => Ideal.div x _) (h17 q)) (hv q)).trans ?_
  refine (mean_whole s (fun q => wt Q K r q.val) (fun q => vl W q.val d) hw M hp).trans ?_
  unfold mean
  rw [Finset.sum_range, Finset.sum_range]

end Cert.Reference4Ideal.Att
end
-- ==== Proof.Att.Match.lean ====
module
public import proofs.«01_k».proof.Proof.Att.Arrays
public import proofs.«01_k».proof.Proof.Att.Refer
public import proofs.«01_k».proof.Proof.Gen.Pre_finite4
public import proofs.«01_k».proof.Proof.Post.Finite

/-!
The attention call's result is the reference's, of finite queries and keys.
-/

@[expose] public section
set_option maxRecDepth 16384

noncomputable section
namespace Cert.Finite4
open Idealize.ShloMosaic Cert.Pre_finite4 Cert.Rows

variable (y0 y1 y2 : FVec Ideal S12x2048x64 .bf16)

/-- The queries are real -/
theorem queries (hp : (fn y0 y1 y2).1 = fun _ => 1#1) (h : Fin 12) (t : Fin 2048) (d : Fin 64) : Real' (y0 (ix3 h t d)) := by
  have hp := congrFun hp (ix3 h t d)
  pointwise [fn] at hp
  exact Cert.Finite.real_of_abs _ hp
/-- and so are the keys. -/
theorem keys (hp : (fn y0 y1 y2).2 = fun _ => 1#1) (h : Fin 12) (t : Fin 2048) (d : Fin 64) : Real' (y1 (ix3 h t d)) := by
  have hp := congrFun hp (ix3 h t d)
  pointwise [fn] at hp
  exact Cert.Finite.real_of_abs _ hp

end Cert.Finite4

namespace Cert.Match4
open Idealize.ShloMosaic Cert.Rows
open Cert.Kernel4Ideal.Att (attend RealArr)

/-- The reference's array is causal attention. -/
theorem v23_eq (y0 y1 y2 : FVec Ideal Kernel4Ideal.S12x2048x64 .bf16) (h0 : RealArr y0) (h1 : RealArr y1) :
    Cert.Reference4Ideal.Read.val_main_v23 (F := Ideal) y0 y1 y2 = attend y0 y1 y2 := by
  funext y
  obtain ⟨h, t, d, rfl⟩ : ∃ (h : Fin 12) (t : Fin 2048) (d : Fin 64), y = ix3 h t d := ⟨y 0, y 1, y 2, eq_ix3 y⟩
  exact Cert.Reference4Ideal.Att.v23_mean y0 y1 y2 h0 h1 h t d

end Cert.Match4
end
-- ==== Proof.lean ====
/-
  The claims of the statement, proved: the kernel and its ideal form run and leave their arguments alone, so does the reference,
  and over extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Pre_finite3
public import proofs.«01_k».proof.Proof.Gen.Pre_finite
public import proofs.«01_k».proof.Proof.Gen.Pre_tables_fit
public import proofs.«01_k».proof.Proof.Gen.Pre_routing
public import proofs.«01_k».proof.Proof.Kernel.Frames
public import proofs.«01_k».proof.Proof.KernelIdeal.Frames
public import proofs.«01_k».proof.Proof.Routing
public import proofs.«01_k».proof.Proof.Value.Final
public import proofs.«01_k».proof.Proof.Post.Match
public import proofs.«01_k».proof.Proof.Qkv.Match
public import proofs.«01_k».proof.Proof.Att.KFrame
public import proofs.«01_k».proof.Proof.Att.Match
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- `Kernel` runs, leaves its arguments unchanged and every counter at zero. -/
theorem frame_Kernel : quiescent_Kernel := fun m g hp => by
  have hf : Cert.Table.Fits (m (((0 : Dev Cert.Kernel.nD).tc : Thread Cert.Kernel.nD Cert.Kernel.τ).loc Cert.Kernel.main_arg0)) :=
    Cert.Table.fits_of (F := Bits) _ _ _ _ _ _ _ _ _ _ _ _ _ _ _ (hp 0)
  exact (θ_run _ _ _).mono (fun r h => ⟨fun c => (h.1 c).2, h.2⟩) (Cert.Kernel.Run.run_main (F := Bits) m g (Cert.Kernel.Frames.words_ok m hf))

/-- `KernelIdeal` runs, leaves its arguments unchanged and every counter at zero. -/
theorem frame_KernelIdeal : quiescent_KernelIdeal := fun m g hp => by
  have hf : Cert.Table.Fits (m (((0 : Dev Cert.KernelIdeal.nD).tc : Thread Cert.KernelIdeal.nD Cert.KernelIdeal.τ).loc Cert.KernelIdeal.main_arg0)) :=
    Cert.Table.fits_of (F := Ideal) _ _ _ _ _ _ _ _ _ _ _ _ _ _ _ (hp 0)
  exact (θ_run _ _ _).mono (fun r h => ⟨fun c => (h.1 c).2, h.2⟩) (Cert.KernelIdeal.Run.run_main (F := Ideal) m g (Cert.KernelIdeal.Frames.words_ok m hf))

/-- The same of `KernelIdeal` where the routing is in order. -/
theorem frame_KernelIdeal_routing : quiescent_KernelIdeal_pre_routing := fun m g hp => by
  have hf : Cert.Table.Fits (m (((0 : Dev Cert.KernelIdeal.nD).tc : Thread Cert.KernelIdeal.nD Cert.KernelIdeal.τ).loc Cert.KernelIdeal.main_arg0)) :=
    Cert.Routing.fits_of_routing _ _ _ _ _ _ _ _ _ _ _ _ _ _ _ (hp 0).1
  exact (θ_run _ _ _).mono (fun r h => ⟨fun c => (h.1 c).2, h.2⟩) (Cert.KernelIdeal.Run.run_main (F := Ideal) m g (Cert.KernelIdeal.Frames.words_ok m hf))

/-- The reference runs, leaves its arguments unchanged and every counter at zero. -/
theorem frame_ReferenceIdeal : quiescent_ReferenceIdeal := fun m g _ =>
  (θ_run _ _ _).mono (fun r h => ⟨fun c => (h c).2, sem_eq_zero_of_no_sems rfl r.2⟩) (Cert.ReferenceIdeal.Value.run (F := Ideal) m g)

/-- The same where the routing is in order. -/
theorem frame_ReferenceIdeal_routing : quiescent_ReferenceIdeal_pre_routing := fun m g _ => frame_ReferenceIdeal m g trivial

/-- Over extended reals the kernel's result is the reference's, where the routing is in order. -/
theorem algebraic : algebraic_KernelIdeal_ReferenceIdeal_pre_routing := fun m g m' g' hp he => by
  have hf : Cert.Table.Fits (m (((0 : Dev Cert.KernelIdeal.nD).tc : Thread Cert.KernelIdeal.nD Cert.KernelIdeal.τ).loc Cert.KernelIdeal.main_arg0)) :=
    Cert.Routing.fits_of_routing _ _ _ _ _ _ _ _ _ _ _ _ _ _ _ (hp 0).1
  refine ⟨fun c => Cert.KernelIdeal.Run.W5 m c (Proc.devRef .tc Cert.KernelIdeal.main_v8), ?_, ?_⟩
  · exact (θ_run _ _ _).mono (fun r h => h.1) (Cert.KernelIdeal.Run.run_main (F := Ideal) m g (Cert.KernelIdeal.Frames.words_ok m hf))
  · refine (θ_run _ _ _).mono (fun r h c => ⟨(h c).1.trans ?_, (h c).2⟩) (Cert.ReferenceIdeal.Value.run (F := Ideal) m' g')
    obtain ⟨e0, e1, e2, e3, e4, e5, e6, e7, e8, e9, e10, e11, e12, e13, e14⟩ := he c
    obtain ⟨q0, q1, q2, q3, q4, q5, q6⟩ := hp c
    have hT := Cert.Routing.fits_of_routing _ _ _ _ _ _ _ _ _ _ _ _ _ _ _ q0
    refine (Cert.ReferenceIdeal.Read.val_main_v67_eq m' c).trans ?_
    refine (Cert.KernelIdeal.Final.result_eq m c _ _ _ _ _ _ _ _ _ _ _ _ _ _ _
      e0.symm e1.symm e2.symm e3.symm e4.symm e5.symm e6.symm e7.symm e8.symm e9.symm e10.symm e11.symm e12.symm e13.symm e14.symm ?_ ?_ ?_ ?_ ?_ ?_ ?_).symm
    · rw [e0]; exact hT
    · rw [e3]; exact Cert.Routing.whole1 _ _ _ _ _ _ _ _ _ _ _ _ _ _ _ q1
    · rw [e4]; exact Cert.Routing.whole2 _ _ _ _ _ _ _ _ _ _ _ _ _ _ _ q2
    · rw [e3]; exact Cert.Routing.inj1 _ _ _ _ _ _ _ _ _ _ _ _ _ _ _ q3
    · rw [e4]; exact Cert.Routing.inj2 _ _ _ _ _ _ _ _ _ _ _ _ _ _ _ q4
    · rw [e3, e4]; exact Cert.Routing.ne12 _ _ _ _ _ _ _ _ _ _ _ _ _ _ _ q5
    · rw [e0, e3, e4]; exact Cert.Routing.once _ _ _ _ _ _ _ _ _ _ _ _ _ _ _ hT q6

/-- The routing's program runs, leaves its arguments unchanged and every counter at zero, -/
theorem frame_Kernel2 : quiescent_Kernel2 := fun m g _ => Cert.Kernel2.Gen.frame m g

/-- so does its ideal form, -/
theorem frame_Kernel2Ideal : quiescent_Kernel2Ideal := fun m g _ => Cert.Kernel2Ideal.Gen.frame m g

/-- also of real arguments, -/
theorem frame_Kernel2Ideal_finite : quiescent_Kernel2Ideal_pre_finite := fun m g _ => Cert.Kernel2Ideal.Gen.frame m g

/-- and the reference of it, -/
theorem frame_Reference2Ideal : quiescent_Reference2Ideal := fun m g _ =>
  (θ_run _ _ _).mono (fun r h => ⟨fun c => (h c).2.2.2.2.2.2, sem_eq_zero_of_no_sems rfl r.2⟩) (Cert.Reference2Ideal.Value.run (F := Ideal) m g)

/-- also of real arguments. -/
theorem frame_Reference2Ideal_finite : quiescent_Reference2Ideal_pre_finite := fun m g _ => frame_Reference2Ideal m g trivial

/-- The mask is read as minus infinity. -/
theorem preserves2 : preserves_Kernel2_Kernel2Ideal :=
  IdealRules.named_const.statement Cert.Kernel2Ideal.κ "mask" .f32 0xF149F2CA#32 ⊥ rfl

/-- Over extended reals the routing's results are the reference's, of real arguments. -/
theorem algebraic2 : algebraic_Kernel2Ideal_Reference2Ideal_pre_finite := fun m g m' g' hp he => by
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 11 Cert.Kernel2Ideal.cfg0.N, fun c => (Cert.Kernel2Ideal.Gen.dats m 0 c).arrAt 12 Cert.Kernel2Ideal.cfg0.N,
    fun c => (Cert.Kernel2Ideal.Gen.dats m 0 c).arrAt 14 Cert.Kernel2Ideal.cfg0.N, fun c => (Cert.Kernel2Ideal.Gen.dats m 0 c).arrAt 15 Cert.Kernel2Ideal.cfg0.N, ?_, ?_⟩
  · refine (θ_run _ _ _).mono (fun r h c => ?_) (Cert.Kernel2Ideal.Value.run_blocks (F := Ideal) m g)
    obtain ⟨h7, h8, -, -, h11, h12, -, h14, h15, hk⟩ := h c
    exact ⟨h7, h8, h11, h12, h14, h15, hk⟩
  · refine (θ_run _ _ _).mono (fun r h c => ?_) (Cert.Reference2Ideal.Value.run (F := Ideal) m' g')
    obtain ⟨h7, h58, h59, h60, h61, h62, hk⟩ := h c
    obtain ⟨e0, e1, e2, e3, e4, e5, e6⟩ := he c
    obtain ⟨q0, q1, q2, q3, q4, q5, q6⟩ := hp c
    have hr : Cert.Rows.AllReal (Cert.Kernel2Ideal.Post.given m c) :=
      ⟨Cert.Finite.res _ _ _ _ _ _ _ q0, Cert.Finite.heads _ _ _ _ _ _ _ q1, Cert.Finite.proj _ _ _ _ _ _ _ q2, Cert.Finite.shift _ _ _ _ _ _ _ q3,
        Cert.Finite.scale _ _ _ _ _ _ _ q4, Cert.Finite.gate _ _ _ _ _ _ _ q5, Cert.Finite.bias _ _ _ _ _ _ _ q6⟩
    rw [Cert.Match.given_eq m c _ _ _ _ _ _ _ e0 e1 e2 e3 e4 e5 e6] at hr
    refine ⟨h7.trans ?_, h58.trans ?_, h59.trans ?_, h60.trans ?_, h61.trans ?_, h62.trans ?_, hk⟩
    · exact (Cert.Reference2Ideal.Read.val_main_v7_eq _ _ _ _).trans (Cert.Match.v7_eq m c _ _ _ _ _ _ _ e0 e1 e2 e3 e4 e5 e6)
    · exact (Cert.Reference2Ideal.Read.val_main_v58_eq _ _ _ _ _).trans (Cert.Match.v58_eq m c _ _ _ _ _ _ _ e0 e1 e2 e3 e4 e5 e6)
    · exact (Cert.Reference2Ideal.Read.val_main_v59_eq m' c).trans (Cert.Match.v59_eq m c _ _ _ _ _ _ _ e0 e1 e2 e3 e4 e5 e6 hr)
    · exact (Cert.Reference2Ideal.Read.val_main_v60_eq m' c).trans (Cert.Match.v60_eq m c _ _ _ _ _ _ _ e0 e1 e2 e3 e4 e5 e6 hr)
    · exact (Cert.Reference2Ideal.Read.val_main_v61_eq m' c).trans (Cert.Match.v61_eq m c _ _ _ _ _ _ _ e0 e1 e2 e3 e4 e5 e6 hr)
    · exact (Cert.Reference2Ideal.Read.val_main_v62_eq m' c).trans (Cert.Match.v62_eq m c _ _ _ _ _ _ _ e0 e1 e2 e3 e4 e5 e6 hr)

/-- The program of the queries, keys and values runs, leaves its arguments unchanged and every counter at zero, -/
theorem frame_Kernel3 : quiescent_Kernel3 := fun m g _ => Cert.Kernel3.Gen.frame m g

/-- so does its ideal form, -/
theorem frame_Kernel3Ideal : quiescent_Kernel3Ideal := fun m g _ => Cert.Kernel3Ideal.Gen.frame m g

/-- also of real arguments, -/
theorem frame_Kernel3Ideal_finite3 : quiescent_Kernel3Ideal_pre_finite3 := fun m g _ => Cert.Kernel3Ideal.Gen.frame m g

/-- and the reference of it, -/
theorem frame_Reference3Ideal : quiescent_Reference3Ideal := fun m g _ =>
  (θ_run _ _ _).mono (fun r h => ⟨fun c => (h c).2.2.2, sem_eq_zero_of_no_sems rfl r.2⟩) (Cert.Reference3Ideal.Value.run (F := Ideal) m g)

/-- also of real arguments. -/
theorem frame_Reference3Ideal_finite3 : quiescent_Reference3Ideal_pre_finite3 := fun m g _ => frame_Reference3Ideal m g trivial

/-- Over extended reals the queries, keys and values are the reference's, of real arguments. -/
theorem algebraic3 : algebraic_Kernel3Ideal_Reference3Ideal_pre_finite3 := fun m g m' g' hp he => by
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => Cert.Kernel3Ideal.Qkv.plain
      (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)), ?_, ?_⟩
  · refine (θ_run _ _ _).mono (fun r h c => ?_) (Cert.Kernel3Ideal.Value.run_blocks (F := Ideal) m g)
    obtain ⟨h0, h1, h2, hk⟩ := h c
    exact ⟨h0, h1, h2.trans (Cert.Kernel3Ideal.Qkv.arr_8 m c), hk⟩
  · refine (θ_run _ _ _).mono (fun r h c => ?_) (Cert.Reference3Ideal.Value.run (F := Ideal) m' g')
    obtain ⟨h62, h83, h86, hk⟩ := h c
    obtain ⟨e0, e1, e2, e3⟩ := he c
    obtain ⟨q0, q1, q2, q3⟩ := hp c
    have hr := Cert.Match3.AllReal3.mk (Cert.Finite3.tokens _ _ _ _ q0) (Cert.Finite3.scale _ _ _ _ q1) (Cert.Finite3.proj _ _ _ _ q2) (Cert.Finite3.shift _ _ _ _ q3)
    refine ⟨h62.trans ?_, h83.trans ?_, h86.trans ?_, hk⟩
    · refine (Cert.Reference3Ideal.Read.val_main_v62_eq m' c).trans ?_
      rw [e0, e1, e2, e3]
      exact (Cert.Match3.v62_eq _ _ _ _ hr).trans (Cert.Kernel3Ideal.Qkv.arr_6 m c).symm
    · refine (Cert.Reference3Ideal.Read.val_main_v83_eq m' c).trans ?_
      rw [e0, e1, e2, e3]
      exact (Cert.Match3.v83_eq _ _ _ _ hr).trans (Cert.Kernel3Ideal.Qkv.arr_7 m c).symm
    · refine (Cert.Reference3Ideal.Read.val_main_v86_eq _ _ _ _).trans ?_
      exact Cert.Match3.v86_of _ _ _ _ e0 e1 e2 e3

/-- The program of attention runs, leaves its arguments unchanged and every counter at zero, -/
theorem frame_Kernel4 : quiescent_Kernel4 := fun m g _ => Cert.Kernel4.Att.frame4 m g

/-- so does its ideal form, -/
theorem frame_Kernel4Ideal : quiescent_Kernel4Ideal := fun m g _ => Cert.Kernel4Ideal.Att.frame4 m g

/-- also of real queries and keys, -/
theorem frame_Kernel4Ideal_finite4 : quiescent_Kernel4Ideal_pre_finite4 := fun m g _ => Cert.Kernel4Ideal.Att.frame4 m g

/-- and the reference of it, -/
theorem frame_Reference4Ideal : quiescent_Reference4Ideal := fun m g _ =>
  (θ_run _ _ _).mono (fun r h => ⟨fun c => (h c).2, sem_eq_zero_of_no_sems rfl r.2⟩) (Cert.Reference4Ideal.Value.run (F := Ideal) m g)

/-- also of real queries and keys. -/
theorem frame_Reference4Ideal_finite4 : quiescent_Reference4Ideal_pre_finite4 := fun m g _ => frame_Reference4Ideal m g trivial

/-- The attention's mask stands for minus infinity. -/
theorem preserves4 : preserves_Kernel4_Kernel4Ideal :=
  IdealRules.named_const.statement Cert.Kernel4Ideal.κ "mask" .f32 0xF149F2CA#32 ⊥ rfl

/-- Over extended reals the attention's result is the reference's, of real queries and keys. -/
theorem algebraic4 : algebraic_Kernel4Ideal_Reference4Ideal_pre_finite4 := fun m g m' g' hp he => by
  refine ⟨fun c => (Cert.Kernel4Ideal.Att.dats m 0 c).arrAt 3 Cert.Kernel4Ideal.cfg0.N, Cert.Kernel4Ideal.Att.run_result m g, ?_⟩
  refine (θ_run _ _ _).mono (fun r h c => ?_) (Cert.Reference4Ideal.Value.run (F := Ideal) m' g')
  obtain ⟨h23, hk⟩ := h c
  obtain ⟨e0, e1, e2⟩ := he c
  obtain ⟨q0, q1⟩ := hp c
  have r0 := Cert.Finite4.queries _ _ _ q0
  have r1 := Cert.Finite4.keys _ _ _ q1
  refine ⟨h23.trans ?_, hk⟩
  refine (Cert.Reference4Ideal.Read.val_main_v23_eq m' c).trans ?_
  rw [e0, e1, e2]
  exact (Cert.Match4.v23_eq _ _ _ r0 r1).trans (Cert.Kernel4Ideal.Att.arr_3 m c r0 r1).symm

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_tables_fit.Gen.facts, Cert.Pre_routing.Gen.facts, Cert.Pre_finite.Gen.facts, Cert.Pre_finite3.Gen.facts, Cert.Pre_finite4.Gen.facts,
  frame_Kernel, frame_KernelIdeal, frame_KernelIdeal_routing, frame_ReferenceIdeal, frame_ReferenceIdeal_routing,
  frame_Kernel2, frame_Kernel2Ideal, frame_Kernel2Ideal_finite, frame_Reference2Ideal, frame_Reference2Ideal_finite,
  frame_Kernel3, frame_Kernel3Ideal, frame_Kernel3Ideal_finite3, frame_Reference3Ideal, frame_Reference3Ideal_finite3,
  frame_Kernel4, frame_Kernel4Ideal, frame_Kernel4Ideal_finite4, frame_Reference4Ideal, frame_Reference4Ideal_finite4,
  trivial, algebraic, preserves2, algebraic2, trivial, algebraic3, preserves4, algebraic4⟩

end Cert.Proof

end
